-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18)
      ∧ r.2.mem ((c.tc : Thread Cert.AdamRefIdeal.nD Cert.AdamRefIdeal.τ).loc Cert.AdamRefIdeal.main_arg19) = m ((c.tc : Thread Cert.AdamRefIdeal.nD Cert.AdamRefIdeal.τ).loc Cert.AdamRefIdeal.main_arg19))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10))
      ∧ r.2.sem = fun _ => 0)

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v14)) (v1 : (c : Dev Cert.FfnIdeal.nD) → Buf (Elt Ideal) ((c.tc : Thread Cert.FfnIdeal.nD Cert.FfnIdeal.τ).loc Cert.FfnIdeal.main_v15)) (v2 : (c : Dev Cert.FfnIdeal.nD) → Buf (Elt Ideal) ((c.tc : Thread Cert.FfnIdeal.nD Cert.FfnIdeal.τ).loc Cert.FfnIdeal.main_v16)) (v3 : (c : Dev Cert.FfnIdeal.nD) → Buf (Elt Ideal) ((c.tc : Thread Cert.FfnIdeal.nD Cert.FfnIdeal.τ).loc Cert.FfnIdeal.main_v17)) (v4 : (c : Dev Cert.FfnIdeal.nD) → Buf (Elt Ideal) ((c.tc : Thread Cert.FfnIdeal.nD Cert.FfnIdeal.τ).loc Cert.FfnIdeal.main_v18)) (v5 : (c : Dev Cert.FfnIdeal.nD) → Buf (Elt Ideal) ((c.tc : Thread Cert.FfnIdeal.nD Cert.FfnIdeal.τ).loc Cert.FfnIdeal.main_v19)) (v6 : (c : Dev Cert.FfnIdeal.nD) → Buf (Elt Ideal) ((c.tc : Thread Cert.FfnIdeal.nD Cert.FfnIdeal.τ).loc Cert.FfnIdeal.main_v12_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_v15) = v1 c
          ∧ r.2.mem ((c.tc : Thread Cert.FfnIdeal.nD Cert.FfnIdeal.τ).loc Cert.FfnIdeal.main_v16) = v2 c
          ∧ r.2.mem ((c.tc : Thread Cert.FfnIdeal.nD Cert.FfnIdeal.τ).loc Cert.FfnIdeal.main_v17) = v3 c
          ∧ r.2.mem ((c.tc : Thread Cert.FfnIdeal.nD Cert.FfnIdeal.τ).loc Cert.FfnIdeal.main_v18) = v4 c
          ∧ r.2.mem ((c.tc : Thread Cert.FfnIdeal.nD Cert.FfnIdeal.τ).loc Cert.FfnIdeal.main_v19) = v5 c
          ∧ r.2.mem ((c.tc : Thread Cert.FfnIdeal.nD Cert.FfnIdeal.τ).loc Cert.FfnIdeal.main_v12_2) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_v108) = v1 c
          ∧ r.2.mem ((c.tc : Thread Cert.FfnRefIdeal.nD Cert.FfnRefIdeal.τ).loc Cert.FfnRefIdeal.main_v92) = v2 c
          ∧ r.2.mem ((c.tc : Thread Cert.FfnRefIdeal.nD Cert.FfnRefIdeal.τ).loc Cert.FfnRefIdeal.main_v58) = v3 c
          ∧ r.2.mem ((c.tc : Thread Cert.FfnRefIdeal.nD Cert.FfnRefIdeal.τ).loc Cert.FfnRefIdeal.main_v84) = v4 c
          ∧ r.2.mem ((c.tc : Thread Cert.FfnRefIdeal.nD Cert.FfnRefIdeal.τ).loc Cert.FfnRefIdeal.main_v80) = v5 c
          ∧ r.2.mem ((c.tc : Thread Cert.FfnRefIdeal.nD Cert.FfnRefIdeal.τ).loc Cert.FfnRefIdeal.main_v75) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v25)) (v1 : (c : Dev Cert.ProjIdeal.nD) → Buf (Elt Ideal) ((c.tc : Thread Cert.ProjIdeal.nD Cert.ProjIdeal.τ).loc Cert.ProjIdeal.main_v26)) (v2 : (c : Dev Cert.ProjIdeal.nD) → Buf (Elt Ideal) ((c.tc : Thread Cert.ProjIdeal.nD Cert.ProjIdeal.τ).loc Cert.ProjIdeal.main_v27)) (v3 : (c : Dev Cert.ProjIdeal.nD) → Buf (Elt Ideal) ((c.tc : Thread Cert.ProjIdeal.nD Cert.ProjIdeal.τ).loc Cert.ProjIdeal.main_v28)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25) = v0 c
          ∧ r.2.mem ((c.tc : Thread Cert.ProjIdeal.nD Cert.ProjIdeal.τ).loc Cert.ProjIdeal.main_v26) = v1 c
          ∧ r.2.mem ((c.tc : Thread Cert.ProjIdeal.nD Cert.ProjIdeal.τ).loc Cert.ProjIdeal.main_v27) = v2 c
          ∧ r.2.mem ((c.tc : Thread Cert.ProjIdeal.nD Cert.ProjIdeal.τ).loc Cert.ProjIdeal.main_v28) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v41) = v1 c
          ∧ r.2.mem ((c.tc : Thread Cert.ProjRefIdeal.nD Cert.ProjRefIdeal.τ).loc Cert.ProjRefIdeal.main_v25) = v2 c
          ∧ r.2.mem ((c.tc : Thread Cert.ProjRefIdeal.nD Cert.ProjRefIdeal.τ).loc Cert.ProjRefIdeal.main_v18) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)
      ∧ m' ((c.tc : Thread Cert.AdamRefIdeal.nD Cert.AdamRefIdeal.τ).loc Cert.AdamRefIdeal.main_arg19) = m ((c.tc : Thread Cert.AdamIdeal.nD Cert.AdamIdeal.τ).loc Cert.AdamIdeal.main_arg19)) →
    ∃ (v0 : (c : Dev Cert.AdamIdeal.nD) → Buf (Elt Ideal) ((c.tc : Thread Cert.AdamIdeal.nD Cert.AdamIdeal.τ).loc Cert.AdamIdeal.main_v5)) (v1 : (c : Dev Cert.AdamIdeal.nD) → Buf (Elt Ideal) ((c.tc : Thread Cert.AdamIdeal.nD Cert.AdamIdeal.τ).loc Cert.AdamIdeal.main_v6)) (v2 : (c : Dev Cert.AdamIdeal.nD) → Buf (Elt Ideal) ((c.tc : Thread Cert.AdamIdeal.nD Cert.AdamIdeal.τ).loc Cert.AdamIdeal.main_v7)) (v3 : (c : Dev Cert.AdamIdeal.nD) → Buf (Elt Ideal) ((c.tc : Thread Cert.AdamIdeal.nD Cert.AdamIdeal.τ).loc Cert.AdamIdeal.main_v8_1)) (v4 : (c : Dev Cert.AdamIdeal.nD) → Buf (Elt Ideal) ((c.tc : Thread Cert.AdamIdeal.nD Cert.AdamIdeal.τ).loc Cert.AdamIdeal.main_v8_2)) (v5 : (c : Dev Cert.AdamIdeal.nD) → Buf (Elt Ideal) ((c.tc : Thread Cert.AdamIdeal.nD Cert.AdamIdeal.τ).loc Cert.AdamIdeal.main_v8_3)) (v6 : (c : Dev Cert.AdamIdeal.nD) → Buf (Elt Ideal) ((c.tc : Thread Cert.AdamIdeal.nD Cert.AdamIdeal.τ).loc Cert.AdamIdeal.main_v14)) (v7 : (c : Dev Cert.AdamIdeal.nD) → Buf (Elt Ideal) ((c.tc : Thread Cert.AdamIdeal.nD Cert.AdamIdeal.τ).loc Cert.AdamIdeal.main_v15)) (v8 : (c : Dev Cert.AdamIdeal.nD) → Buf (Elt Ideal) ((c.tc : Thread Cert.AdamIdeal.nD Cert.AdamIdeal.τ).loc Cert.AdamIdeal.main_v16)) (v9 : (c : Dev Cert.AdamIdeal.nD) → Buf (Elt Ideal) ((c.tc : Thread Cert.AdamIdeal.nD Cert.AdamIdeal.τ).loc Cert.AdamIdeal.main_v22)) (v10 : (c : Dev Cert.AdamIdeal.nD) → Buf (Elt Ideal) ((c.tc : Thread Cert.AdamIdeal.nD Cert.AdamIdeal.τ).loc Cert.AdamIdeal.main_v23)) (v11 : (c : Dev Cert.AdamIdeal.nD) → Buf (Elt Ideal) ((c.tc : Thread Cert.AdamIdeal.nD Cert.AdamIdeal.τ).loc Cert.AdamIdeal.main_v24)) (v12 : (c : Dev Cert.AdamIdeal.nD) → Buf (Elt Ideal) ((c.tc : Thread Cert.AdamIdeal.nD Cert.AdamIdeal.τ).loc Cert.AdamIdeal.main_v25_1)) (v13 : (c : Dev Cert.AdamIdeal.nD) → Buf (Elt Ideal) ((c.tc : Thread Cert.AdamIdeal.nD Cert.AdamIdeal.τ).loc Cert.AdamIdeal.main_v25_2)) (v14 : (c : Dev Cert.AdamIdeal.nD) → Buf (Elt Ideal) ((c.tc : Thread Cert.AdamIdeal.nD Cert.AdamIdeal.τ).loc Cert.AdamIdeal.main_v25_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v5) = v0 c
          ∧ r.2.mem ((c.tc : Thread Cert.AdamIdeal.nD Cert.AdamIdeal.τ).loc Cert.AdamIdeal.main_v6) = v1 c
          ∧ r.2.mem ((c.tc : Thread Cert.AdamIdeal.nD Cert.AdamIdeal.τ).loc Cert.AdamIdeal.main_v7) = v2 c
          ∧ r.2.mem ((c.tc : Thread Cert.AdamIdeal.nD Cert.AdamIdeal.τ).loc Cert.AdamIdeal.main_v8_1) = v3 c
          ∧ r.2.mem ((c.tc : Thread Cert.AdamIdeal.nD Cert.AdamIdeal.τ).loc Cert.AdamIdeal.main_v8_2) = v4 c
          ∧ r.2.mem ((c.tc : Thread Cert.AdamIdeal.nD Cert.AdamIdeal.τ).loc Cert.AdamIdeal.main_v8_3) = v5 c
          ∧ r.2.mem ((c.tc : Thread Cert.AdamIdeal.nD Cert.AdamIdeal.τ).loc Cert.AdamIdeal.main_v14) = v6 c
          ∧ r.2.mem ((c.tc : Thread Cert.AdamIdeal.nD Cert.AdamIdeal.τ).loc Cert.AdamIdeal.main_v15) = v7 c
          ∧ r.2.mem ((c.tc : Thread Cert.AdamIdeal.nD Cert.AdamIdeal.τ).loc Cert.AdamIdeal.main_v16) = v8 c
          ∧ r.2.mem ((c.tc : Thread Cert.AdamIdeal.nD Cert.AdamIdeal.τ).loc Cert.AdamIdeal.main_v22) = v9 c
          ∧ r.2.mem ((c.tc : Thread Cert.AdamIdeal.nD Cert.AdamIdeal.τ).loc Cert.AdamIdeal.main_v23) = v10 c
          ∧ r.2.mem ((c.tc : Thread Cert.AdamIdeal.nD Cert.AdamIdeal.τ).loc Cert.AdamIdeal.main_v24) = v11 c
          ∧ r.2.mem ((c.tc : Thread Cert.AdamIdeal.nD Cert.AdamIdeal.τ).loc Cert.AdamIdeal.main_v25_1) = v12 c
          ∧ r.2.mem ((c.tc : Thread Cert.AdamIdeal.nD Cert.AdamIdeal.τ).loc Cert.AdamIdeal.main_v25_2) = v13 c
          ∧ r.2.mem ((c.tc : Thread Cert.AdamIdeal.nD Cert.AdamIdeal.τ).loc Cert.AdamIdeal.main_v25_3) = v14 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_v47) = v3 c
          ∧ r.2.mem ((c.tc : Thread Cert.AdamRefIdeal.nD Cert.AdamRefIdeal.τ).loc Cert.AdamRefIdeal.main_v28) = v4 c
          ∧ r.2.mem ((c.tc : Thread Cert.AdamRefIdeal.nD Cert.AdamRefIdeal.τ).loc Cert.AdamRefIdeal.main_v34) = v5 c
          ∧ r.2.mem ((c.tc : Thread Cert.AdamRefIdeal.nD Cert.AdamRefIdeal.τ).loc Cert.AdamRefIdeal.main_v71) = v6 c
          ∧ r.2.mem ((c.tc : Thread Cert.AdamRefIdeal.nD Cert.AdamRefIdeal.τ).loc Cert.AdamRefIdeal.main_v52) = v7 c
          ∧ r.2.mem ((c.tc : Thread Cert.AdamRefIdeal.nD Cert.AdamRefIdeal.τ).loc Cert.AdamRefIdeal.main_v58) = v8 c
          ∧ r.2.mem ((c.tc : Thread Cert.AdamRefIdeal.nD Cert.AdamRefIdeal.τ).loc Cert.AdamRefIdeal.main_v95) = v9 c
          ∧ r.2.mem ((c.tc : Thread Cert.AdamRefIdeal.nD Cert.AdamRefIdeal.τ).loc Cert.AdamRefIdeal.main_v76) = v10 c
          ∧ r.2.mem ((c.tc : Thread Cert.AdamRefIdeal.nD Cert.AdamRefIdeal.τ).loc Cert.AdamRefIdeal.main_v82) = v11 c
          ∧ r.2.mem ((c.tc : Thread Cert.AdamRefIdeal.nD Cert.AdamRefIdeal.τ).loc Cert.AdamRefIdeal.main_v119) = v12 c
          ∧ r.2.mem ((c.tc : Thread Cert.AdamRefIdeal.nD Cert.AdamRefIdeal.τ).loc Cert.AdamRefIdeal.main_v100) = v13 c
          ∧ r.2.mem ((c.tc : Thread Cert.AdamRefIdeal.nD Cert.AdamRefIdeal.τ).loc Cert.AdamRefIdeal.main_v106) = v14 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18)
          ∧ r.2.mem ((c.tc : Thread Cert.AdamRefIdeal.nD Cert.AdamRefIdeal.τ).loc Cert.AdamRefIdeal.main_arg19) = m' ((c.tc : Thread Cert.AdamRefIdeal.nD Cert.AdamRefIdeal.τ).loc Cert.AdamRefIdeal.main_arg19))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)) →
    ∃ (v0 : (c : Dev Cert.MixerIdeal.nD) → Buf (Elt Ideal) ((c.tc : Thread Cert.MixerIdeal.nD Cert.MixerIdeal.τ).loc Cert.MixerIdeal.main_v12_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v12_4) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v2) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hAdam : Cert.Adam.Facts) (hAdamIdeal : Cert.AdamIdeal.Facts) (hAdamRefIdeal : Cert.AdamRefIdeal.Facts) (hMixer : Cert.Mixer.Facts) (hMixerIdeal : Cert.MixerIdeal.Facts) (hMixerRefIdeal : Cert.MixerRefIdeal.Facts) (hPre_finite : Cert.Pre_finite.Facts),
    quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Adam (hAdam := hAdam)
    ∧ quiescent_AdamIdeal (hAdamIdeal := hAdamIdeal)
    ∧ quiescent_AdamRefIdeal (hAdamRefIdeal := hAdamRefIdeal)
    ∧ quiescent_Mixer (hMixer := hMixer)
    ∧ quiescent_MixerIdeal (hMixerIdeal := hMixerIdeal)
    ∧ quiescent_MixerRefIdeal (hMixerRefIdeal := hMixerRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Proj_ProjIdeal
    ∧ algebraic_ProjIdeal_ProjRefIdeal (hProjIdeal := hProjIdeal) (hProjRefIdeal := hProjRefIdeal)
    ∧ preserves_Adam_AdamIdeal
    ∧ algebraic_AdamIdeal_AdamRefIdeal (hAdamIdeal := hAdamIdeal) (hAdamRefIdeal := hAdamRefIdeal)
    ∧ preserves_Mixer_MixerIdeal
    ∧ algebraic_MixerIdeal_MixerRefIdeal (hMixerIdeal := hMixerIdeal) (hMixerRefIdeal := hMixerRefIdeal)
-- ==== Pre_finite.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S2816x1024 .f32) (main_v2 : IVec S1x8192x1024 1) (main_v5 : IVec S1x8192x1024 1) (main_v8 : IVec S1024 1) (main_v11 : IVec S1024 1) (main_v14 : IVec S1024x2816 1) (main_v17 : IVec S1024x2816 1) : IVec S1x8192x1024 1 × IVec S1x8192x1024 1 × IVec S1024 1 × IVec S1024 1 × IVec S1024x2816 1 × IVec S1024x2816 1 × IVec S2816x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  (main_v2, main_v5, main_v8, main_v11, main_v14, main_v17, main_v20)

def fn {F : FTy → Type} [FloatOps F] (main_arg0 : FVec F S1x8192x1024 .f32) (main_arg1 : FVec F S1x8192x1024 .f32) (main_arg2 : FVec F S1024 .f32) (main_arg3 : FVec F S1024 .f32) (main_arg4 : FVec F S1024x2816 .f32) (main_arg5 : FVec F S1024x2816 .f32) (main_arg6 : FVec F S2816x1024 .f32) : IVec S1x8192x1024 1 × IVec S1x8192x1024 1 × IVec S1024 1 × IVec S1024 1 × IVec S1024x2816 1 × IVec S1024x2816 1 × IVec S2816x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_v2 main_v5 main_v8 main_v11 main_v14 main_v17
-- ==== Ffn.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x1024 : Shape := ⟨2, ![8192, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S512x1024 : Shape := ⟨2, ![512, 1024]⟩
abbrev S512x1408 : Shape := ⟨2, ![512, 1408]⟩
abbrev S1408x1024 : Shape := ⟨2, ![1408, 1024]⟩
abbrev S1x1 : Shape := ⟨2, ![1, 1]⟩
abbrev S_ : Shape := ⟨0, ![]⟩

abbrev nBuf : Space → Nat
  | .hbm => 38
  | .vmem => 56
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x2816, .f32⟩
  | .hbm, ⟨18, _⟩ => ⟨S8192x2816, .f32⟩
  | .hbm, ⟨19, _⟩ => ⟨S8192x2816, .bf16⟩
  | .hbm, ⟨20, _⟩ => ⟨S8192x1024, .f32⟩
  | .hbm, ⟨21, _⟩ => ⟨S1x128, .f32⟩
  | .hbm, ⟨22, _⟩ => ⟨S1x1024, .f32⟩
  | .hbm, ⟨23, _⟩ => ⟨S8192x1024, .f32⟩
  | .hbm, ⟨24, _⟩ => ⟨S8192x2816, .bf16⟩
  | .hbm, ⟨25, _⟩ => ⟨S8192x2816, .bf16⟩
  | .hbm, ⟨26, _⟩ => ⟨S8192x1024, .f32⟩
  | .hbm, ⟨27, _⟩ => ⟨S1x1024, .f32⟩
  | .hbm, ⟨28, _⟩ => ⟨S2816x1024, .f32⟩
  | .hbm, ⟨29, _⟩ => ⟨S2816x1024, .f32⟩
  | .hbm, ⟨30, _⟩ => ⟨S2816x1024, .f32⟩
  | .hbm, ⟨31, _⟩ => ⟨S1x1, .f32⟩
  | .hbm, ⟨32, _⟩ => ⟨S_, .f32⟩
  | .hbm, ⟨33, _⟩ => ⟨S1x8192x1024, .f32⟩
  | .hbm, ⟨34, _⟩ => ⟨S1024, .f32⟩
  | .hbm, ⟨35, _⟩ => ⟨S1024, .f32⟩
  | .hbm, ⟨36, _⟩ => ⟨S1024x2816, .f32⟩
  | .hbm, ⟨37, _⟩ => ⟨S1024x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2816, .f32⟩
  | .local _ .vmem, ⟨12, _⟩ => ⟨S256x2816, .f32⟩
  | .local _ .vmem, ⟨13, _⟩ => ⟨S256x2816, .f32⟩
  | .local _ .vmem, ⟨14, _⟩ => ⟨S256x2816, .f32⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S1x128, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x2816, .f32⟩
  | .local _ .vmem, ⟨24, _⟩ => ⟨S256x2816, .f32⟩
  | .local _ .vmem, ⟨25, _⟩ => ⟨S256x2816, .f32⟩
  | .local _ .vmem, ⟨26, _⟩ => ⟨S256x2816, .f32⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S2816x1024, .bf16⟩
  | .local _ .vmem, ⟨31, _⟩ => ⟨S2816x1024, .bf16⟩
  | .local _ .vmem, ⟨32, _⟩ => ⟨S2816x1024, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x2816, .bf16⟩
  | .local _ .vmem, ⟨37, _⟩ => ⟨S256x1024, .f32⟩
  | .local _ .vmem, ⟨38, _⟩ => ⟨S256x1024, .f32⟩
  | .local _ .vmem, ⟨39, _⟩ => ⟨S1x1024, .f32⟩
  | .local _ .vmem, ⟨40, _⟩ => ⟨S512x1024, .bf16⟩
  | .local _ .vmem, ⟨41, _⟩ => ⟨S512x1024, .bf16⟩
  | .local _ .vmem, ⟨42, _⟩ => ⟨S512x1408, .bf16⟩
  | .local _ .vmem, ⟨43, _⟩ => ⟨S512x1408, .bf16⟩
  | .local _ .vmem, ⟨44, _⟩ => ⟨S512x1408, .bf16⟩
  | .local _ .vmem, ⟨45, _⟩ => ⟨S512x1408, .bf16⟩
  | .local _ .vmem, ⟨46, _⟩ => ⟨S512x1408, .bf16⟩
  | .local _ .vmem, ⟨47, _⟩ => ⟨S512x1408, .bf16⟩
  | .local _ .vmem, ⟨48, _⟩ => ⟨S512x1024, .f32⟩
  | .local _ .vmem, ⟨49, _⟩ => ⟨S512x1024, .f32⟩
  | .local _ .vmem, ⟨50, _⟩ => ⟨S1408x1024, .f32⟩
  | .local _ .vmem, ⟨51, _⟩ => ⟨S1408x1024, .f32⟩
  | .local _ .vmem, ⟨52, _⟩ => ⟨S1408x1024, .f32⟩
  | .local _ .vmem, ⟨53, _⟩ => ⟨S1408x1024, .f32⟩
  | .local _ .vmem, ⟨54, _⟩ => ⟨S1408x1024, .f32⟩
  | .local _ .vmem, ⟨55, _⟩ => ⟨S1408x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc2_stg3_0 : Ref sig .tc := ⟨.vmem, 46, rfl⟩
abbrev cc2_stg3_1 : Ref sig .tc := ⟨.vmem, 47, rfl⟩
abbrev cc2_stg4_0 : Ref sig .tc := ⟨.vmem, 48, rfl⟩
abbrev cc2_stg4_1 : Ref sig .tc := ⟨.vmem, 49, rfl⟩
abbrev cc2_stg5_0 : Ref sig .tc := ⟨.vmem, 50, rfl⟩
abbrev cc2_stg5_1 : Ref sig .tc := ⟨.vmem, 51, rfl⟩
abbrev cc2_stg6_0 : Ref sig .tc := ⟨.vmem, 52, rfl⟩
abbrev cc2_stg6_1 : Ref sig .tc := ⟨.vmem, 53, rfl⟩
abbrev cc2_stg7_0 : Ref sig .tc := ⟨.vmem, 54, rfl⟩
abbrev cc2_stg7_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc1_sem10_1 : DmaSem sig := 38
abbrev cc1_sem11_0 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc2_sem5_0 : DmaSem sig := 50
abbrev cc2_sem5_1 : DmaSem sig := 51
abbrev cc2_sem6_0 : DmaSem sig := 52
abbrev cc2_sem6_1 : DmaSem sig := 53
abbrev cc2_sem7_0 : DmaSem sig := 54
abbrev cc2_sem7_1 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1408x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1408x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1408x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]
-- ==== FfnRefIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S1x1024 : Shape := ⟨2, ![1, 1024]⟩
abbrev S8192 : Shape := ⟨1, ![8192]⟩

abbrev nBuf : Space → Nat
  | .hbm => 157
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1024, .f32⟩
  | 3 => ⟨S1024, .f32⟩
  | 4 => ⟨S1024x2816, .f32⟩
  | 5 => ⟨S1024x2816, .f32⟩
  | 6 => ⟨S2816x1024, .f32⟩
  | 7 => ⟨S1x8192x1024, .f32⟩
  | 8 => ⟨S_, .f32⟩
  | 9 => ⟨S1x8192, .f32⟩
  | 10 => ⟨S1x8192x1, .f32⟩
  | 11 => ⟨S_, .f32⟩
  | 12 => ⟨S1x8192x1, .f32⟩
  | 13 => ⟨S1x8192x1, .f32⟩
  | 14 => ⟨S_, .f32⟩
  | 15 => ⟨S1x8192x1, .f32⟩
  | 16 => ⟨S1x8192x1, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1024, .f32⟩
  | 23 => ⟨S1x8192x1024, .f32⟩
  | 24 => ⟨S1x1x1024, .f32⟩
  | 25 => ⟨S1x8192x1024, .f32⟩
  | 26 => ⟨S1x8192x1024, .f32⟩
  | 27 => ⟨S1x8192x2816, .f32⟩
  | 28 => ⟨S1x8192x2816, .f32⟩
  | 29 => ⟨S1x8192x2816, .f32⟩
  | 30 => ⟨S_, .f32⟩
  | 31 => ⟨S1x8192x2816, .f32⟩
  | 32 => ⟨S1x8192x2816, .f32⟩
  | 33 => ⟨S_, .f32⟩
  | 34 => ⟨S1x8192x2816, .f32⟩
  | 35 => ⟨S1x8192x2816, .f32⟩
  | 36 => ⟨S_, .f32⟩
  | 37 => ⟨S1x8192x2816, .f32⟩
  | 38 => ⟨S1x8192x2816, .f32⟩
  | 39 => ⟨S1x8192x2816, .f32⟩
  | 40 => ⟨S1x8192x2816, .f32⟩
  | 41 => ⟨S1x8192x2816, .f32⟩
  | 42 => ⟨S1x8192x2816, .f32⟩
  | 43 => ⟨S1x8192x1024, .f32⟩
  | 44 => ⟨S1x8192x1024, .f32⟩
  | 45 => ⟨S1x8192x1024, .f32⟩
  | 46 => ⟨S_, .f32⟩
  | 47 => ⟨S1x8192, .f32⟩
  | 48 => ⟨S1x8192x1, .f32⟩
  | 49 => ⟨S_, .f32⟩
  | 50 => ⟨S1x8192x1, .f32⟩
  | 51 => ⟨S1x8192x1, .f32⟩
  | 52 => ⟨S_, .f32⟩
  | 53 => ⟨S1x8192x1, .f32⟩
  | 54 => ⟨S1x8192x1, .f32⟩
  | 55 => ⟨S1x8192x1, .f32⟩
  | 56 => ⟨S1x8192x1, .f32⟩
  | 57 => ⟨S_, .f32⟩
  | 58 => ⟨S1x8192x1, .f32⟩
  | 59 => ⟨S1x8192x1, .f32⟩
  | 60 => ⟨S1x8192x1024, .f32⟩
  | 61 => ⟨S1x8192x1024, .f32⟩
  | 62 => ⟨S1x1x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .f32⟩
  | 70 => ⟨S_, .f32⟩
  | 71 => ⟨S1x8192, .f32⟩
  | 72 => ⟨S_, .f32⟩
  | 73 => ⟨S1x8192, .f32⟩
  | 74 => ⟨S1x8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1x8192, .f32⟩
  | 83 => ⟨S_, .f32⟩
  | 84 => ⟨S1x8192, .f32⟩
  | 85 => ⟨S1x8192, .f32⟩
  | 86 => ⟨S1x8192x1024, .f32⟩
  | 87 => ⟨S1x8192x1024, .f32⟩
  | 88 => ⟨S1x8192x1024, .f32⟩
  | 89 => ⟨S_, .f32⟩
  | 90 => ⟨S1x1024, .f32⟩
  | 91 => ⟨S1x1x1024, .f32⟩
  | 92 => ⟨S1x8192x1024, .f32⟩
  | 93 => ⟨S1x8192x1024, .f32⟩
  | 94 => ⟨S_, .f32⟩
  | 95 => ⟨S1024, .f32⟩
  | 96 => ⟨S1x8192x1024, .f32⟩
  | 97 => ⟨S_, .f32⟩
  | 98 => ⟨S1x8192, .f32⟩
  | 99 => ⟨S1x8192x1, .f32⟩
  | 100 => ⟨S1x8192x1024, .f32⟩
  | 101 => ⟨S1x8192x1024, .f32⟩
  | 102 => ⟨S1x8192x1, .f32⟩
  | 103 => ⟨S_, .f32⟩
  | 104 => ⟨S1x8192x1, .f32⟩
  | 105 => ⟨S1x8192x1, .f32⟩
  | 106 => ⟨S_, .f32⟩
  | 107 => ⟨S8192, .f32⟩
  | 108 => ⟨S1x8192, .f32⟩
  | 109 => ⟨S1x8192x1024, .f32⟩
  | 110 => ⟨S1x8192x1024, .f32⟩
  | 111 => ⟨S1x8192x1024, .f32⟩
  | 112 => ⟨S1x8192x1024, .f32⟩
  | 113 => ⟨S1x8192x1024, .f32⟩
  | 114 => ⟨S1024x2816, .f32⟩
  | 115 => ⟨S2816x1024, .f32⟩
  | 116 => ⟨S1x8192x2816, .f32⟩
  | 117 => ⟨S1x8192x2816, .f32⟩
  | 118 => ⟨S1x8192x2816, .f32⟩
  | 119 => ⟨S2816x1024, .f32⟩
  | 120 => ⟨S1024x2816, .f32⟩
  | 121 => ⟨S1x8192x1024, .f32⟩
  | 122 => ⟨S1x8192x2816, .f32⟩
  | 123 => ⟨S1x8192x2816, .f32⟩
  | 124 => ⟨S1x8192x2816, .f32⟩
  | 125 => ⟨S1x8192x2816, .f32⟩
  | 126 => ⟨S2816x1024, .f32⟩
  | 127 => ⟨S1024x2816, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S_, .f32⟩
  | 4 => ⟨S1x1024, .f32⟩
  | 5 => ⟨S1x1x1024, .f32⟩
  | 6 => ⟨S1x8192x1024, .f32⟩
  | 7 => ⟨S1x8192x1024, .f32⟩
  | 8 => ⟨S_, .f32⟩
  | 9 => ⟨S1024, .f32⟩
  | 10 => ⟨S1x8192x1024, .f32⟩
  | 11 => ⟨S_, .f32⟩
  | 12 => ⟨S1x8192, .f32⟩
  | 13 => ⟨S1x8192x1, .f32⟩
  | 14 => ⟨S1x8192x1024, .f32⟩
  | 15 => ⟨S1x8192x1024, .f32⟩
  | 16 => ⟨S1x8192x1024, .f32⟩
  | 17 => ⟨S1x8192x1, .f32⟩
  | 18 => ⟨S_, .f32⟩
  | 19 => ⟨S1x8192x1, .f32⟩
  | 20 => ⟨S1x8192x1, .f32⟩
  | 21 => ⟨S_, .f32⟩
  | 22 => ⟨S8192, .f32⟩
  | 23 => ⟨S1x8192, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_cst_24 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== Proj.lean ====
abbrev S1x8192x1024 : Shape := ⟨3, ![1, 8192, 1024]⟩
abbrev S1024 : Shape := ⟨1, ![1024]⟩
abbrev S1024x2592 : Shape := ⟨2, ![1024, 2592]⟩
abbrev S1x8192x2592 : Shape := ⟨3, ![1, 8192, 2592]⟩
abbrev S1x1024 : Shape := ⟨2, ![1, 1024]⟩
abbrev S2592x1024 : Shape := ⟨2, ![2592, 1024]⟩
abbrev S_ : Shape := ⟨0, ![]⟩
abbrev S8x128 : Shape := ⟨2, ![8, 128]⟩
abbrev S8192x1024 : Shape := ⟨2, ![8192, 1024]⟩
abbrev S8192x2688 : Shape := ⟨2, ![8192, 2688]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1024x1024 : Shape := ⟨2, ![1024, 1024]⟩
abbrev S128x1024 : Shape := ⟨2, ![128, 1024]⟩
abbrev S512x128 : Shape := ⟨2, ![512, 128]⟩
abbrev S8192x2592 : Shape := ⟨2, ![8192, 2592]⟩
abbrev S8192x32 : Shape := ⟨2, ![8192, 32]⟩
abbrev S8192x128 : Shape := ⟨2, ![8192, 128]⟩
abbrev S8192x256 : Shape := ⟨2, ![8192, 256]⟩
abbrev S8192x512 : Shape := ⟨2, ![8192, 512]⟩
abbrev S512x256 : Shape := ⟨2, ![512, 256]⟩
abbrev S512x512 : Shape := ⟨2, ![512, 512]⟩
abbrev S32x1024 : Shape := ⟨2, ![32, 1024]⟩
abbrev S8192x1536 : Shape := ⟨2, ![8192, 1536]⟩

abbrev nBuf : Space → Nat
  | .hbm => 39
  | .vmem => 39
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2592, .f32⟩
  | .hbm, ⟨3, _⟩ => ⟨S1x8192x1024, .f32⟩
  | .hbm, ⟨4, _⟩ => ⟨S1x8192x2592, .f32⟩
  | .hbm, ⟨5, _⟩ => ⟨S1x1024, .f32⟩
  | .hbm, ⟨6, _⟩ => ⟨S2592x1024, .f32⟩
  | .hbm, ⟨7, _⟩ => ⟨S2592x1024, .bf16⟩
  | .hbm, ⟨8, _⟩ => ⟨S_, .f32⟩
  | .hbm, ⟨9, _⟩ => ⟨S8x128, .f32⟩
  | .hbm, ⟨10, _⟩ => ⟨S8192x1024, .f32⟩
  | .hbm, ⟨11, _⟩ => ⟨S8192x2688, .f32⟩
  | .hbm, ⟨12, _⟩ => ⟨S8192x2592, .f32⟩
  | .hbm, ⟨13, _⟩ => ⟨S8192x2592, .bf16⟩
  | .hbm, ⟨14, _⟩ => ⟨S8192x32, .bf16⟩
  | .hbm, ⟨15, _⟩ => ⟨S_, .i32⟩
  | .hbm, ⟨16, _⟩ => ⟨S_, .bf16⟩
  | .hbm, ⟨17, _⟩ => ⟨S8192x128, .bf16⟩
  | .hbm, ⟨18, _⟩ => ⟨S8192x1024, .f32⟩
  | .hbm, ⟨19, _⟩ => ⟨S8192x256, .bf16⟩
  | .hbm, ⟨20, _⟩ => ⟨S8192x256, .bf16⟩
  | .hbm, ⟨21, _⟩ => ⟨S8192x512, .bf16⟩
  | .hbm, ⟨22, _⟩ => ⟨S8192x512, .bf16⟩
  | .hbm, ⟨23, _⟩ => ⟨S8192x512, .bf16⟩
  | .hbm, ⟨24, _⟩ => ⟨S8192x512, .bf16⟩
  | .hbm, ⟨25, _⟩ => ⟨S2592x1024, .f32⟩
  | .hbm, ⟨26, _⟩ => ⟨S8192x2688, .bf16⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1536, .f32⟩
  | .hbm, ⟨32, _⟩ => ⟨S8192x32, .f32⟩
  | .hbm, ⟨33, _⟩ => ⟨S8192x1024, .f32⟩
  | .hbm, ⟨34, _⟩ => ⟨S8192x2592, .f32⟩
  | .hbm, ⟨35, _⟩ => ⟨S1x8192x2592, .f32⟩
  | .hbm, ⟨36, _⟩ => ⟨S1x8192x1024, .f32⟩
  | .hbm, ⟨37, _⟩ => ⟨S1024, .f32⟩
  | .hbm, ⟨38, _⟩ => ⟨S1024x2592, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2592x1024, .bf16⟩
  | .local _ .vmem, ⟨4, _⟩ => ⟨S8x128, .f32⟩
  | .local _ .vmem, ⟨5, _⟩ => ⟨S512x2688, .f32⟩
  | .local _ .vmem, ⟨6, _⟩ => ⟨S512x2688, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x128, .bf16⟩
  | .local _ .vmem, ⟨23, _⟩ => ⟨S512x128, .bf16⟩
  | .local _ .vmem, ⟨24, _⟩ => ⟨S2592x1024, .f32⟩
  | .local _ .vmem, ⟨25, _⟩ => ⟨S512x2688, .bf16⟩
  | .local _ .vmem, ⟨26, _⟩ => ⟨S512x2688, .bf16⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | .local _ .vmem, ⟨32, _⟩ => ⟨S2592x1024, .bf16⟩
  | .local _ .vmem, ⟨33, _⟩ => ⟨S512x2688, .bf16⟩
  | .local _ .vmem, ⟨34, _⟩ => ⟨S512x2688, .bf16⟩
  | .local _ .vmem, ⟨35, _⟩ => ⟨S8x128, .f32⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg4_1 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem10_0 : DmaSem sig := 25
abbrev cc1_sem10_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem4_1 : DmaSem sig := 34
abbrev cc2_sem5_0 : DmaSem sig := 35
abbrev cc2_sem6_0 : DmaSem sig := 36
abbrev cc2_sem6_1 : DmaSem sig := 37
abbrev cc2_sem7_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2592x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S2592x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x2688 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2592x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2688 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== ProjRefIdeal.lean ====
abbrev S1x8192x1024 : Shape := ⟨3, ![1, 8192, 1024]⟩
abbrev S1024 : Shape := ⟨1, ![1024]⟩
abbrev S1024x2592 : Shape := ⟨2, ![1024, 2592]⟩
abbrev S1x8192x2592 : Shape := ⟨3, ![1, 8192, 2592]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S2592x1024 : Shape := ⟨2, ![2592, 1024]⟩
abbrev S1x1024 : Shape := ⟨2, ![1, 1024]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2592, .f32⟩
  | .hbm, ⟨3, _⟩ => ⟨S1x8192x1024, .f32⟩
  | .hbm, ⟨4, _⟩ => ⟨S1x8192x2592, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x2592, .f32⟩
  | .hbm, ⟨26, _⟩ => ⟨S2592x1024, .f32⟩
  | .hbm, ⟨27, _⟩ => ⟨S1024x2592, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Adam.lean ====
abbrev S1024x648 : Shape := ⟨2, ![1024, 648]⟩
abbrev S256x1024 : Shape := ⟨2, ![256, 1024]⟩
abbrev S1024x704 : Shape := ⟨2, ![1024, 704]⟩
abbrev S704x1024 : Shape := ⟨2, ![704, 1024]⟩
abbrev S648x1024 : Shape := ⟨2, ![648, 1024]⟩
abbrev S216x1024 : Shape := ⟨2, ![216, 1024]⟩
abbrev S352x1024 : Shape := ⟨2, ![352, 1024]⟩

abbrev nBuf : Space → Nat
  | .hbm => 61
  | .vmem => 72
  | .smem => 0
  | _ => 0

abbrev bufTy : (tb : Table) → Fin (tcTables nBuf tb) → BufTy
  | .hbm, ⟨0, _⟩ => ⟨S1024x648, .f32⟩
  | .hbm, ⟨1, _⟩ => ⟨S1024x648, .f32⟩
  | .hbm, ⟨2, _⟩ => ⟨S1024x648, .f32⟩
  | .hbm, ⟨3, _⟩ => ⟨S1024x648, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S1024x704, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S648x1024, .f32⟩
  | .hbm, ⟨21, _⟩ => ⟨S648x1024, .f32⟩
  | .hbm, ⟨22, _⟩ => ⟨S648x1024, .f32⟩
  | .hbm, ⟨23, _⟩ => ⟨S648x1024, .f32⟩
  | .hbm, ⟨24, _⟩ => ⟨S648x1024, .f32⟩
  | .hbm, ⟨25, _⟩ => ⟨S648x1024, .f32⟩
  | .hbm, ⟨26, _⟩ => ⟨S648x1024, .f32⟩
  | .hbm, ⟨27, _⟩ => ⟨S648x1024, .f32⟩
  | .hbm, ⟨28, _⟩ => ⟨S1024x648, .f32⟩
  | .hbm, ⟨29, _⟩ => ⟨S1024x648, .f32⟩
  | .hbm, ⟨30, _⟩ => ⟨S1024x648, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S1024x704, .f32⟩
  | .hbm, ⟨44, _⟩ => ⟨S1024x704, .f32⟩
  | .hbm, ⟨45, _⟩ => ⟨S1024x704, .f32⟩
  | .hbm, ⟨46, _⟩ => ⟨S704x1024, .f32⟩
  | .hbm, ⟨47, _⟩ => ⟨S704x1024, .f32⟩
  | .hbm, ⟨48, _⟩ => ⟨S704x1024, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S704x1024, .f32⟩
  | .hbm, ⟨53, _⟩ => ⟨S704x1024, .f32⟩
  | .hbm, ⟨54, _⟩ => ⟨S1024x704, .f32⟩
  | .hbm, ⟨55, _⟩ => ⟨S1024x704, .f32⟩
  | .hbm, ⟨56, _⟩ => ⟨S1024x704, .f32⟩
  | .hbm, ⟨57, _⟩ => ⟨S704x1024, .f32⟩
  | .hbm, ⟨58, _⟩ => ⟨S704x1024, .f32⟩
  | .hbm, ⟨59, _⟩ => ⟨S704x1024, .f32⟩
  | .hbm, ⟨60, _⟩ => ⟨S704x1024, .f32⟩
  | .local _ .vmem, ⟨0, _⟩ => ⟨S216x1024, .f32⟩
  | .local _ .vmem, ⟨1, _⟩ => ⟨S216x1024, .f32⟩
  | .local _ .vmem, ⟨2, _⟩ => ⟨S216x1024, .f32⟩
  | .local _ .vmem, ⟨3, _⟩ => ⟨S216x1024, .f32⟩
  | .local _ .vmem, ⟨4, _⟩ => ⟨S216x1024, .f32⟩
  | .local _ .vmem, ⟨5, _⟩ => ⟨S216x1024, .f32⟩
  | .local _ .vmem, ⟨6, _⟩ => ⟨S216x1024, .f32⟩
  | .local _ .vmem, ⟨7, _⟩ => ⟨S216x1024, .f32⟩
  | .local _ .vmem, ⟨8, _⟩ => ⟨S216x1024, .f32⟩
  | .local _ .vmem, ⟨9, _⟩ => ⟨S216x1024, .f32⟩
  | .local _ .vmem, ⟨10, _⟩ => ⟨S216x1024, .f32⟩
  | .local _ .vmem, ⟨11, _⟩ => ⟨S216x1024, .f32⟩
  | .local _ .vmem, ⟨12, _⟩ => ⟨S216x1024, .f32⟩
  | .local _ .vmem, ⟨13, _⟩ => ⟨S216x1024, .f32⟩
  | .local _ .vmem, ⟨14, _⟩ => ⟨S216x1024, .f32⟩
  | .local _ .vmem, ⟨15, _⟩ => ⟨S216x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S352x1024, .f32⟩
  | .local _ .vmem, ⟨25, _⟩ => ⟨S352x1024, .f32⟩
  | .local _ .vmem, ⟨26, _⟩ => ⟨S352x1024, .f32⟩
  | .local _ .vmem, ⟨27, _⟩ => ⟨S352x1024, .f32⟩
  | .local _ .vmem, ⟨28, _⟩ => ⟨S352x1024, .f32⟩
  | .local _ .vmem, ⟨29, _⟩ => ⟨S352x1024, .f32⟩
  | .local _ .vmem, ⟨30, _⟩ => ⟨S352x1024, .f32⟩
  | .local _ .vmem, ⟨31, _⟩ => ⟨S352x1024, .f32⟩
  | .local _ .vmem, ⟨32, _⟩ => ⟨S352x1024, .f32⟩
  | .local _ .vmem, ⟨33, _⟩ => ⟨S352x1024, .f32⟩
  | .local _ .vmem, ⟨34, _⟩ => ⟨S352x1024, .f32⟩
  | .local _ .vmem, ⟨35, _⟩ => ⟨S352x1024, .f32⟩
  | .local _ .vmem, ⟨36, _⟩ => ⟨S352x1024, .f32⟩
  | .local _ .vmem, ⟨37, _⟩ => ⟨S352x1024, .f32⟩
  | .local _ .vmem, ⟨38, _⟩ => ⟨S352x1024, .f32⟩
  | .local _ .vmem, ⟨39, _⟩ => ⟨S352x1024, .f32⟩
  | .local _ .vmem, ⟨40, _⟩ => ⟨S352x1024, .f32⟩
  | .local _ .vmem, ⟨41, _⟩ => ⟨S352x1024, .f32⟩
  | .local _ .vmem, ⟨42, _⟩ => ⟨S352x1024, .f32⟩
  | .local _ .vmem, ⟨43, _⟩ => ⟨S352x1024, .f32⟩
  | .local _ .vmem, ⟨44, _⟩ => ⟨S352x1024, .f32⟩
  | .local _ .vmem, ⟨45, _⟩ => ⟨S352x1024, .f32⟩
  | .local _ .vmem, ⟨46, _⟩ => ⟨S352x1024, .f32⟩
  | .local _ .vmem, ⟨47, _⟩ => ⟨S352x1024, .f32⟩
  | .local _ .vmem, ⟨48, _⟩ => ⟨S352x1024, .f32⟩
  | .local _ .vmem, ⟨49, _⟩ => ⟨S352x1024, .f32⟩
  | .local _ .vmem, ⟨50, _⟩ => ⟨S352x1024, .f32⟩
  | .local _ .vmem, ⟨51, _⟩ => ⟨S352x1024, .f32⟩
  | .local _ .vmem, ⟨52, _⟩ => ⟨S352x1024, .f32⟩
  | .local _ .vmem, ⟨53, _⟩ => ⟨S352x1024, .f32⟩
  | .local _ .vmem, ⟨54, _⟩ => ⟨S352x1024, .f32⟩
  | .local _ .vmem, ⟨55, _⟩ => ⟨S352x1024, .f32⟩
  | .local _ .vmem, ⟨56, _⟩ => ⟨S352x1024, .f32⟩
  | .local _ .vmem, ⟨57, _⟩ => ⟨S352x1024, .f32⟩
  | .local _ .vmem, ⟨58, _⟩ => ⟨S352x1024, .f32⟩
  | .local _ .vmem, ⟨59, _⟩ => ⟨S352x1024, .f32⟩
  | .local _ .vmem, ⟨60, _⟩ => ⟨S352x1024, .f32⟩
  | .local _ .vmem, ⟨61, _⟩ => ⟨S352x1024, .f32⟩
  | .local _ .vmem, ⟨62, _⟩ => ⟨S352x1024, .f32⟩
  | .local _ .vmem, ⟨63, _⟩ => ⟨S352x1024, .f32⟩
  | .local _ .vmem, ⟨64, _⟩ => ⟨S352x1024, .f32⟩
  | .local _ .vmem, ⟨65, _⟩ => ⟨S352x1024, .f32⟩
  | .local _ .vmem, ⟨66, _⟩ => ⟨S352x1024, .f32⟩
  | .local _ .vmem, ⟨67, _⟩ => ⟨S352x1024, .f32⟩
  | .local _ .vmem, ⟨68, _⟩ => ⟨S352x1024, .f32⟩
  | .local _ .vmem, ⟨69, _⟩ => ⟨S352x1024, .f32⟩
  | .local _ .vmem, ⟨70, _⟩ => ⟨S352x1024, .f32⟩
  | .local _ .vmem, ⟨71, _⟩ => ⟨S352x1024, .f32⟩
  | _, _ => ⟨S1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_v4_2 : Ref sig .tc := ⟨.hbm, 26, rfl⟩
abbrev main_v4_3 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8_0 : Ref sig .tc := ⟨.hbm, 31, rfl⟩
abbrev main_v8_1 : Ref sig .tc := ⟨.hbm, 32, rfl⟩
abbrev main_v8_2 : Ref sig .tc := ⟨.hbm, 33, rfl⟩
abbrev main_v8_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13_0 : Ref sig .tc := ⟨.hbm, 39, rfl⟩
abbrev main_v13_1 : Ref sig .tc := ⟨.hbm, 40, rfl⟩
abbrev main_v13_2 : Ref sig .tc := ⟨.hbm, 41, rfl⟩
abbrev main_v13_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21_0 : Ref sig .tc := ⟨.hbm, 50, rfl⟩
abbrev main_v21_1 : Ref sig .tc := ⟨.hbm, 51, rfl⟩
abbrev main_v21_2 : Ref sig .tc := ⟨.hbm, 52, rfl⟩
abbrev main_v21_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25_0 : Ref sig .tc := ⟨.hbm, 57, rfl⟩
abbrev main_v25_1 : Ref sig .tc := ⟨.hbm, 58, rfl⟩
abbrev main_v25_2 : Ref sig .tc := ⟨.hbm, 59, rfl⟩
abbrev main_v25_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg6_1 : Ref sig .tc := ⟨.vmem, 53, rfl⟩
abbrev cc3_stg7_0 : Ref sig .tc := ⟨.vmem, 54, rfl⟩
abbrev cc3_stg7_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc4_stg7_0 : Ref sig .tc := ⟨.vmem, 70, rfl⟩
abbrev cc4_stg7_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem5_1 : DmaSem sig := 51
abbrev cc3_sem6_0 : DmaSem sig := 52
abbrev cc3_sem6_1 : DmaSem sig := 53
abbrev cc3_sem7_0 : DmaSem sig := 54
abbrev cc3_sem7_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc4_sem7_0 : DmaSem sig := 70
abbrev cc4_sem7_1 : DmaSem sig := 71

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S216x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S216x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S216x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S216x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S216x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S216x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S216x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S216x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S352x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S352x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S352x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S352x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S352x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S352x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S352x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S352x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S352x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S352x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S352x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S352x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S352x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S352x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S352x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S352x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S352x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S352x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S352x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S352x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S352x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S352x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S352x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S352x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== AdamRefIdeal.lean ====
abbrev S1024x648 : Shape := ⟨2, ![1024, 648]⟩
abbrev S256x1024 : Shape := ⟨2, ![256, 1024]⟩
abbrev S1024x704 : Shape := ⟨2, ![1024, 704]⟩
abbrev S704x1024 : Shape := ⟨2, ![704, 1024]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S1024x648, .f32⟩
  | 1 => ⟨S1024x648, .f32⟩
  | 2 => ⟨S1024x648, .f32⟩
  | 3 => ⟨S1024x648, .f32⟩
  | 4 => ⟨S256x1024, .f32⟩
  | 5 => ⟨S256x1024, .f32⟩
  | 6 => ⟨S256x1024, .f32⟩
  | 7 => ⟨S256x1024, .f32⟩
  | 8 => ⟨S1024x704, .f32⟩
  | 9 => ⟨S1024x704, .f32⟩
  | 10 => ⟨S1024x704, .f32⟩
  | 11 => ⟨S1024x704, .f32⟩
  | 12 => ⟨S1024x704, .f32⟩
  | 13 => ⟨S1024x704, .f32⟩
  | 14 => ⟨S1024x704, .f32⟩
  | 15 => ⟨S1024x704, .f32⟩
  | 16 => ⟨S704x1024, .f32⟩
  | 17 => ⟨S704x1024, .f32⟩
  | 18 => ⟨S704x1024, .f32⟩
  | 19 => ⟨S704x1024, .f32⟩
  | 20 => ⟨S_, .f32⟩
  | 21 => ⟨S1024x648, .f32⟩
  | 22 => ⟨S1024x648, .f32⟩
  | 23 => ⟨S_, .f32⟩
  | 24 => ⟨S1024x648, .f32⟩
  | 25 => ⟨S1024x648, .f32⟩
  | 26 => ⟨S1024x648, .f32⟩
  | 27 => ⟨S_, .f32⟩
  | 28 => ⟨S1024x648, .f32⟩
  | 29 => ⟨S1024x648, .f32⟩
  | 30 => ⟨S1024x648, .f32⟩
  | 31 => ⟨S_, .f32⟩
  | 32 => ⟨S1024x648, .f32⟩
  | 33 => ⟨S1024x648, .f32⟩
  | 34 => ⟨S1024x648, .f32⟩
  | 35 => ⟨S_, .f32⟩
  | 36 => ⟨S1024x648, .f32⟩
  | 37 => ⟨S1024x648, .f32⟩
  | 38 => ⟨S_, .f32⟩
  | 39 => ⟨S1024x648, .f32⟩
  | 40 => ⟨S1024x648, .f32⟩
  | 41 => ⟨S1024x648, .f32⟩
  | 42 => ⟨S_, .f32⟩
  | 43 => ⟨S1024x648, .f32⟩
  | 44 => ⟨S1024x648, .f32⟩
  | 45 => ⟨S1024x648, .f32⟩
  | 46 => ⟨S_, .f32⟩
  | 47 => ⟨S1024x648, .f32⟩
  | 48 => ⟨S1024x648, .f32⟩
  | 49 => ⟨S1024x648, .f32⟩
  | 50 => ⟨S_, .f32⟩
  | 51 => ⟨S1024x648, .f32⟩
  | 52 => ⟨S1024x648, .f32⟩
  | 53 => ⟨S_, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S_, .f32⟩
  | 72 => ⟨S256x1024, .f32⟩
  | 73 => ⟨S256x1024, .f32⟩
  | 74 => ⟨S256x1024, .f32⟩
  | 75 => ⟨S_, .f32⟩
  | 76 => ⟨S256x1024, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S_, .f32⟩
  | 87 => ⟨S1024x704, .f32⟩
  | 88 => ⟨S1024x704, .f32⟩
  | 89 => ⟨S_, .f32⟩
  | 90 => ⟨S1024x704, .f32⟩
  | 91 => ⟨S1024x704, .f32⟩
  | 92 => ⟨S1024x704, .f32⟩
  | 93 => ⟨S_, .f32⟩
  | 94 => ⟨S1024x704, .f32⟩
  | 95 => ⟨S1024x704, .f32⟩
  | 96 => ⟨S1024x704, .f32⟩
  | 97 => ⟨S_, .f32⟩
  | 98 => ⟨S1024x704, .f32⟩
  | 99 => ⟨S1024x704, .f32⟩
  | 100 => ⟨S1024x704, .f32⟩
  | 101 => ⟨S_, .f32⟩
  | 102 => ⟨S1024x704, .f32⟩
  | 103 => ⟨S1024x704, .f32⟩
  | 104 => ⟨S_, .f32⟩
  | 105 => ⟨S1024x704, .f32⟩
  | 106 => ⟨S1024x704, .f32⟩
  | 107 => ⟨S1024x704, .f32⟩
  | 108 => ⟨S_, .f32⟩
  | 109 => ⟨S1024x704, .f32⟩
  | 110 => ⟨S1024x704, .f32⟩
  | 111 => ⟨S1024x704, .f32⟩
  | 112 => ⟨S_, .f32⟩
  | 113 => ⟨S1024x704, .f32⟩
  | 114 => ⟨S1024x704, .f32⟩
  | 115 => ⟨S1024x704, .f32⟩
  | 116 => ⟨S_, .f32⟩
  | 117 => ⟨S1024x704, .f32⟩
  | 118 => ⟨S1024x704, .f32⟩
  | 119 => ⟨S_, .f32⟩
  | 120 => ⟨S1024x704, .f32⟩
  | 121 => ⟨S1024x704, .f32⟩
  | 122 => ⟨S_, .f32⟩
  | 123 => ⟨S1024x704, .f32⟩
  | 124 => ⟨S1024x704, .f32⟩
  | 125 => ⟨S1024x704, .f32⟩
  | 126 => ⟨S_, .f32⟩
  | 127 => ⟨S1024x704, .f32⟩
  | _ => ⟨S1024x648, .f32⟩

abbrev hbmTy0_1 (i : Nat) : BufTy := match i % 128 with
  | 0 => ⟨S1024x704, .f32⟩
  | 1 => ⟨S1024x704, .f32⟩
  | 2 => ⟨S_, .f32⟩
  | 3 => ⟨S1024x704, .f32⟩
  | 4 => ⟨S1024x704, .f32⟩
  | 5 => ⟨S1024x704, .f32⟩
  | 6 => ⟨S_, .f32⟩
  | 7 => ⟨S1024x704, .f32⟩
  | 8 => ⟨S1024x704, .f32⟩
  | 9 => ⟨S_, .f32⟩
  | 10 => ⟨S1024x704, .f32⟩
  | 11 => ⟨S1024x704, .f32⟩
  | 12 => ⟨S1024x704, .f32⟩
  | 13 => ⟨S_, .f32⟩
  | 14 => ⟨S1024x704, .f32⟩
  | 15 => ⟨S1024x704, .f32⟩
  | 16 => ⟨S1024x704, .f32⟩
  | 17 => ⟨S_, .f32⟩
  | 18 => ⟨S1024x704, .f32⟩
  | 19 => ⟨S1024x704, .f32⟩
  | 20 => ⟨S1024x704, .f32⟩
  | 21 => ⟨S_, .f32⟩
  | 22 => ⟨S1024x704, .f32⟩
  | 23 => ⟨S1024x704, .f32⟩
  | 24 => ⟨S_, .f32⟩
  | 25 => ⟨S704x1024, .f32⟩
  | 26 => ⟨S704x1024, .f32⟩
  | 27 => ⟨S_, .f32⟩
  | 28 => ⟨S704x1024, .f32⟩
  | 29 => ⟨S704x1024, .f32⟩
  | 30 => ⟨S704x1024, .f32⟩
  | 31 => ⟨S_, .f32⟩
  | 32 => ⟨S704x1024, .f32⟩
  | 33 => ⟨S704x1024, .f32⟩
  | 34 => ⟨S704x1024, .f32⟩
  | 35 => ⟨S_, .f32⟩
  | 36 => ⟨S704x1024, .f32⟩
  | 37 => ⟨S704x1024, .f32⟩
  | 38 => ⟨S704x1024, .f32⟩
  | 39 => ⟨S_, .f32⟩
  | 40 => ⟨S704x1024, .f32⟩
  | 41 => ⟨S704x1024, .f32⟩
  | 42 => ⟨S_, .f32⟩
  | 43 => ⟨S704x1024, .f32⟩
  | 44 => ⟨S704x1024, .f32⟩
  | 45 => ⟨S704x1024, .f32⟩
  | 46 => ⟨S_, .f32⟩
  | 47 => ⟨S704x1024, .f32⟩
  | 48 => ⟨S704x1024, .f32⟩
  | 49 => ⟨S704x1024, .f32⟩
  | 50 => ⟨S_, .f32⟩
  | 51 => ⟨S704x1024, .f32⟩
  | 52 => ⟨S704x1024, .f32⟩
  | 53 => ⟨S704x1024, .f32⟩
  | 54 => ⟨S_, .f32⟩
  | 55 => ⟨S704x1024, .f32⟩
  | 56 => ⟨S704x1024, .f32⟩
  | _ => ⟨S1024x648, .f32⟩

abbrev hbmTy (i : Nat) : BufTy := match i / 128 with
  | 0 => hbmTy0_0 i
  | 1 => hbmTy0_1 i
  | _ => ⟨S1024x648, .f32⟩

abbrev bufTy : (tb : Table) → Fin (tcTables nBuf tb) → BufTy
  | .hbm, ⟨i, _⟩ => hbmTy i
  | _, _ => ⟨S1024x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== Mixer.lean ====
abbrev S1x8192x1024 : Shape := ⟨3, ![1, 8192, 1024]⟩
abbrev S8192x512 : Shape := ⟨2, ![8192, 512]⟩
abbrev S8192x2688 : Shape := ⟨2, ![8192, 2688]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S8192x1024 : Shape := ⟨2, ![8192, 1024]⟩
abbrev S1x512 : Shape := ⟨2, ![1, 512]⟩
abbrev S4x128x1 : Shape := ⟨3, ![4, 128, 1]⟩
abbrev S_ : Shape := ⟨0, ![]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩
abbrev S128 : Shape := ⟨1, ![128]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 34
  | .vmem => 39
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x512, .f32⟩
  | .hbm, ⟨3, _⟩ => ⟨S8192x512, .f32⟩
  | .hbm, ⟨4, _⟩ => ⟨S8192x2688, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S4x128x128, .f32⟩
  | .hbm, ⟨9, _⟩ => ⟨S4x128, .f32⟩
  | .hbm, ⟨10, _⟩ => ⟨S1024x1024, .f32⟩
  | .hbm, ⟨11, _⟩ => ⟨S4x128x128, .bf16⟩
  | .hbm, ⟨12, _⟩ => ⟨S4x128x128, .f32⟩
  | .hbm, ⟨13, _⟩ => ⟨S4x128x128, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S4x128x1, .f32⟩
  | .hbm, ⟨21, _⟩ => ⟨S1024x1024, .bf16⟩
  | .hbm, ⟨22, _⟩ => ⟨S_, .f32⟩
  | .hbm, ⟨23, _⟩ => ⟨S8x128, .f32⟩
  | .hbm, ⟨24, _⟩ => ⟨S8192x512, .f32⟩
  | .hbm, ⟨25, _⟩ => ⟨S8192x512, .bf16⟩
  | .hbm, ⟨26, _⟩ => ⟨S8192x512, .bf16⟩
  | .hbm, ⟨27, _⟩ => ⟨S8192x512, .bf16⟩
  | .hbm, ⟨28, _⟩ => ⟨S1024x1024, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S4x128x128, .f32⟩
  | .hbm, ⟨33, _⟩ => ⟨S4x128x1, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S4x128x128, .bf16⟩
  | .local _ .vmem, ⟨18, _⟩ => ⟨S4x128x128, .bf16⟩
  | .local _ .vmem, ⟨19, _⟩ => ⟨S4x128x1, .f32⟩
  | .local _ .vmem, ⟨20, _⟩ => ⟨S1024x1024, .bf16⟩
  | .local _ .vmem, ⟨21, _⟩ => ⟨S8x128, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S1024x1024, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S4x128x128, .f32⟩
  | .local _ .vmem, ⟨35, _⟩ => ⟨S4x128x1, .f32⟩
  | .local _ .vmem, ⟨36, _⟩ => ⟨S512x512, .bf16⟩
  | .local _ .vmem, ⟨37, _⟩ => ⟨S512x512, .f32⟩
  | .local _ .vmem, ⟨38, _⟩ => ⟨S4x128x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1150 : BitVec 1 := Scalar.cmpi .eq arg0 c15_i32
  let v1151 : BitVec 32 := Scalar.extui v1150
  let c0_i32_743 : BitVec 32 := 0#32
  let v1152 : BitVec 1 := Scalar.cmpi .ne v1151 c0_i32_743
  v1152

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MixerRefIdeal.lean ====
abbrev S1x8192x1024 : Shape := ⟨3, ![1, 8192, 1024]⟩
abbrev S8192x512 : Shape := ⟨2, ![8192, 512]⟩
abbrev S8192x2688 : Shape := ⟨2, ![8192, 2688]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x512, .f32⟩
  | .hbm, ⟨3, _⟩ => ⟨S8192x512, .f32⟩
  | .hbm, ⟨4, _⟩ => ⟨S8192x2688, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S4x128x128, .f32⟩
  | .hbm, ⟨9, _⟩ => ⟨S4x128, .f32⟩
  | .hbm, ⟨10, _⟩ => ⟨S1024x1024, .f32⟩
  | .hbm, ⟨11, _⟩ => ⟨S1x8192x1024, .f32⟩
  | .hbm, ⟨12, _⟩ => ⟨S1024x1024, .f32⟩
  | .hbm, ⟨13, _⟩ => ⟨S1024x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== Proof.FfnRun.lean ====
/- The kernel's run: every buffer of the TensorCore ends at what the six stretches of the program leave in it. -/
module

public import proofs.«01_k».proof.Proof.Gen.FfnIdeal.Frame

@[expose] public section

set_option maxRecDepth 16384

noncomputable section

namespace Cert.FfnIdeal.Value

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run terminates, and each buffer that lives through it ends at `W6`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.FfnIdeal.Value

end
-- ==== Proof.FfnHost.lean ====
/- What the host's operations around the kernels leave, an entry at a time. -/
module

public import Idealize.ShloMosaic.Lib.Pointwise
public import proofs.«01_k».proof.Proof.Gen.FfnIdeal.Frame.Fold0

@[expose] public section

set_option maxRecDepth 16384

noncomputable section

namespace Cert.FfnIdeal.Value

open Idealize.ShloMosaic Idealize.ShloMosaic.TcCoe Idealize.SL.Sem Idealize.ShloMosaic.StableHlo
open Cert.FfnIdeal Cert.FfnIdeal.Gen

variable (m : (ℓ : Loc nD τ sig) → Buf (Elt Ideal) ℓ) (ρ : Dev nD → PrngReg) (c : Dev nD)

theorem in_v7 (i : Fin 8192) (j : Fin 1024) : (V1 m ρ c main_v7 : FVec Ideal S8192x1024 .f32) (ix2 i j)
    = (m ((c : Thread nD τ).loc main_arg0) : FVec Ideal S1x8192x1024 .f32) (ix3 0 i j) := by
  show (StableHlo.after hostOps0 (W0 m ρ c) (Proc.devRef .tc main_v7) : FVec Ideal S8192x1024 .f32) (ix2 i j) = _
  simp only [hostOps0]
  after_results_simp
  pointwise
theorem in_v8 (i : Fin 8192) (j : Fin 1024) : (V1 m ρ c main_v8 : FVec Ideal S8192x1024 .f32) (ix2 i j)
    = (m ((c : Thread nD τ).loc main_arg1) : FVec Ideal S1x8192x1024 .f32) (ix3 0 i j) := by
  show (StableHlo.after hostOps0 (W0 m ρ c) (Proc.devRef .tc main_v8) : FVec Ideal S8192x1024 .f32) (ix2 i j) = _
  simp only [hostOps0]
  after_results_simp
  pointwise
theorem in_v5 (j : Fin 1024) : (V1 m ρ c main_v5 : FVec Ideal S1x1024 .f32) (ix2 0 j)
    = (m ((c : Thread nD τ).loc main_arg2) : FVec Ideal S1024 .f32) (ix1 j) := by
  show (StableHlo.after hostOps0 (W0 m ρ c) (Proc.devRef .tc main_v5) : FVec Ideal S1x1024 .f32) (ix2 0 j) = _
  simp only [hostOps0]
  after_results_simp
  pointwise
theorem in_v6 (j : Fin 1024) : (V1 m ρ c main_v6 : FVec Ideal S1x1024 .f32) (ix2 0 j)
    = (m ((c : Thread nD τ).loc main_arg3) : FVec Ideal S1024 .f32) (ix1 j) := by
  show (StableHlo.after hostOps0 (W0 m ρ c) (Proc.devRef .tc main_v6) : FVec Ideal S1x1024 .f32) (ix2 0 j) = _
  simp only [hostOps0]
  after_results_simp
  pointwise
theorem in_v1 (f : Fin 2816) (j : Fin 1024) : (V1 m ρ c main_v1 : FVec Ideal S2816x1024 .bf16) (ix2 f j)
    = (m ((c : Thread nD τ).loc main_arg4) : FVec Ideal S1024x2816 .f32) (ix2 j f) := by
  show (StableHlo.after hostOps0 (W0 m ρ c) (Proc.devRef .tc main_v1) : FVec Ideal S2816x1024 .bf16) (ix2 f j) = _
  simp only [hostOps0]
  after_results_simp
  pointwise
theorem in_v3 (f : Fin 2816) (j : Fin 1024) : (V1 m ρ c main_v3 : FVec Ideal S2816x1024 .bf16) (ix2 f j)
    = (m ((c : Thread nD τ).loc main_arg5) : FVec Ideal S1024x2816 .f32) (ix2 j f) := by
  show (StableHlo.after hostOps0 (W0 m ρ c) (Proc.devRef .tc main_v3) : FVec Ideal S2816x1024 .bf16) (ix2 f j) = _
  simp only [hostOps0]
  after_results_simp
  pointwise
theorem in_v4 (f : Fin 2816) (j : Fin 1024) : (V1 m ρ c main_v4 : FVec Ideal S2816x1024 .bf16) (ix2 f j)
    = (m ((c : Thread nD τ).loc main_arg6) : FVec Ideal S2816x1024 .f32) (ix2 f j) := by
  show (StableHlo.after hostOps0 (W0 m ρ c) (Proc.devRef .tc main_v4) : FVec Ideal S2816x1024 .bf16) (ix2 f j) = _
  simp only [hostOps0]
  after_results_simp
  pointwise
theorem out_v14 (k : S_.Idx) : (W6 m ρ c (Proc.devRef .tc main_v14) : FVec Ideal S_ .f32) (k)
    = (W5 m ρ c (Proc.devRef .tc main_v9_5) : FVec Ideal S1x128 .f32) (ix2 0 0) := by
  show (StableHlo.after hostOps3 (W5 m ρ c) (Proc.devRef .tc main_v14) : FVec Ideal S_ .f32) (k) = _
  simp only [hostOps3]
  after_results_simp
  pointwise
theorem out_v15 (i : Fin 8192) (j : Fin 1024) : (W6 m ρ c (Proc.devRef .tc main_v15) : FVec Ideal S1x8192x1024 .f32) (ix3 0 i j)
    = (W5 m ρ c (Proc.devRef .tc main_v11_2) : FVec Ideal S8192x1024 .f32) (ix2 i j) := by
  show (StableHlo.after hostOps3 (W5 m ρ c) (Proc.devRef .tc main_v15) : FVec Ideal S1x8192x1024 .f32) (ix3 0 i j) = _
  simp only [hostOps3]
  after_results_simp
  pointwise
theorem out_v16 (j : Fin 1024) : (W6 m ρ c (Proc.devRef .tc main_v16) : FVec Ideal S1024 .f32) (ix1 j)
    = (W5 m ρ c (Proc.devRef .tc main_v11_3) : FVec Ideal S1x1024 .f32) (ix2 0 j) := by
  show (StableHlo.after hostOps3 (W5 m ρ c) (Proc.devRef .tc main_v16) : FVec Ideal S1024 .f32) (ix1 j) = _
  simp only [hostOps3]
  after_results_simp
  pointwise
theorem out_v17 (j : Fin 1024) : (W6 m ρ c (Proc.devRef .tc main_v17) : FVec Ideal S1024 .f32) (ix1 j)
    = (W5 m ρ c (Proc.devRef .tc main_v9_6) : FVec Ideal S1x1024 .f32) (ix2 0 j) := by
  show (StableHlo.after hostOps3 (W5 m ρ c) (Proc.devRef .tc main_v17) : FVec Ideal S1024 .f32) (ix1 j) = _
  simp only [hostOps3]
  after_results_simp
  pointwise
theorem out_v18 (j : Fin 1024) (f : Fin 2816) : (W6 m ρ c (Proc.devRef .tc main_v18) : FVec Ideal S1024x2816 .f32) (ix2 j f)
    = (W5 m ρ c (Proc.devRef .tc main_v12_0) : FVec Ideal S2816x1024 .f32) (ix2 f j) := by
  show (StableHlo.after hostOps3 (W5 m ρ c) (Proc.devRef .tc main_v18) : FVec Ideal S1024x2816 .f32) (ix2 j f) = _
  simp only [hostOps3]
  after_results_simp
  pointwise
theorem out_v19 (j : Fin 1024) (f : Fin 2816) : (W6 m ρ c (Proc.devRef .tc main_v19) : FVec Ideal S1024x2816 .f32) (ix2 j f)
    = (W5 m ρ c (Proc.devRef .tc main_v12_1) : FVec Ideal S2816x1024 .f32) (ix2 f j) := by
  show (StableHlo.after hostOps3 (W5 m ρ c) (Proc.devRef .tc main_v19) : FVec Ideal S1024x2816 .f32) (ix2 j f) = _
  simp only [hostOps3]
  after_results_simp
  pointwise
theorem mid_v10 (i : Fin 8192) (j : Fin 1024) : (V3 m ρ c main_v10 : FVec Ideal S8192x1024 .f32) (ix2 i j)
    = (m ((c : Thread nD τ).loc main_arg0) : FVec Ideal S1x8192x1024 .f32) (ix3 0 i j) := by
  show (StableHlo.after hostOps1 (W2 m ρ c) (Proc.devRef .tc main_v10) : FVec Ideal S8192x1024 .f32) (ix2 i j) = _
  simp only [hostOps1]
  after_results_simp
  rw [W2_args m ρ c main_arg0 (by decide)]
  pointwise

end Cert.FfnIdeal.Value

end
-- ==== Proof.FfnMath.lean ====
/- The feed-forward part of the step over the real numbers, row by row, and the identities that join the two
   ways of writing its gradient.  No program appears here. -/
module

public import Idealize.ShloMosaic.Lib.Pointwise
public import Mathlib.Tactic.FieldSimp
public import Mathlib.Tactic.Ring
public import Mathlib.Tactic.Positivity

@[expose] public section

set_option maxRecDepth 16384

noncomputable section

namespace Cert.FfnMath

open Idealize.ShloMosaic

/-- A row of the residual stream. -/
abbrev Row := Fin 1024 → ℝ
/-- A row of the hidden layer. -/
abbrev Hid := Fin 2816 → ℝ

/-- The constant added under the root: the float nearest to one millionth. -/
def eps : ℝ := 8796093 / 8796093022208

theorem eps_pos : 0 < eps := by unfold eps; norm_num

/-- The mean square of a row, plus `eps`. -/
def ms (x : Row) : ℝ := (∑ j, x j * x j) / 1024 + eps

theorem ms_pos (x : Row) : 0 < ms x :=
  add_pos_of_nonneg_of_pos (div_nonneg (Finset.sum_nonneg fun j _ => mul_self_nonneg (x j)) (by norm_num)) eps_pos

/-- The reciprocal root mean square of a row. -/
def rs (x : Row) : ℝ := (√(ms x))⁻¹

theorem rs_mul_rs (x : Row) : rs x * rs x = (ms x)⁻¹ := by
  unfold rs; rw [← mul_inv, Real.mul_self_sqrt (ms_pos x).le]

/-- A row divided by its root mean square. -/
def nrm (x : Row) (j : Fin 1024) : ℝ := x j * rs x

/-- The gradient that reaches a row through its normalisation, `d` being what reaches the normalised row. -/
def rb (x d : Row) (j : Fin 1024) : ℝ := rs x * (d j - nrm x j * ((∑ l, d l * nrm x l) / 1024))

/-- The same gradient, the mean square's part written as a derivative of the root. -/
def rbRoot (x d : Row) : ℝ := ((∑ l, x l * d l) * (-(1 / 2) * (rs x / ms x))) / 1024

/-- The two ways of writing the gradient through a normalisation agree. -/
theorem rb_eq (x d : Row) (j : Fin 1024) : d j * rs x + x j * rbRoot x d + rbRoot x d * x j = rb x d j := by
  have h : (∑ l, d l * nrm x l) = (∑ l, x l * d l) * rs x := by
    rw [Finset.sum_mul]; exact Finset.sum_congr rfl fun l _ => by unfold nrm; ring
  unfold rb rbRoot
  rw [h]; unfold nrm
  have e : rs x / ms x = rs x * (rs x * rs x) := by rw [rs_mul_rs, div_eq_mul_inv]
  rw [e]; ring

/-- The logistic function. -/
def sg (a : ℝ) : ℝ := (1 + Real.exp (-a))⁻¹

section Layer
variable (g2 gf : Row) (wg wu : Fin 1024 → Fin 2816 → ℝ) (wd : Fin 2816 → Fin 1024 → ℝ) (x t : Row)

/-- The normalised, scaled row that enters the layer. -/
def hid (j : Fin 1024) : ℝ := nrm x j * g2 j
def gate (f : Fin 2816) : ℝ := ∑ j, hid g2 x j * wg j f
def up (f : Fin 2816) : ℝ := ∑ j, hid g2 x j * wu j f
def act (f : Fin 2816) : ℝ := gate g2 wg x f * sg (gate g2 wg x f) * up g2 wu x f
/-- The row after the layer. -/
def x2 (j : Fin 1024) : ℝ := x j + ∑ f, act g2 wg wu x f * wd f j
/-- How far the normalised, scaled result is from its target. -/
def err (j : Fin 1024) : ℝ := nrm (x2 g2 wg wu wd x) j * gf j - t j
/-- The row's part of the loss, before the half. -/
def lossRow : ℝ := (∑ j, err g2 gf wg wu wd x t j * err g2 gf wg wu wd x t j) / 1024
def dy (j : Fin 1024) : ℝ := err g2 gf wg wu wd x t j * (1 / 1024)
/-- The row's part of the last scale's gradient. -/
def dgfRow (j : Fin 1024) : ℝ := dy g2 gf wg wu wd x t j * nrm (x2 g2 wg wu wd x) j
/-- The gradient of the row after the layer. -/
def dx2 (j : Fin 1024) : ℝ := rb (x2 g2 wg wu wd x) (fun l => dy g2 gf wg wu wd x t l * gf l) j
def dact (f : Fin 2816) : ℝ := ∑ j, dx2 g2 gf wg wu wd x t j * wd f j
def dgate (f : Fin 2816) : ℝ := dact g2 gf wg wu wd x t f * up g2 wu x f
  * (sg (gate g2 wg x f) * (1 + gate g2 wg x f * (1 - sg (gate g2 wg x f))))
def dup (f : Fin 2816) : ℝ := dact g2 gf wg wu wd x t f * (gate g2 wg x f * sg (gate g2 wg x f))
/-- The gradient of the scaled row that enters the layer. -/
def dh (j : Fin 1024) : ℝ := (∑ f, dgate g2 gf wg wu wd x t f * wg j f) + ∑ f, dup g2 gf wg wu wd x t f * wu j f
/-- The row's part of the first scale's gradient. -/
def dg2Row (j : Fin 1024) : ℝ := dh g2 gf wg wu wd x t j * nrm x j
/-- The gradient of the row that enters the layer. -/
def dx1 (j : Fin 1024) : ℝ := dx2 g2 gf wg wu wd x t j + rb x (fun l => dh g2 gf wg wu wd x t l * g2 l) j

/-- The gradient of `a ↦ a * sg a` times what reaches it, by the product rule, is the factored form. -/
theorem dgate_eq (f : Fin 2816) :
    dact g2 gf wg wu wd x t f * up g2 wu x f * sg (gate g2 wg x f)
      + gate g2 wg x f * (dact g2 gf wg wu wd x t f * up g2 wu x f) * (sg (gate g2 wg x f) * (1 - sg (gate g2 wg x f)))
    = dgate g2 gf wg wu wd x t f := by
  unfold dgate; ring

end Layer

/-! ## Extended reals that are real -/

theorem add_r (a b : ℝ) : (a : EReal) + (b : EReal) = ((a + b : ℝ) : EReal) := (EReal.coe_add a b).symm
theorem sub_r (a b : ℝ) : (a : EReal) - (b : EReal) = ((a - b : ℝ) : EReal) := (EReal.coe_sub a b).symm
theorem mul_r (a b : ℝ) : (a : EReal) * (b : EReal) = ((a * b : ℝ) : EReal) := (EReal.coe_mul a b).symm
theorem sum_r {n : ℕ} (f : Fin n → ℝ) : (∑ k, ((f k : ℝ) : EReal)) = ((∑ k, f k : ℝ) : EReal) := by
  induction n with
  | zero => simp
  | succ n ih => rw [Fin.sum_univ_castSucc, Fin.sum_univ_castSucc, ih, add_r]
theorem div_r {a b : ℝ} (hb : b ≠ 0) : Ideal.div (a : EReal) (b : EReal) = ((a / b : ℝ) : EReal) := by
  rw [Ideal.div_coe hb, mul_r, mul_one_div]
theorem div1024_r (a : ℝ) : Ideal.div (a : EReal) ((1024 : ℝ) : EReal) = ((a / 1024 : ℝ) : EReal) := div_r (by norm_num)
theorem zero_r (a : ℝ) : (0 : EReal) + (a : EReal) = (a : EReal) := zero_add _
theorem one_add_r (a : ℝ) : (1 : EReal) + (a : EReal) = ((1 + a : ℝ) : EReal) := by rw [EReal.coe_add, EReal.coe_one]
theorem one_sub_r (a : ℝ) : (1 : EReal) - (a : EReal) = ((1 - a : ℝ) : EReal) := by rw [EReal.coe_sub, EReal.coe_one]
theorem rsqrt_r (x : Row) : Ideal.rsqrt (((∑ j, x j * x j) / 1024 + eps : ℝ) : EReal) = ((rs x : ℝ) : EReal) := by
  have h := ms_pos x
  show Ideal.rsqrt ((ms x : ℝ) : EReal) = _
  rw [Ideal.rsqrt_coe, if_neg (not_lt.mpr h.le), if_neg h.ne']; rfl
theorem sg_neg_r (a : ℝ) : Ideal.div 1 (1 + Ideal.exp (-(a : EReal))) = ((sg a : ℝ) : EReal) := by
  have h : (1 + Real.exp (-a) : ℝ) ≠ 0 := by positivity
  rw [← EReal.coe_neg, Ideal.exp_coe, one_add_r, ← EReal.coe_one, div_r h, one_div]; rfl
theorem sg_sub_r (a : ℝ) : Ideal.div 1 (1 + Ideal.exp (0 - (a : EReal))) = ((sg a : ℝ) : EReal) := by
  rw [zero_sub]; exact sg_neg_r a

theorem c1024 : Ideal.ofBits .f32 0x44800000#32 = ((1024 : ℝ) : EReal) := by
  simp [Ideal.ofBits, Ideal.ieee, -EReal.coe_mul]; norm_num
theorem ceps : Ideal.ofBits .f32 0x358637BD#32 = ((eps : ℝ) : EReal) := by
  simp [Ideal.ofBits, Ideal.ieee, eps, -EReal.coe_mul]; norm_num
theorem crec : Ideal.ofBits .f32 0x3A800000#32 = ((1 / 1024 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem cnhalf : Ideal.ofBits .f32 0xBF000000#32 = ((-(1 / 2) : ℝ) : EReal) := by
  simp [Ideal.ofBits, Ideal.ieee, -EReal.coe_mul, -EReal.coe_neg]; norm_num
theorem ctwo : Ideal.ofBits .f32 0x40000000#32 = ((2 : ℝ) : EReal) := by
  simp [Ideal.ofBits, Ideal.ieee, -EReal.coe_mul]; norm_num

end Cert.FfnMath

end
-- ==== Proof.FfnPay.lean ====
/- What the three kernels' bodies compute from blocks of real numbers, an entry at a time. -/
module

public import proofs.«01_k».proof.Proof.FfnMath
public import proofs.«01_k».proof.Proof.Gen.FfnIdeal.Skeleton

@[expose] public section

set_option maxRecDepth 16384

noncomputable section

namespace Cert.FfnIdeal.Value

open Idealize.ShloMosaic Idealize.ShloMosaic.TcCoe Idealize.SL.Sem
open Cert.FfnIdeal Cert.FfnIdeal.Gen Cert.FfnMath

section Fwd
variable (g2 gf : Row) (wg wu : Fin 1024 → Fin 2816 → ℝ) (wd : Fin 2816 → Fin 1024 → ℝ) (x t : Fin 256 → Row)
variable (b0 b1 : FVec Ideal S256x1024 .f32) (b2 b3 : FVec Ideal S1x1024 .f32) (b4 b5 b6 : FVec Ideal S2816x1024 .bf16)
variable (h0 : ∀ i j, b0 (ix2 i j) = ((x i j : ℝ) : EReal)) (h1 : ∀ i j, b1 (ix2 i j) = ((t i j : ℝ) : EReal))
variable (h2 : ∀ j, b2 (ix2 0 j) = ((g2 j : ℝ) : EReal)) (h3 : ∀ j, b3 (ix2 0 j) = ((gf j : ℝ) : EReal))
variable (h4 : ∀ f j, b4 (ix2 f j) = ((wg j f : ℝ) : EReal)) (h5 : ∀ f j, b5 (ix2 f j) = ((wu j f : ℝ) : EReal))
variable (h6 : ∀ f j, b6 (ix2 f j) = ((wd f j : ℝ) : EReal))

include h0 h2 in
theorem k0_hid (i : Fin 256) (j : Fin 1024) : k0_pay8 (F := Ideal) b0 b2 (ix2 i j) = ((hid g2 (x i) j : ℝ) : EReal) := by
  pointwise [k0_pay8, k0_pay7, h0, h2]
  simp only [c1024, ceps, mul_r, sum_r, zero_r, div1024_r, add_r, rsqrt_r]
  rfl

include h0 h2 h4 in
theorem k0_gate (i : Fin 256) (f : Fin 2816) : k0_pay9 (F := Ideal) b0 b2 b4 (ix2 i f) = ((gate g2 wg (x i) f : ℝ) : EReal) := by
  pointwise [k0_pay9, k0_hid g2 x b0 b2 h0 h2, h4]
  simp only [mul_r, sum_r, zero_r]
  rfl

include h0 h2 h5 in
theorem k0_up (i : Fin 256) (f : Fin 2816) : k0_pay10 (F := Ideal) b0 b2 b5 (ix2 i f) = ((up g2 wu (x i) f : ℝ) : EReal) := by
  pointwise [k0_pay10, k0_hid g2 x b0 b2 h0 h2, h5]
  simp only [mul_r, sum_r, zero_r]
  rfl

include h0 h2 h4 h5 in
theorem k0_act (i : Fin 256) (f : Fin 2816) :
    k0_pay11 (F := Ideal) b0 b2 b4 b5 (ix2 i f) = ((act g2 wg wu (x i) f : ℝ) : EReal) := by
  pointwise [k0_pay11, k0_gate g2 wg x b0 b2 b4 h0 h2 h4, k0_up g2 wu x b0 b2 b5 h0 h2 h5]
  simp only [sg_sub_r, mul_r]
  rfl

variable (v4 : FVec Ideal S256x1024 .f32) (v36 : FVec Ideal S256x2816 .bf16)
variable (hv4 : ∀ i j, v4 (ix2 i j) = ((x i j : ℝ) : EReal)) (hv36 : ∀ i f, v36 (ix2 i f) = ((act g2 wg wu (x i) f : ℝ) : EReal))

include h0 in
theorem k0_x (i : Fin 256) (j : Fin 1024) : k0_pay7 (F := Ideal) b0 (ix2 i j) = ((x i j : ℝ) : EReal) := by
  pointwise [k0_pay7, h0]

include h6 hv4 hv36 in
theorem k0_x2 (i : Fin 256) (j : Fin 1024) :
    k0_pay12 (F := Ideal) v4 v36 b6 (ix2 i j) = ((x2 g2 wg wu wd (x i) j : ℝ) : EReal) := by
  pointwise [k0_pay12, hv4, hv36, h6]
  simp only [mul_r, sum_r, zero_r, add_r]
  rfl

include h6 hv4 hv36 in
theorem k0_rs (i : Fin 256) : k0_pay13 (F := Ideal) v4 v36 b6 (ix2 i 0) = ((rs (x2 g2 wg wu wd (x i)) : ℝ) : EReal) := by
  pointwise [k0_pay13, k0_x2 g2 wg wu wd x b6 h6 v4 v36 hv4 hv36]
  simp only [c1024, ceps, mul_r, sum_r, zero_r, div1024_r, add_r, rsqrt_r]

include h6 hv4 hv36 in
theorem k0_nrm (i : Fin 256) (j : Fin 1024) :
    k0_pay14 (F := Ideal) v4 v36 b6 (ix2 i j) = ((nrm (x2 g2 wg wu wd (x i)) j : ℝ) : EReal) := by
  pointwise [k0_pay14, k0_x2 g2 wg wu wd x b6 h6 v4 v36 hv4 hv36, k0_rs g2 wg wu wd x b6 h6 v4 v36 hv4 hv36]
  simp only [mul_r]
  rfl

include h1 h3 h6 hv4 hv36 in
theorem k0_err (i : Fin 256) (j : Fin 1024) :
    k0_pay15 (F := Ideal) v4 v36 b6 b3 b1 (ix2 i j) = ((err g2 gf wg wu wd (x i) (t i) j : ℝ) : EReal) := by
  pointwise [k0_pay15, k0_nrm g2 wg wu wd x b6 h6 v4 v36 hv4 hv36, h3, h1]
  simp only [mul_r, sub_r]
  rfl

include h1 h3 h6 hv4 hv36 in
/-- The block's part of the loss, before the half. -/
theorem k0_loss : k0_pay17 (F := Ideal) v4 v36 b6 b3 b1 = ((∑ i, lossRow g2 gf wg wu wd (x i) (t i) : ℝ) : EReal) := by
  pointwise [k0_pay17, k0_err g2 gf wg wu wd x t b1 b3 b6 h1 h3 h6 v4 v36 hv4 hv36]
  simp only [c1024, mul_r, sum_r, zero_r, div1024_r, Fin.sum_univ_one]
  rfl

variable (v53 v60 : FVec Ideal S256x1024 .f32) (v51 : FVec Ideal S256x1 .f32)
variable (hv53 : ∀ i j, v53 (ix2 i j) = ((nrm (x2 g2 wg wu wd (x i)) j : ℝ) : EReal))
variable (hv60 : ∀ i j, v60 (ix2 i j) = ((err g2 gf wg wu wd (x i) (t i) j : ℝ) : EReal))
variable (hv51 : ∀ i, v51 (ix2 i 0) = ((rs (x2 g2 wg wu wd (x i)) : ℝ) : EReal))

include hv60 in
theorem k0_dy (i : Fin 256) (j : Fin 1024) : k0_pay2 (F := Ideal) v60 (ix2 i j) = ((dy g2 gf wg wu wd (x i) (t i) j : ℝ) : EReal) := by
  pointwise [k0_pay2, hv60]
  simp only [crec, mul_r]
  rfl

include hv53 hv60 in
/-- The last scale's gradient: what the block adds to the accumulator. -/
theorem k0_dgf (a : FVec Ideal S1x1024 .f32) (j : Fin 1024) :
    k0_pay3 (F := Ideal) v53 v60 a (ix2 0 j) = a (ix2 0 j) + ((∑ i, dgfRow g2 gf wg wu wd (x i) (t i) j : ℝ) : EReal) := by
  pointwise [k0_pay3, k0_dy g2 gf wg wu wd x t v60 hv60, hv53]
  simp only [mul_r, sum_r, zero_r]
  rfl

include h3 hv51 hv53 hv60 in
theorem k0_dx2 (i : Fin 256) (j : Fin 1024) :
    k0_pay4 (F := Ideal) v51 v53 v60 b3 (ix2 i j) = ((dx2 g2 gf wg wu wd (x i) (t i) j : ℝ) : EReal) := by
  pointwise [k0_pay4, k0_dy g2 gf wg wu wd x t v60 hv60, hv53, hv51, h3]
  simp only [c1024, mul_r, sum_r, zero_r, div1024_r, sub_r]
  rfl

theorem k0_acc (a : FVec Ideal S1x128 .f32) (v c : EReal) (l : Fin 128) :
    k0_pay1 (F := Ideal) (k0_pay16 a) v c (ix2 0 l) = a (ix2 0 l) + c * v := by
  pointwise [k0_pay1, k0_pay16]

theorem k0_zero1 (l : Fin 128) : k0_pay5 (F := Ideal) (ix2 0 l) = 0 := by pointwise [k0_pay5]
theorem k0_zero2 (j : Fin 1024) : k0_pay6 (F := Ideal) (ix2 0 j) = 0 := by pointwise [k0_pay6]

end Fwd

section Bwd
variable (g2 gf : Row) (wg wu : Fin 1024 → Fin 2816 → ℝ) (wd : Fin 2816 → Fin 1024 → ℝ) (x t : Fin 256 → Row)
variable (d b : FVec Ideal S256x1024 .f32) (ga u : FVec Ideal S256x2816 .f32) (bg : FVec Ideal S1x1024 .f32)
variable (b4 b5 b6 : FVec Ideal S2816x1024 .bf16)
variable (hd : ∀ i j, d (ix2 i j) = ((dx2 g2 gf wg wu wd (x i) (t i) j : ℝ) : EReal))
variable (hb : ∀ i j, b (ix2 i j) = ((x i j : ℝ) : EReal))
variable (hga : ∀ i f, ga (ix2 i f) = ((gate g2 wg (x i) f : ℝ) : EReal)) (hu : ∀ i f, u (ix2 i f) = ((up g2 wu (x i) f : ℝ) : EReal))
variable (hg : ∀ j, bg (ix2 0 j) = ((g2 j : ℝ) : EReal))
variable (h4 : ∀ f j, b4 (ix2 f j) = ((wg j f : ℝ) : EReal)) (h5 : ∀ f j, b5 (ix2 f j) = ((wu j f : ℝ) : EReal))
variable (h6 : ∀ f j, b6 (ix2 f j) = ((wd f j : ℝ) : EReal))

include hd in
theorem k1_d (i : Fin 256) (j : Fin 1024) : k1_pay2 (F := Ideal) d (ix2 i j) = ((dx2 g2 gf wg wu wd (x i) (t i) j : ℝ) : EReal) := by
  pointwise [k1_pay2, hd]

include hd h6 in
theorem k1_dact (i : Fin 256) (f : Fin 2816) :
    k1_pay3 (F := Ideal) d b6 (ix2 i f) = ((dact g2 gf wg wu wd (x i) (t i) f : ℝ) : EReal) := by
  pointwise [k1_pay3, k1_pay2, hd, h6]
  simp only [mul_r, sum_r, zero_r]
  rfl

include hga in
theorem k1_gate (i : Fin 256) (f : Fin 2816) : k1_pay4 (F := Ideal) ga (ix2 i f) = ((gate g2 wg (x i) f : ℝ) : EReal) := by
  pointwise [k1_pay4, hga]

include hga in
theorem k1_sg (i : Fin 256) (f : Fin 2816) : k1_pay5 (F := Ideal) ga (ix2 i f) = ((sg (gate g2 wg (x i) f) : ℝ) : EReal) := by
  pointwise [k1_pay5, k1_pay4, hga]
  simp only [sg_sub_r]

include hd hga hu h6 in
theorem k1_dgate (i : Fin 256) (f : Fin 2816) :
    k1_pay6 (F := Ideal) d b6 ga u (ix2 i f) = ((dgate g2 gf wg wu wd (x i) (t i) f : ℝ) : EReal) := by
  pointwise [k1_pay6, k1_dact g2 gf wg wu wd x t d b6 hd h6, k1_gate g2 wg x ga hga, k1_sg g2 wg x ga hga, hu]
  simp only [mul_r, one_sub_r, one_add_r]
  rfl

include hd hga h6 in
theorem k1_dup (i : Fin 256) (f : Fin 2816) :
    k1_pay7 (F := Ideal) d b6 ga (ix2 i f) = ((dup g2 gf wg wu wd (x i) (t i) f : ℝ) : EReal) := by
  pointwise [k1_pay7, k1_dact g2 gf wg wu wd x t d b6 hd h6, k1_gate g2 wg x ga hga, k1_sg g2 wg x ga hga]
  simp only [mul_r]
  rfl

include hb in
theorem k1_rs (i : Fin 256) : k1_pay10 (F := Ideal) b (ix2 i 0) = ((rs (x i) : ℝ) : EReal) := by
  pointwise [k1_pay10, k1_pay9, hb]
  simp only [c1024, ceps, mul_r, sum_r, zero_r, div1024_r, add_r, rsqrt_r]

include hb in
theorem k1_nrm (i : Fin 256) (j : Fin 1024) : k1_pay11 (F := Ideal) b (ix2 i j) = ((nrm (x i) j : ℝ) : EReal) := by
  pointwise [k1_pay11, k1_pay9, k1_rs x b hb, hb]
  simp only [mul_r]
  rfl

variable (v4 : FVec Ideal S256x1024 .f32) (v28 v31 : FVec Ideal S256x2816 .bf16)
variable (hv4 : ∀ i j, v4 (ix2 i j) = ((dx2 g2 gf wg wu wd (x i) (t i) j : ℝ) : EReal))
variable (hv28 : ∀ i f, v28 (ix2 i f) = ((dgate g2 gf wg wu wd (x i) (t i) f : ℝ) : EReal))
variable (hv31 : ∀ i f, v31 (ix2 i f) = ((dup g2 gf wg wu wd (x i) (t i) f : ℝ) : EReal))

include h4 h5 hv28 hv31 in
theorem k1_dh (i : Fin 256) (j : Fin 1024) :
    k1_pay8 (F := Ideal) v28 v31 b4 b5 (ix2 i j) = ((dh g2 gf wg wu wd (x i) (t i) j : ℝ) : EReal) := by
  pointwise [k1_pay8, hv28, hv31, h4, h5]
  simp only [mul_r, sum_r, zero_r, add_r]
  rfl

include hb h4 h5 hv28 hv31 in
/-- The first scale's gradient: what the block adds to the accumulator. -/
theorem k1_dg2 (a : FVec Ideal S1x1024 .f32) (j : Fin 1024) :
    k1_pay12 (F := Ideal) v28 v31 b4 b5 b a (ix2 0 j) = a (ix2 0 j) + ((∑ i, dg2Row g2 gf wg wu wd (x i) (t i) j : ℝ) : EReal) := by
  pointwise [k1_pay12, k1_dh g2 gf wg wu wd x t b4 b5 h4 h5 v28 v31 hv28 hv31, k1_nrm x b hb]
  simp only [mul_r, sum_r, zero_r]
  rfl

include hb hg h4 h5 hv4 hv28 hv31 in
theorem k1_dx1 (i : Fin 256) (j : Fin 1024) :
    k1_pay13 (F := Ideal) v4 v28 v31 b4 b5 b bg (ix2 i j) = ((dx1 g2 gf wg wu wd (x i) (t i) j : ℝ) : EReal) := by
  pointwise [k1_pay13, k1_dh g2 gf wg wu wd x t b4 b5 h4 h5 v28 v31 hv28 hv31, k1_nrm x b hb, k1_rs x b hb, hv4, hg]
  simp only [c1024, mul_r, sum_r, zero_r, div1024_r, sub_r, add_r]
  rfl

theorem k1_zero (j : Fin 1024) : k1_pay1 (F := Ideal) (ix2 0 j) = 0 := by pointwise [k1_pay1]

end Bwd

section Wgrad
variable (hh : FVec Ideal S512x1024 .bf16) (d1 : FVec Ideal S512x1408 .bf16) (e : FVec Ideal S512x1024 .f32)
variable (p : Fin 512 → Fin 1024 → ℝ) (q : Fin 512 → Fin 1408 → ℝ)

theorem k2_acc1 (hp : ∀ i j, hh (ix2 i j) = ((p i j : ℝ) : EReal)) (hq : ∀ i f, d1 (ix2 i f) = ((q i f : ℝ) : EReal))
    (a : FVec Ideal S1408x1024 .f32) (f : Fin 1408) (j : Fin 1024) :
    k2_pay5 (F := Ideal) hh a d1 (ix2 f j) = a (ix2 f j) + ((∑ i, q i f * p i j : ℝ) : EReal) := by
  pointwise [k2_pay5, k2_pay4, hp, hq]
  simp only [mul_r, sum_r, zero_r]

theorem k2_acc2 (hp : ∀ i j, hh (ix2 i j) = ((p i j : ℝ) : EReal)) (hq : ∀ i f, d1 (ix2 i f) = ((q i f : ℝ) : EReal))
    (a : FVec Ideal S1408x1024 .f32) (f : Fin 1408) (j : Fin 1024) :
    k2_pay6 (F := Ideal) hh a d1 (ix2 f j) = a (ix2 f j) + ((∑ i, q i f * p i j : ℝ) : EReal) := by
  pointwise [k2_pay6, k2_pay4, hp, hq]
  simp only [mul_r, sum_r, zero_r]

theorem k2_acc3 (hp : ∀ i j, e (ix2 i j) = ((p i j : ℝ) : EReal)) (hq : ∀ i f, d1 (ix2 i f) = ((q i f : ℝ) : EReal))
    (a : FVec Ideal S1408x1024 .f32) (f : Fin 1408) (j : Fin 1024) :
    k2_pay7 (F := Ideal) a d1 e (ix2 f j) = a (ix2 f j) + ((∑ i, q i f * p i j : ℝ) : EReal) := by
  pointwise [k2_pay7, hp, hq]
  simp only [mul_r, sum_r, zero_r]

theorem k2_zero1 (f : Fin 1408) (j : Fin 1024) : k2_pay1 (F := Ideal) (ix2 f j) = 0 := by pointwise [k2_pay1]
theorem k2_zero2 (f : Fin 1408) (j : Fin 1024) : k2_pay2 (F := Ideal) (ix2 f j) = 0 := by pointwise [k2_pay2]
theorem k2_zero3 (f : Fin 1408) (j : Fin 1024) : k2_pay3 (F := Ideal) (ix2 f j) = 0 := by pointwise [k2_pay3]

end Wgrad

end Cert.FfnIdeal.Value

end
-- ==== Proof.FfnRows.lean ====
/- The rows a grid point of the two kernels works on. -/
module

public import Idealize.ShloMosaic.Lib.Pipeline.ValueKit
public import proofs.«01_k».proof.Proof.FfnPay

@[expose] public section

noncomputable section

namespace Cert.FfnIdeal.Value

open Idealize.ShloMosaic
open Cert.FfnMath

/-- The 256 rows of point `t`. -/
def rows (x : Fin 8192 → Row) (t : ℕ) (ht : t < 32) : Fin 256 → Row := fun i => x ⟨t * 256 + i, by omega⟩

/-- A sum over the rows, taken 256 rows at a time. -/
theorem sum_rows (x : Fin 8192 → ℝ) : (∑ s : Fin 32, ∑ i : Fin 256, x ⟨s * 256 + i, by omega⟩) = ∑ r, x r :=
  Fin.sum_mul_add_congr fun s k hl => rfl

/-- The points' parts of a sum over the rows add up to the sum. -/
theorem sum_points (f : Fin 8192 → ℝ) (P : Fin 32 → ℝ) (h : ∀ s : Fin 32, P s = ∑ i : Fin 256, f ⟨s * 256 + i, by omega⟩)
    (k : ℕ) (hk : k = 0) (hb : ∀ s : Fin 32, 32 * k + s < 32) :
    (∑ s : Fin 32, ((P ⟨32 * k + s, hb s⟩ : ℝ) : EReal)) = ((∑ r, f r : ℝ) : EReal) := by
  subst hk
  rw [← sum_rows f, ← sum_r]
  refine Finset.sum_congr rfl fun s _ => congrArg _ ?_
  rw [← h]
  exact congrArg P (Fin.ext (by show 32 * 0 + s.val = s.val; omega))

end Cert.FfnIdeal.Value

end
-- ==== Proof.FfnRegion0.lean ====
/- The forward kernel's arrays after its run, over the real numbers. -/
module

public import Idealize.ShloMosaic.Lib.Pipeline.ValueKit
public import proofs.«01_k».proof.Proof.FfnRows
public import proofs.«01_k».proof.Proof.Gen.FfnIdeal.Frame.Region0

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![0, 0] ∧ win0_13.index t = ![0, 0] :=
  (by decide +kernel : ∀ t : Fin grid0.N, _)

variable (V : (c : Dev nD) → (b : Ref sig .tc) → Buf (Elt Ideal) ((c : Thread nD τ).loc b)) (c : Dev nD)
variable (g2 gf : Row) (wg wu : Fin 1024 → Fin 2816 → ℝ) (wd : Fin 2816 → Fin 1024 → ℝ) (x y : Fin 8192 → Row)

section Blocks
variable (h0 : ∀ i j, (V c main_v7 : FVec Ideal S8192x1024 .f32) (ix2 i j) = ((x i j : ℝ) : EReal))
variable (h1 : ∀ i j, (V c main_v8 : FVec Ideal S8192x1024 .f32) (ix2 i j) = ((y i j : ℝ) : EReal))
variable (h2 : ∀ j, (V c main_v5 : FVec Ideal S1x1024 .f32) (ix2 0 j) = ((g2 j : ℝ) : EReal))
variable (h3 : ∀ j, (V c main_v6 : FVec Ideal S1x1024 .f32) (ix2 0 j) = ((gf j : ℝ) : EReal))
variable (h4 : ∀ f j, (V c main_v1 : FVec Ideal S2816x1024 .bf16) (ix2 f j) = ((wg j f : ℝ) : EReal))
variable (h5 : ∀ f j, (V c main_v3 : FVec Ideal S2816x1024 .bf16) (ix2 f j) = ((wu j f : ℝ) : EReal))
variable (h6 : ∀ f j, (V c main_v4 : FVec Ideal S2816x1024 .bf16) (ix2 f j) = ((wd f j : ℝ) : EReal))
variable (t : Fin cfg0.N)

include h0 in
theorem b0_0 (i : Fin 256) (j : Fin 1024) : (iblk0 V c 0 t : FVec Ideal S256x1024 .f32) (ix2 i j) = ((rows x t.val t.isLt i j : ℝ) : EReal) := by
  refine Eq.trans ?_ (h0 _ _); blk_point [iblk0, idx0 t]
include h1 in
theorem b0_1 (i : Fin 256) (j : Fin 1024) : (iblk0 V c 1 t : FVec Ideal S256x1024 .f32) (ix2 i j) = ((rows y t.val t.isLt i j : ℝ) : EReal) := by
  refine Eq.trans ?_ (h1 _ _); blk_point [iblk0, idx0 t]
include h2 in
theorem b0_2 (j : Fin 1024) : (iblk0 V c 2 t : FVec Ideal S1x1024 .f32) (ix2 0 j) = ((g2 j : ℝ) : EReal) := by
  refine Eq.trans ?_ (h2 _); blk_point [iblk0, idx0 t]
include h3 in
theorem b0_3 (j : Fin 1024) : (iblk0 V c 3 t : FVec Ideal S1x1024 .f32) (ix2 0 j) = ((gf j : ℝ) : EReal) := by
  refine Eq.trans ?_ (h3 _); blk_point [iblk0, idx0 t]
include h4 in
theorem b0_4 (f : Fin 2816) (j : Fin 1024) : (iblk0 V c 4 t : FVec Ideal S2816x1024 .bf16) (ix2 f j) = ((wg j f : ℝ) : EReal) := by
  refine Eq.trans ?_ (h4 _ _); blk_point [iblk0, idx0 t]
include h5 in
theorem b0_5 (f : Fin 2816) (j : Fin 1024) : (iblk0 V c 5 t : FVec Ideal S2816x1024 .bf16) (ix2 f j) = ((wu j f : ℝ) : EReal) := by
  refine Eq.trans ?_ (h5 _ _); blk_point [iblk0, idx0 t]
include h6 in
theorem b0_6 (f : Fin 2816) (j : Fin 1024) : (iblk0 V c 6 t : FVec Ideal S2816x1024 .bf16) (ix2 f j) = ((wd f j : ℝ) : EReal) := by
  refine Eq.trans ?_ (h6 _ _); blk_point [iblk0, idx0 t]

include h0 h2 in
theorem arr0_hid : (dat0 V c).arrAt 7 cfg0.N
    = (fun i => ((hid g2 (x (i 0)) (i 1) : ℝ) : EReal) : FVec Ideal S8192x1024 .bf16) := by
  refine (dat0 V c).arrAt_eq_of_covers 7 _ (by decide +kernel) fun t _ z => ?_
  have e := k0_hid g2 (rows x t.val t.isLt) _ _ (b0_0 V c x h0 t) (b0_2 V c g2 h2 t)
  blk_simp [idx0 t]
  rw [after0_7]
  by_cases h : t.val % 32 = 0
  · rw [outsAt0_A V c t h]; frame_out
    idx_vars z
    refine (e _ _).trans (congrArg _ (congrArg₂ (fun r j => hid g2 (x r) j) (Fin.ext ?_) (Fin.ext ?_))) <;> blk_simp [idx0 t]
  · rw [outsAt0_B V c t h]; frame_out
    idx_vars z
    refine (e _ _).trans (congrArg _ (congrArg₂ (fun r j => hid g2 (x r) j) (Fin.ext ?_) (Fin.ext ?_))) <;> blk_simp [idx0 t]

include h0 h2 h4 in
theorem arr0_gate : (dat0 V c).arrAt 8 cfg0.N
    = (fun i => ((gate g2 wg (x (i 0)) (i 1) : ℝ) : EReal) : FVec Ideal S8192x2816 .f32) := by
  refine (dat0 V c).arrAt_eq_of_covers 8 _ (by decide +kernel) fun t _ z => ?_
  have e := k0_gate g2 wg (rows x t.val t.isLt) _ _ _ (b0_0 V c x h0 t) (b0_2 V c g2 h2 t) (b0_4 V c wg h4 t)
  blk_simp [idx0 t]
  rw [after0_8]
  by_cases h : t.val % 32 = 0
  · rw [outsAt0_A V c t h]; frame_out
    idx_vars z
    refine (e _ _).trans (congrArg _ (congrArg₂ (fun r j => gate g2 wg (x r) j) (Fin.ext ?_) (Fin.ext ?_))) <;> blk_simp [idx0 t]
  · rw [outsAt0_B V c t h]; frame_out
    idx_vars z
    refine (e _ _).trans (congrArg _ (congrArg₂ (fun r j => gate g2 wg (x r) j) (Fin.ext ?_) (Fin.ext ?_))) <;> blk_simp [idx0 t]

include h0 h2 h5 in
theorem arr0_up : (dat0 V c).arrAt 9 cfg0.N
    = (fun i => ((up g2 wu (x (i 0)) (i 1) : ℝ) : EReal) : FVec Ideal S8192x2816 .f32) := by
  refine (dat0 V c).arrAt_eq_of_covers 9 _ (by decide +kernel) fun t _ z => ?_
  have e := k0_up g2 wu (rows x t.val t.isLt) _ _ _ (b0_0 V c x h0 t) (b0_2 V c g2 h2 t) (b0_5 V c wu h5 t)
  blk_simp [idx0 t]
  rw [after0_9]
  by_cases h : t.val % 32 = 0
  · rw [outsAt0_A V c t h]; frame_out
    idx_vars z
    refine (e _ _).trans (congrArg _ (congrArg₂ (fun r j => up g2 wu (x r) j) (Fin.ext ?_) (Fin.ext ?_))) <;> blk_simp [idx0 t]
  · rw [outsAt0_B V c t h]; frame_out
    idx_vars z
    refine (e _ _).trans (congrArg _ (congrArg₂ (fun r j => up g2 wu (x r) j) (Fin.ext ?_) (Fin.ext ?_))) <;> blk_simp [idx0 t]

include h0 h2 h4 h5 in
theorem arr0_act : (dat0 V c).arrAt 10 cfg0.N
    = (fun i => ((act g2 wg wu (x (i 0)) (i 1) : ℝ) : EReal) : FVec Ideal S8192x2816 .bf16) := by
  refine (dat0 V c).arrAt_eq_of_covers 10 _ (by decide +kernel) fun t _ z => ?_
  have e := k0_act g2 wg wu (rows x t.val t.isLt) _ _ _ _ (b0_0 V c x h0 t) (b0_2 V c g2 h2 t) (b0_4 V c wg h4 t) (b0_5 V c wu h5 t)
  blk_simp [idx0 t]
  rw [after0_10]
  by_cases h : t.val % 32 = 0
  · rw [outsAt0_A V c t h]; frame_out
    idx_vars z
    refine (e _ _).trans (congrArg _ (congrArg₂ (fun r j => act g2 wg wu (x r) j) (Fin.ext ?_) (Fin.ext ?_))) <;> blk_simp [idx0 t]
  · rw [outsAt0_B V c t h]; frame_out
    idx_vars z
    refine (e _ _).trans (congrArg _ (congrArg₂ (fun r j => act g2 wg wu (x r) j) (Fin.ext ?_) (Fin.ext ?_))) <;> blk_simp [idx0 t]

include h0 h1 h2 h3 h4 h5 h6 in
theorem arr0_dx2 : (dat0 V c).arrAt 11 cfg0.N
    = (fun i => ((dx2 g2 gf wg wu wd (x (i 0)) (y (i 0)) (i 1) : ℝ) : EReal) : FVec Ideal S8192x1024 .f32) := by
  refine (dat0 V c).arrAt_eq_of_covers 11 _ (by decide +kernel) fun t _ z => ?_
  have e4 := k0_x (rows x t.val t.isLt) _ (b0_0 V c x h0 t)
  have e36 := k0_act g2 wg wu (rows x t.val t.isLt) _ _ _ _ (b0_0 V c x h0 t) (b0_2 V c g2 h2 t) (b0_4 V c wg h4 t) (b0_5 V c wu h5 t)
  have e51 := k0_rs g2 wg wu wd (rows x t.val t.isLt) _ (b0_6 V c wd h6 t) _ _ e4 e36
  have e53 := k0_nrm g2 wg wu wd (rows x t.val t.isLt) _ (b0_6 V c wd h6 t) _ _ e4 e36
  have e60 := k0_err g2 gf wg wu wd (rows x t.val t.isLt) (rows y t.val t.isLt) _ _ _ (b0_1 V c y h1 t) (b0_3 V c gf h3 t) (b0_6 V c wd h6 t) _ _ e4 e36
  have e := k0_dx2 g2 gf wg wu wd (rows x t.val t.isLt) (rows y t.val t.isLt) _ (b0_3 V c gf h3 t) _ _ _ e53 e60 e51
  blk_simp [idx0 t]
  rw [after0_11]
  by_cases h : t.val % 32 = 0
  · rw [outsAt0_A V c t h]; frame_out
    idx_vars z
    refine (e _ _).trans (congrArg _ (congrArg₂ (fun r j => dx2 g2 gf wg wu wd (x r) (y r) j) (Fin.ext ?_) (Fin.ext ?_))) <;> blk_simp [idx0 t]
  · rw [outsAt0_B V c t h]; frame_out
    idx_vars z
    refine (e _ _).trans (congrArg _ (congrArg₂ (fun r j => dx2 g2 gf wg wu wd (x r) (y r) j) (Fin.ext ?_) (Fin.ext ?_))) <;> blk_simp [idx0 t]

end Blocks

end Cert.FfnIdeal.Value

end
-- ==== Proof.FfnRegion0b.lean ====
/- The loss, which the forward kernel adds up over its grid. -/
module

public import Idealize.ShloMosaic.Lib.Pipeline.ValueKit
public import proofs.«01_k».proof.Proof.FfnRegion0

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

variable (V : (c : Dev nD) → (b : Ref sig .tc) → Buf (Elt Ideal) ((c : Thread nD τ).loc b)) (c : Dev nD)
variable (g2 gf : Row) (wg wu : Fin 1024 → Fin 2816 → ℝ) (wd : Fin 2816 → Fin 1024 → ℝ) (x y : Fin 8192 → Row)

section Blocks
variable (h0 : ∀ i j, (V c main_v7 : FVec Ideal S8192x1024 .f32) (ix2 i j) = ((x i j : ℝ) : EReal))
variable (h1 : ∀ i j, (V c main_v8 : FVec Ideal S8192x1024 .f32) (ix2 i j) = ((y i j : ℝ) : EReal))
variable (h2 : ∀ j, (V c main_v5 : FVec Ideal S1x1024 .f32) (ix2 0 j) = ((g2 j : ℝ) : EReal))
variable (h3 : ∀ j, (V c main_v6 : FVec Ideal S1x1024 .f32) (ix2 0 j) = ((gf j : ℝ) : EReal))
variable (h4 : ∀ f j, (V c main_v1 : FVec Ideal S2816x1024 .bf16) (ix2 f j) = ((wg j f : ℝ) : EReal))
variable (h5 : ∀ f j, (V c main_v3 : FVec Ideal S2816x1024 .bf16) (ix2 f j) = ((wu j f : ℝ) : EReal))
variable (h6 : ∀ f j, (V c main_v4 : FVec Ideal S2816x1024 .bf16) (ix2 f j) = ((wd f j : ℝ) : EReal))

/-- What point `t` adds to the loss. -/
def lossPart (t : Fin cfg0.N) : ℝ := 1 / 2 * ∑ i, lossRow g2 gf wg wu wd (rows x t.val t.isLt i) (rows y t.val t.isLt i)

include h0 h1 h2 h3 h4 h5 h6 in
theorem arr0_loss : (dat0 V c).arrAt 12 cfg0.N = (fun i => ((1 / 2 * ∑ r, lossRow g2 gf wg wu wd (x r) (y r) : ℝ) : EReal) : FVec Ideal S1x128 .f32) := by
  refine (dat0 V c).arrAt_eq_of_covers 12 _ (by decide +kernel) fun t hf z => ?_
  blk_simp
  rw [after0_12, Pipeline.eq_sum_fin_of_reset_step_apply_of_flush (fun n h => (outsAt0 V c n h).2.2.2.2.2.1) 32 (fun _ => 0)
    (fun t j => ((lossPart g2 gf wg wu wd x y t : ℝ) : EReal))
    (fun t h j => by
      have e4 := k0_x (rows x t.val t.isLt) _ (b0_0 V c x h0 t)
      have e36 := k0_act g2 wg wu (rows x t.val t.isLt) _ _ _ _ (b0_0 V c x h0 t) (b0_2 V c g2 h2 t) (b0_4 V c wg h4 t) (b0_5 V c wu h5 t)
      have el := k0_loss g2 gf wg wu wd (rows x t.val t.isLt) (rows y t.val t.isLt) _ _ _ (b0_1 V c y h1 t) (b0_3 V c gf h3 t) (b0_6 V c wd h6 t) _ _ e4 e36
      rw [outsAt0_A V c t h]; frame_out
      idx_vars j
      obtain rfl : j0 = 0 := Subsingleton.elim _ _
      rw [k0_acc, el, k0_zero1]; exact congrArg (0 + ·) ((congrArg (· * _) chalf).trans (mul_r _ _)))
    (fun t h j => by
      have e4 := k0_x (rows x t.val t.isLt) _ (b0_0 V c x h0 t)
      have e36 := k0_act g2 wg wu (rows x t.val t.isLt) _ _ _ _ (b0_0 V c x h0 t) (b0_2 V c g2 h2 t) (b0_4 V c wg h4 t) (b0_5 V c wu h5 t)
      have el := k0_loss g2 gf wg wu wd (rows x t.val t.isLt) (rows y t.val t.isLt) _ _ _ (b0_1 V c y h1 t) (b0_3 V c gf h3 t) (b0_6 V c wd h6 t) _ _ e4 e36
      rw [outsAt0_B V c t h]; frame_out
      idx_vars j
      obtain rfl : j0 = 0 := Subsingleton.elim _ _
      rw [k0_acc, el]; exact congrArg (_ + ·) ((congrArg (· * _) chalf).trans (mul_r _ _)))
    t ((flush0_12 t).mp hf) _, zero_add]
  have ht : t.val < 32 := t.isLt
  show (_ : EReal) = _
  rw [Finset.mul_sum]

  exact sum_points (fun r => 1 / 2 * lossRow g2 gf wg wu wd (x r) (y r)) (fun t => lossPart g2 gf wg wu wd x y t) (fun s => Finset.mul_sum ..) _ (by omega) _

end Blocks

end Cert.FfnIdeal.Value

end
-- ==== Proof.FfnRegion0c.lean ====
/- The last scale's gradient, which the forward kernel adds up over its grid. -/
module

public import Idealize.ShloMosaic.Lib.Pipeline.ValueKit
public import proofs.«01_k».proof.Proof.FfnRegion0

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

variable (V : (c : Dev nD) → (b : Ref sig .tc) → Buf (Elt Ideal) ((c : Thread nD τ).loc b)) (c : Dev nD)
variable (g2 gf : Row) (wg wu : Fin 1024 → Fin 2816 → ℝ) (wd : Fin 2816 → Fin 1024 → ℝ) (x y : Fin 8192 → Row)

section Blocks
variable (h0 : ∀ i j, (V c main_v7 : FVec Ideal S8192x1024 .f32) (ix2 i j) = ((x i j : ℝ) : EReal))
variable (h1 : ∀ i j, (V c main_v8 : FVec Ideal S8192x1024 .f32) (ix2 i j) = ((y i j : ℝ) : EReal))
variable (h2 : ∀ j, (V c main_v5 : FVec Ideal S1x1024 .f32) (ix2 0 j) = ((g2 j : ℝ) : EReal))
variable (h3 : ∀ j, (V c main_v6 : FVec Ideal S1x1024 .f32) (ix2 0 j) = ((gf j : ℝ) : EReal))
variable (h4 : ∀ f j, (V c main_v1 : FVec Ideal S2816x1024 .bf16) (ix2 f j) = ((wg j f : ℝ) : EReal))
variable (h5 : ∀ f j, (V c main_v3 : FVec Ideal S2816x1024 .bf16) (ix2 f j) = ((wu j f : ℝ) : EReal))
variable (h6 : ∀ f j, (V c main_v4 : FVec Ideal S2816x1024 .bf16) (ix2 f j) = ((wd f j : ℝ) : EReal))

/-- What point `t` adds to the last scale's gradient. -/
def dgfPart (t : Fin cfg0.N) (j : Fin 1024) : ℝ := ∑ i, dgfRow g2 gf wg wu wd (rows x t.val t.isLt i) (rows y t.val t.isLt i) j

include h0 h1 h2 h3 h4 h5 h6 in
theorem arr0_dgf : (dat0 V c).arrAt 13 cfg0.N = (fun i => ((∑ r, dgfRow g2 gf wg wu wd (x r) (y r) (i 1) : ℝ) : EReal) : FVec Ideal S1x1024 .f32) := by
  refine (dat0 V c).arrAt_eq_of_covers 13 _ (by decide +kernel) fun t hf z => ?_
  blk_simp
  rw [after0_13, Pipeline.eq_sum_fin_of_reset_step_apply_of_flush (fun n h => (outsAt0 V c n h).2.2.2.2.2.2) 32 (fun _ => 0)
    (fun t j => ((dgfPart g2 gf wg wu wd x y t (j 1) : ℝ) : EReal))
    (fun t h j => by
      have e4 := k0_x (rows x t.val t.isLt) _ (b0_0 V c x h0 t)
      have e36 := k0_act g2 wg wu (rows x t.val t.isLt) _ _ _ _ (b0_0 V c x h0 t) (b0_2 V c g2 h2 t) (b0_4 V c wg h4 t) (b0_5 V c wu h5 t)
      have e53 := k0_nrm g2 wg wu wd (rows x t.val t.isLt) _ (b0_6 V c wd h6 t) _ _ e4 e36
      have e60 := k0_err g2 gf wg wu wd (rows x t.val t.isLt) (rows y t.val t.isLt) _ _ _ (b0_1 V c y h1 t) (b0_3 V c gf h3 t) (b0_6 V c wd h6 t) _ _ e4 e36
      have e := k0_dgf g2 gf wg wu wd (rows x t.val t.isLt) (rows y t.val t.isLt) _ _ e53 e60
      rw [outsAt0_A V c t h]; frame_out
      idx_vars j
      obtain rfl : j0 = 0 := Subsingleton.elim _ _
      exact (e _ _).trans (congrArg (· + _) (k0_zero2 _)))
    (fun t h j => by
      have e4 := k0_x (rows x t.val t.isLt) _ (b0_0 V c x h0 t)
      have e36 := k0_act g2 wg wu (rows x t.val t.isLt) _ _ _ _ (b0_0 V c x h0 t) (b0_2 V c g2 h2 t) (b0_4 V c wg h4 t) (b0_5 V c wu h5 t)
      have e53 := k0_nrm g2 wg wu wd (rows x t.val t.isLt) _ (b0_6 V c wd h6 t) _ _ e4 e36
      have e60 := k0_err g2 gf wg wu wd (rows x t.val t.isLt) (rows y t.val t.isLt) _ _ _ (b0_1 V c y h1 t) (b0_3 V c gf h3 t) (b0_6 V c wd h6 t) _ _ e4 e36
      have e := k0_dgf g2 gf wg wu wd (rows x t.val t.isLt) (rows y t.val t.isLt) _ _ e53 e60
      rw [outsAt0_B V c t h]; frame_out
      idx_vars j
      obtain rfl : j0 = 0 := Subsingleton.elim _ _
      exact e _ _)
    t ((flush0_13 t).mp hf) _, zero_add]
  have ht : t.val < 32 := t.isLt
  show (_ : EReal) = _
  idx_vars z
  rw [show (((cfg0.win 13).blk t).view.emb (ix2 z0 z1) 1) = z1 from Fin.ext (by blk_simp [idx0 t])]
  exact sum_points (fun r => dgfRow g2 gf wg wu wd (x r) (y r) z1) (fun t => dgfPart g2 gf wg wu wd x y t z1) (fun s => rfl) _ (by omega) _

end Blocks

end Cert.FfnIdeal.Value

end
-- ==== Proof.FfnRegion1.lean ====
/- The backward kernel's arrays after its run, over the real numbers, from the arrays it finds. -/
module

public import Idealize.ShloMosaic.Lib.Pipeline.ValueKit
public import proofs.«01_k».proof.Proof.FfnRows
public import proofs.«01_k».proof.Proof.Gen.FfnIdeal.Frame.Region1

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![t.val, 0] ∧ win1_9.index t = ![t.val, 0]
    ∧ win1_10.index t = ![t.val, 0] ∧ win1_11.index t = ![0, 0] :=
  (by decide +kernel : ∀ t : Fin grid1.N, _)

variable (V : (c : Dev nD) → (b : Ref sig .tc) → Buf (Elt Ideal) ((c : Thread nD τ).loc b)) (c : Dev nD)
variable (g2 gf : Row) (wg wu : Fin 1024 → Fin 2816 → ℝ) (wd : Fin 2816 → Fin 1024 → ℝ) (x y : Fin 8192 → Row)

section Blocks
variable (h0 : ∀ i j, (V c main_v9_4 : FVec Ideal S8192x1024 .f32) (ix2 i j) = ((dx2 g2 gf wg wu wd (x i) (y i) j : ℝ) : EReal))
variable (h1 : ∀ i f, (V c main_v9_1 : FVec Ideal S8192x2816 .f32) (ix2 i f) = ((gate g2 wg (x i) f : ℝ) : EReal))
variable (h2 : ∀ i f, (V c main_v9_2 : FVec Ideal S8192x2816 .f32) (ix2 i f) = ((up g2 wu (x i) f : ℝ) : EReal))
variable (h3 : ∀ i j, (V c main_v10 : FVec Ideal S8192x1024 .f32) (ix2 i j) = ((x i j : ℝ) : EReal))
variable (h4 : ∀ j, (V c main_v5 : FVec Ideal S1x1024 .f32) (ix2 0 j) = ((g2 j : ℝ) : EReal))
variable (h5 : ∀ f j, (V c main_v1 : FVec Ideal S2816x1024 .bf16) (ix2 f j) = ((wg j f : ℝ) : EReal))
variable (h6 : ∀ f j, (V c main_v3 : FVec Ideal S2816x1024 .bf16) (ix2 f j) = ((wu j f : ℝ) : EReal))
variable (h7 : ∀ f j, (V c main_v4 : FVec Ideal S2816x1024 .bf16) (ix2 f j) = ((wd f j : ℝ) : EReal))
variable (t : Fin cfg1.N)

include h0 in
theorem b1_0 (i : Fin 256) (j : Fin 1024) : (iblk1 V c 0 t : FVec Ideal S256x1024 .f32) (ix2 i j) = ((dx2 g2 gf wg wu wd (rows x t.val t.isLt i) (rows y t.val t.isLt i) j : ℝ) : EReal) := by
  refine Eq.trans ?_ (h0 _ _); blk_point [iblk1, idx1 t]
include h1 in
theorem b1_1 (i : Fin 256) (f : Fin 2816) : (iblk1 V c 1 t : FVec Ideal S256x2816 .f32) (ix2 i f) = ((gate g2 wg (rows x t.val t.isLt i) f : ℝ) : EReal) := by
  refine Eq.trans ?_ (h1 _ _); blk_point [iblk1, idx1 t]
include h2 in
theorem b1_2 (i : Fin 256) (f : Fin 2816) : (iblk1 V c 2 t : FVec Ideal S256x2816 .f32) (ix2 i f) = ((up g2 wu (rows x t.val t.isLt i) f : ℝ) : EReal) := by
  refine Eq.trans ?_ (h2 _ _); blk_point [iblk1, idx1 t]
include h3 in
theorem b1_3 (i : Fin 256) (j : Fin 1024) : (iblk1 V c 3 t : FVec Ideal S256x1024 .f32) (ix2 i j) = ((rows x t.val t.isLt i j : ℝ) : EReal) := by
  refine Eq.trans ?_ (h3 _ _); blk_point [iblk1, idx1 t]
include h4 in
theorem b1_4 (j : Fin 1024) : (iblk1 V c 4 t : FVec Ideal S1x1024 .f32) (ix2 0 j) = ((g2 j : ℝ) : EReal) := by
  refine Eq.trans ?_ (h4 _); blk_point [iblk1, idx1 t]
include h5 in
theorem b1_5 (f : Fin 2816) (j : Fin 1024) : (iblk1 V c 5 t : FVec Ideal S2816x1024 .bf16) (ix2 f j) = ((wg j f : ℝ) : EReal) := by
  refine Eq.trans ?_ (h5 _ _); blk_point [iblk1, idx1 t]
include h6 in
theorem b1_6 (f : Fin 2816) (j : Fin 1024) : (iblk1 V c 6 t : FVec Ideal S2816x1024 .bf16) (ix2 f j) = ((wu j f : ℝ) : EReal) := by
  refine Eq.trans ?_ (h6 _ _); blk_point [iblk1, idx1 t]
include h7 in
theorem b1_7 (f : Fin 2816) (j : Fin 1024) : (iblk1 V c 7 t : FVec Ideal S2816x1024 .bf16) (ix2 f j) = ((wd f j : ℝ) : EReal) := by
  refine Eq.trans ?_ (h7 _ _); blk_point [iblk1, idx1 t]

include h0 h1 h2 h7 in
theorem arr1_dgate : (dat1 V c).arrAt 8 cfg1.N
    = (fun i => ((dgate g2 gf wg wu wd (x (i 0)) (y (i 0)) (i 1) : ℝ) : EReal) : FVec Ideal S8192x2816 .bf16) := by
  refine (dat1 V c).arrAt_eq_of_covers 8 _ (by decide +kernel) fun t _ z => ?_
  have e := k1_dgate g2 gf wg wu wd (rows x t.val t.isLt) (rows y t.val t.isLt) _ _ _ _ (b1_0 V c g2 gf wg wu wd x y h0 t) (b1_1 V c g2 wg x h1 t) (b1_2 V c g2 wu x h2 t) (b1_7 V c wd h7 t)
  blk_simp [idx1 t]
  rw [after1_8]
  by_cases h : t.val % 32 = 0
  · rw [outsAt1_A V c t h]; frame_out
    idx_vars z
    refine (e _ _).trans (congrArg _ (congrArg₂ (fun r j => dgate g2 gf wg wu wd (x r) (y r) j) (Fin.ext ?_) (Fin.ext ?_))) <;> blk_simp [idx1 t]
  · rw [outsAt1_B V c t h]; frame_out
    idx_vars z
    refine (e _ _).trans (congrArg _ (congrArg₂ (fun r j => dgate g2 gf wg wu wd (x r) (y r) j) (Fin.ext ?_) (Fin.ext ?_))) <;> blk_simp [idx1 t]

include h0 h1 h7 in
theorem arr1_dup : (dat1 V c).arrAt 9 cfg1.N
    = (fun i => ((dup g2 gf wg wu wd (x (i 0)) (y (i 0)) (i 1) : ℝ) : EReal) : FVec Ideal S8192x2816 .bf16) := by
  refine (dat1 V c).arrAt_eq_of_covers 9 _ (by decide +kernel) fun t _ z => ?_
  have e := k1_dup g2 gf wg wu wd (rows x t.val t.isLt) (rows y t.val t.isLt) _ _ _ (b1_0 V c g2 gf wg wu wd x y h0 t) (b1_1 V c g2 wg x h1 t) (b1_7 V c wd h7 t)
  blk_simp [idx1 t]
  rw [after1_9]
  by_cases h : t.val % 32 = 0
  · rw [outsAt1_A V c t h]; frame_out
    idx_vars z
    refine (e _ _).trans (congrArg _ (congrArg₂ (fun r j => dup g2 gf wg wu wd (x r) (y r) j) (Fin.ext ?_) (Fin.ext ?_))) <;> blk_simp [idx1 t]
  · rw [outsAt1_B V c t h]; frame_out
    idx_vars z
    refine (e _ _).trans (congrArg _ (congrArg₂ (fun r j => dup g2 gf wg wu wd (x r) (y r) j) (Fin.ext ?_) (Fin.ext ?_))) <;> blk_simp [idx1 t]

end Blocks

end Cert.FfnIdeal.Value

end
-- ==== Proof.FfnRegion1b.lean ====
/- The gradient of the rows that enter the layer, after the backward kernel's run. -/
module

public import Idealize.ShloMosaic.Lib.Pipeline.ValueKit
public import proofs.«01_k».proof.Proof.FfnRegion1

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

variable (V : (c : Dev nD) → (b : Ref sig .tc) → Buf (Elt Ideal) ((c : Thread nD τ).loc b)) (c : Dev nD)
variable (g2 gf : Row) (wg wu : Fin 1024 → Fin 2816 → ℝ) (wd : Fin 2816 → Fin 1024 → ℝ) (x y : Fin 8192 → Row)

section Blocks
variable (h0 : ∀ i j, (V c main_v9_4 : FVec Ideal S8192x1024 .f32) (ix2 i j) = ((dx2 g2 gf wg wu wd (x i) (y i) j : ℝ) : EReal))
variable (h1 : ∀ i f, (V c main_v9_1 : FVec Ideal S8192x2816 .f32) (ix2 i f) = ((gate g2 wg (x i) f : ℝ) : EReal))
variable (h2 : ∀ i f, (V c main_v9_2 : FVec Ideal S8192x2816 .f32) (ix2 i f) = ((up g2 wu (x i) f : ℝ) : EReal))
variable (h3 : ∀ i j, (V c main_v10 : FVec Ideal S8192x1024 .f32) (ix2 i j) = ((x i j : ℝ) : EReal))
variable (h4 : ∀ j, (V c main_v5 : FVec Ideal S1x1024 .f32) (ix2 0 j) = ((g2 j : ℝ) : EReal))
variable (h5 : ∀ f j, (V c main_v1 : FVec Ideal S2816x1024 .bf16) (ix2 f j) = ((wg j f : ℝ) : EReal))
variable (h6 : ∀ f j, (V c main_v3 : FVec Ideal S2816x1024 .bf16) (ix2 f j) = ((wu j f : ℝ) : EReal))
variable (h7 : ∀ f j, (V c main_v4 : FVec Ideal S2816x1024 .bf16) (ix2 f j) = ((wd f j : ℝ) : EReal))

include h0 h1 h2 h3 h4 h5 h6 h7 in
theorem arr1_dx1 : (dat1 V c).arrAt 10 cfg1.N
    = (fun i => ((dx1 g2 gf wg wu wd (x (i 0)) (y (i 0)) (i 1) : ℝ) : EReal) : FVec Ideal S8192x1024 .f32) := by
  refine (dat1 V c).arrAt_eq_of_covers 10 _ (by decide +kernel) fun t _ z => ?_
  have e4 := k1_d g2 gf wg wu wd (rows x t.val t.isLt) (rows y t.val t.isLt) _ (b1_0 V c g2 gf wg wu wd x y h0 t)
  have e28 := k1_dgate g2 gf wg wu wd (rows x t.val t.isLt) (rows y t.val t.isLt) _ _ _ _ (b1_0 V c g2 gf wg wu wd x y h0 t) (b1_1 V c g2 wg x h1 t) (b1_2 V c g2 wu x h2 t) (b1_7 V c wd h7 t)
  have e31 := k1_dup g2 gf wg wu wd (rows x t.val t.isLt) (rows y t.val t.isLt) _ _ _ (b1_0 V c g2 gf wg wu wd x y h0 t) (b1_1 V c g2 wg x h1 t) (b1_7 V c wd h7 t)
  have e := k1_dx1 g2 gf wg wu wd (rows x t.val t.isLt) (rows y t.val t.isLt) _ _ _ _ (b1_3 V c x h3 t) (b1_4 V c g2 h4 t) (b1_5 V c wg h5 t) (b1_6 V c wu h6 t) _ _ _ e4 e28 e31
  blk_simp [idx1 t]
  rw [after1_10]
  by_cases h : t.val % 32 = 0
  · rw [outsAt1_A V c t h]; frame_out
    idx_vars z
    refine (e _ _).trans (congrArg _ (congrArg₂ (fun r j => dx1 g2 gf wg wu wd (x r) (y r) j) (Fin.ext ?_) (Fin.ext ?_))) <;> blk_simp [idx1 t]
  · rw [outsAt1_B V c t h]; frame_out
    idx_vars z
    refine (e _ _).trans (congrArg _ (congrArg₂ (fun r j => dx1 g2 gf wg wu wd (x r) (y r) j) (Fin.ext ?_) (Fin.ext ?_))) <;> blk_simp [idx1 t]

end Blocks

end Cert.FfnIdeal.Value

end
-- ==== Proof.FfnRegion1c.lean ====
/- The first scale's gradient, which the backward kernel adds up over its grid. -/
module

public import Idealize.ShloMosaic.Lib.Pipeline.ValueKit
public import proofs.«01_k».proof.Proof.FfnRegion1

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

variable (V : (c : Dev nD) → (b : Ref sig .tc) → Buf (Elt Ideal) ((c : Thread nD τ).loc b)) (c : Dev nD)
variable (g2 gf : Row) (wg wu : Fin 1024 → Fin 2816 → ℝ) (wd : Fin 2816 → Fin 1024 → ℝ) (x y : Fin 8192 → Row)

section Blocks
variable (h0 : ∀ i j, (V c main_v9_4 : FVec Ideal S8192x1024 .f32) (ix2 i j) = ((dx2 g2 gf wg wu wd (x i) (y i) j : ℝ) : EReal))
variable (h1 : ∀ i f, (V c main_v9_1 : FVec Ideal S8192x2816 .f32) (ix2 i f) = ((gate g2 wg (x i) f : ℝ) : EReal))
variable (h2 : ∀ i f, (V c main_v9_2 : FVec Ideal S8192x2816 .f32) (ix2 i f) = ((up g2 wu (x i) f : ℝ) : EReal))
variable (h3 : ∀ i j, (V c main_v10 : FVec Ideal S8192x1024 .f32) (ix2 i j) = ((x i j : ℝ) : EReal))
variable (h4 : ∀ j, (V c main_v5 : FVec Ideal S1x1024 .f32) (ix2 0 j) = ((g2 j : ℝ) : EReal))
variable (h5 : ∀ f j, (V c main_v1 : FVec Ideal S2816x1024 .bf16) (ix2 f j) = ((wg j f : ℝ) : EReal))
variable (h6 : ∀ f j, (V c main_v3 : FVec Ideal S2816x1024 .bf16) (ix2 f j) = ((wu j f : ℝ) : EReal))
variable (h7 : ∀ f j, (V c main_v4 : FVec Ideal S2816x1024 .bf16) (ix2 f j) = ((wd f j : ℝ) : EReal))

/-- What point `t` adds to the first scale's gradient. -/
def dg2Part (t : Fin cfg1.N) (j : Fin 1024) : ℝ := ∑ i, dg2Row g2 gf wg wu wd (rows x t.val t.isLt i) (rows y t.val t.isLt i) j

include h0 h1 h2 h3 h5 h6 h7 in
theorem arr1_dg2 : (dat1 V c).arrAt 11 cfg1.N = (fun i => ((∑ r, dg2Row g2 gf wg wu wd (x r) (y r) (i 1) : ℝ) : EReal) : FVec Ideal S1x1024 .f32) := by
  refine (dat1 V c).arrAt_eq_of_covers 11 _ (by decide +kernel) fun t hf z => ?_
  blk_simp
  rw [after1_11, Pipeline.eq_sum_fin_of_reset_step_apply_of_flush (fun n h => (outsAt1 V c n h).2.2.2) 32 (fun _ => 0)
    (fun t j => ((dg2Part g2 gf wg wu wd x y t (j 1) : ℝ) : EReal))
    (fun t h j => by
      have e28 := k1_dgate g2 gf wg wu wd (rows x t.val t.isLt) (rows y t.val t.isLt) _ _ _ _ (b1_0 V c g2 gf wg wu wd x y h0 t) (b1_1 V c g2 wg x h1 t) (b1_2 V c g2 wu x h2 t) (b1_7 V c wd h7 t)
      have e31 := k1_dup g2 gf wg wu wd (rows x t.val t.isLt) (rows y t.val t.isLt) _ _ _ (b1_0 V c g2 gf wg wu wd x y h0 t) (b1_1 V c g2 wg x h1 t) (b1_7 V c wd h7 t)
      have e := k1_dg2 g2 gf wg wu wd (rows x t.val t.isLt) (rows y t.val t.isLt) _ _ _ (b1_3 V c x h3 t) (b1_5 V c wg h5 t) (b1_6 V c wu h6 t) _ _ e28 e31
      rw [outsAt1_A V c t h]; frame_out
      idx_vars j
      obtain rfl : j0 = 0 := Subsingleton.elim _ _
      exact (e _ _).trans (congrArg (· + _) (k1_zero _)))
    (fun t h j => by
      have e28 := k1_dgate g2 gf wg wu wd (rows x t.val t.isLt) (rows y t.val t.isLt) _ _ _ _ (b1_0 V c g2 gf wg wu wd x y h0 t) (b1_1 V c g2 wg x h1 t) (b1_2 V c g2 wu x h2 t) (b1_7 V c wd h7 t)
      have e31 := k1_dup g2 gf wg wu wd (rows x t.val t.isLt) (rows y t.val t.isLt) _ _ _ (b1_0 V c g2 gf wg wu wd x y h0 t) (b1_1 V c g2 wg x h1 t) (b1_7 V c wd h7 t)
      have e := k1_dg2 g2 gf wg wu wd (rows x t.val t.isLt) (rows y t.val t.isLt) _ _ _ (b1_3 V c x h3 t) (b1_5 V c wg h5 t) (b1_6 V c wu h6 t) _ _ e28 e31
      rw [outsAt1_B V c t h]; frame_out
      idx_vars j
      obtain rfl : j0 = 0 := Subsingleton.elim _ _
      exact e _ _)
    t ((flush1_11 t).mp hf) _, zero_add]
  have ht : t.val < 32 := t.isLt
  show (_ : EReal) = _
  idx_vars z
  rw [show (((cfg1.win 11).blk t).view.emb (ix2 z0 z1) 1) = z1 from Fin.ext (by blk_simp [idx1 t])]
  exact sum_points (fun r => dg2Row g2 gf wg wu wd (x r) (y r) z1) (fun t => dg2Part g2 gf wg wu wd x y t z1) (fun s => rfl) _ (by omega) _

end Blocks

end Cert.FfnIdeal.Value

end
-- ==== Proof.FfnRegion2.lean ====
/- The weights' gradients, which the third kernel adds up over its grid, from the arrays it finds. -/
module

public import Idealize.ShloMosaic.Lib.Pipeline.ValueKit
public import proofs.«01_k».proof.Proof.FfnRows
public import proofs.«01_k».proof.Proof.Gen.FfnIdeal.Frame.Region2

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen Cert.FfnMath

theorem idx2 : ∀ t : Fin cfg2.N, win2_0.index t = ![t.val % 16, 0] ∧ win2_1.index t = ![t.val % 16, t.val / 16]
    ∧ win2_2.index t = ![t.val % 16, t.val / 16] ∧ win2_3.index t = ![t.val % 16, t.val / 16] ∧ win2_4.index t = ![t.val % 16, 0]
    ∧ win2_5.index t = ![t.val / 16, 0] ∧ win2_6.index t = ![t.val / 16, 0] ∧ win2_7.index t = ![t.val / 16, 0] :=
  (by decide +kernel : ∀ t : Fin grid2.N, _)

/-- The 512 rows of point `t`. -/
def rows2 (p : Fin 8192 → Fin 1024 → ℝ) (t : ℕ) : Fin 512 → Fin 1024 → ℝ := fun i => p ⟨t % 16 * 512 + i, by omega⟩
/-- The part of the 512 rows of point `t` in its half of the columns. -/
def tile2 (q : Fin 8192 → Fin 2816 → ℝ) (t : ℕ) (ht : t < 32) : Fin 512 → Fin 1408 → ℝ :=
  fun i f => q ⟨t % 16 * 512 + i, by omega⟩ ⟨t / 16 * 1408 + f, by omega⟩

variable (V : (c : Dev nD) → (b : Ref sig .tc) → Buf (Elt Ideal) ((c : Thread nD τ).loc b)) (c : Dev nD)
variable (p : Fin 8192 → Fin 1024 → ℝ) (q : Fin 8192 → Fin 2816 → ℝ)

/-- What point `t` adds to a weight's gradient. -/
def wPart (t : Fin cfg2.N) (f : Fin 1408) (j : Fin 1024) : ℝ := ∑ i, tile2 q t.val t.isLt i f * rows2 p t.val i j

/-- The points of one half of the columns add up to the sum over the rows. -/
theorem sum_wPart (k : ℕ) (hk : k < 2) (hb : ∀ s : Fin 16, 16 * k + s < 32) (f : Fin 1408) (j : Fin 1024) :
    (∑ s : Fin 16, ((wPart p q ⟨16 * k + s, hb s⟩ f j : ℝ) : EReal)) = ((∑ r, q r ⟨k * 1408 + f, by omega⟩ * p r j : ℝ) : EReal) := by
  rw [sum_r]
  refine congrArg _ ?_
  unfold wPart tile2 rows2
  refine Fin.sum_mul_add_congr fun s i hl => ?_
  refine congrArg₂ (· * ·) (congrArg₂ q (Fin.ext ?_) (Fin.ext ?_)) (congrFun (congrArg p (Fin.ext ?_)) j)
  · show (16 * k + s.val) % 16 * 512 + i.val = s.val * 512 + i.val; omega
  · show (16 * k + s.val) / 16 * 1408 + f.val = k * 1408 + f.val; omega
  · show (16 * k + s.val) % 16 * 512 + i.val = s.val * 512 + i.val; omega

theorem b2_0 (h : ∀ i j, (V c main_v9_0 : FVec Ideal S8192x1024 .bf16) (ix2 i j) = ((p i j : ℝ) : EReal)) (t : Fin cfg2.N) (i : Fin 512) (j : Fin 1024) :
    (iblk2 V c 0 t : FVec Ideal S512x1024 .bf16) (ix2 i j) = ((rows2 p t.val i j : ℝ) : EReal) := by
  refine Eq.trans ?_ (h _ _); blk_point [iblk2, idx2 t]
theorem b2_1 (h : ∀ i j, (V c main_v11_0 : FVec Ideal S8192x2816 .bf16) (ix2 i j) = ((q i j : ℝ) : EReal)) (t : Fin cfg2.N) (i : Fin 512) (j : Fin 1408) :
    (iblk2 V c 1 t : FVec Ideal S512x1408 .bf16) (ix2 i j) = ((tile2 q t.val t.isLt i j : ℝ) : EReal) := by
  refine Eq.trans ?_ (h _ _); blk_point [iblk2, idx2 t]
theorem b2_2 (h : ∀ i j, (V c main_v11_1 : FVec Ideal S8192x2816 .bf16) (ix2 i j) = ((q i j : ℝ) : EReal)) (t : Fin cfg2.N) (i : Fin 512) (j : Fin 1408) :
    (iblk2 V c 2 t : FVec Ideal S512x1408 .bf16) (ix2 i j) = ((tile2 q t.val t.isLt i j : ℝ) : EReal) := by
  refine Eq.trans ?_ (h _ _); blk_point [iblk2, idx2 t]
theorem b2_3 (h : ∀ i j, (V c main_v9_3 : FVec Ideal S8192x2816 .bf16) (ix2 i j) = ((q i j : ℝ) : EReal)) (t : Fin cfg2.N) (i : Fin 512) (j : Fin 1408) :
    (iblk2 V c 3 t : FVec Ideal S512x1408 .bf16) (ix2 i j) = ((tile2 q t.val t.isLt i j : ℝ) : EReal) := by
  refine Eq.trans ?_ (h _ _); blk_point [iblk2, idx2 t]
theorem b2_4 (h : ∀ i j, (V c main_v9_4 : FVec Ideal S8192x1024 .f32) (ix2 i j) = ((p i j : ℝ) : EReal)) (t : Fin cfg2.N) (i : Fin 512) (j : Fin 1024) :
    (iblk2 V c 4 t : FVec Ideal S512x1024 .f32) (ix2 i j) = ((rows2 p t.val i j : ℝ) : EReal) := by
  refine Eq.trans ?_ (h _ _); blk_point [iblk2, idx2 t]

theorem arr2_dwg (hp : ∀ i j, (V c main_v9_0 : FVec Ideal S8192x1024 .bf16) (ix2 i j) = ((p i j : ℝ) : EReal))
    (hq : ∀ i j, (V c main_v11_0 : FVec Ideal S8192x2816 .bf16) (ix2 i j) = ((q i j : ℝ) : EReal)) :
    (dat2 V c).arrAt 5 cfg2.N = (fun i => ((∑ r, q r (i 0) * p r (i 1) : ℝ) : EReal) : FVec Ideal S2816x1024 .f32) := by
  refine (dat2 V c).arrAt_eq_of_covers 5 _ (by decide +kernel) fun t hf z => ?_
  blk_simp
  rw [after2_5, Pipeline.eq_sum_fin_of_reset_step_apply_of_flush (fun n h => (outsAt2 V c n h).1) 16 (fun _ => 0)
    (fun t j => ((wPart p q t (j 0) (j 1) : ℝ) : EReal))
    (fun t h j => by
      have e := k2_acc1 _ _ _ _ (b2_0 V c p hp t) (b2_1 V c q hq t)
      rw [outsAt2_A V c t h]; frame_out
      idx_vars j
      exact (e _ _ _).trans (congrArg (· + _) (k2_zero1 _ _)))
    (fun t h j => by
      have e := k2_acc1 _ _ _ _ (b2_0 V c p hp t) (b2_1 V c q hq t)
      rw [outsAt2_B V c t h]; frame_out
      idx_vars j
      exact e _ _ _)
    t ((flush2_5 t).mp hf) _, zero_add]
  have ht : t.val < 32 := t.isLt
  show (_ : EReal) = _
  idx_vars z
  refine (sum_wPart p q (t.val / 16) (by omega) _ z0 z1).trans (congrArg _ (Finset.sum_congr rfl fun r _ => ?_))
  refine congrArg₂ (· * ·) (congrArg (q r) (Fin.ext ?_)) (congrArg (p r) (Fin.ext ?_)) <;> blk_simp [idx2 t]

theorem arr2_dwu (hp : ∀ i j, (V c main_v9_0 : FVec Ideal S8192x1024 .bf16) (ix2 i j) = ((p i j : ℝ) : EReal))
    (hq : ∀ i j, (V c main_v11_1 : FVec Ideal S8192x2816 .bf16) (ix2 i j) = ((q i j : ℝ) : EReal)) :
    (dat2 V c).arrAt 6 cfg2.N = (fun i => ((∑ r, q r (i 0) * p r (i 1) : ℝ) : EReal) : FVec Ideal S2816x1024 .f32) := by
  refine (dat2 V c).arrAt_eq_of_covers 6 _ (by decide +kernel) fun t hf z => ?_
  blk_simp
  rw [after2_6, Pipeline.eq_sum_fin_of_reset_step_apply_of_flush (fun n h => (outsAt2 V c n h).2.1) 16 (fun _ => 0)
    (fun t j => ((wPart p q t (j 0) (j 1) : ℝ) : EReal))
    (fun t h j => by
      have e := k2_acc2 _ _ _ _ (b2_0 V c p hp t) (b2_2 V c q hq t)
      rw [outsAt2_A V c t h]; frame_out
      idx_vars j
      exact (e _ _ _).trans (congrArg (· + _) (k2_zero2 _ _)))
    (fun t h j => by
      have e := k2_acc2 _ _ _ _ (b2_0 V c p hp t) (b2_2 V c q hq t)
      rw [outsAt2_B V c t h]; frame_out
      idx_vars j
      exact e _ _ _)
    t ((flush2_6 t).mp hf) _, zero_add]
  have ht : t.val < 32 := t.isLt
  show (_ : EReal) = _
  idx_vars z
  refine (sum_wPart p q (t.val / 16) (by omega) _ z0 z1).trans (congrArg _ (Finset.sum_congr rfl fun r _ => ?_))
  refine congrArg₂ (· * ·) (congrArg (q r) (Fin.ext ?_)) (congrArg (p r) (Fin.ext ?_)) <;> blk_simp [idx2 t]

theorem arr2_dwd (hp : ∀ i j, (V c main_v9_4 : FVec Ideal S8192x1024 .f32) (ix2 i j) = ((p i j : ℝ) : EReal))
    (hq : ∀ i j, (V c main_v9_3 : FVec Ideal S8192x2816 .bf16) (ix2 i j) = ((q i j : ℝ) : EReal)) :
    (dat2 V c).arrAt 7 cfg2.N = (fun i => ((∑ r, q r (i 0) * p r (i 1) : ℝ) : EReal) : FVec Ideal S2816x1024 .f32) := by
  refine (dat2 V c).arrAt_eq_of_covers 7 _ (by decide +kernel) fun t hf z => ?_
  blk_simp
  rw [after2_7, Pipeline.eq_sum_fin_of_reset_step_apply_of_flush (fun n h => (outsAt2 V c n h).2.2) 16 (fun _ => 0)
    (fun t j => ((wPart p q t (j 0) (j 1) : ℝ) : EReal))
    (fun t h j => by
      have e := k2_acc3 _ _ _ _ (b2_4 V c p hp t) (b2_3 V c q hq t)
      rw [outsAt2_A V c t h]; frame_out
      idx_vars j
      exact (e _ _ _).trans (congrArg (· + _) (k2_zero3 _ _)))
    (fun t h j => by
      have e := k2_acc3 _ _ _ _ (b2_4 V c p hp t) (b2_3 V c q hq t)
      rw [outsAt2_B V c t h]; frame_out
      idx_vars j
      exact e _ _ _)
    t ((flush2_7 t).mp hf) _, zero_add]
  have ht : t.val < 32 := t.isLt
  show (_ : EReal) = _
  idx_vars z
  refine (sum_wPart p q (t.val / 16) (by omega) _ z0 z1).trans (congrArg _ (Finset.sum_congr rfl fun r _ => ?_))
  refine congrArg₂ (· * ·) (congrArg (q r) (Fin.ext ?_)) (congrArg (p r) (Fin.ext ?_)) <;> blk_simp [idx2 t]

end Cert.FfnIdeal.Value

end
-- ==== Proof.FfnValue.lean ====
/- What the kernel's program leaves in its seven results, over the real numbers. -/
module

public import proofs.«01_k».proof.Proof.FfnHost
public import proofs.«01_k».proof.Proof.FfnRegion0b
public import proofs.«01_k».proof.Proof.FfnRegion0c
public import proofs.«01_k».proof.Proof.FfnRegion1b
public import proofs.«01_k».proof.Proof.FfnRegion1c
public import proofs.«01_k».proof.Proof.FfnRegion2

@[expose] public section

set_option maxRecDepth 16384

noncomputable section

namespace Cert.FfnIdeal.Value

open Idealize.ShloMosaic Idealize.ShloMosaic.TcCoe Idealize.SL.Sem
open Cert.FfnIdeal Cert.FfnIdeal.Gen Cert.FfnMath

variable (m : (ℓ : Loc nD τ sig) → Buf (Elt Ideal) ℓ) (ρ : Dev nD → PrngReg) (c : Dev nD)
variable (g2 gf : Row) (wg wu : Fin 1024 → Fin 2816 → ℝ) (wd : Fin 2816 → Fin 1024 → ℝ) (x y : Fin 8192 → Row)

/-- The arguments are these real arrays. -/
structure Args : Prop where
  x1 : ∀ i j, (m ((c : Thread nD τ).loc main_arg0) : FVec Ideal S1x8192x1024 .f32) (ix3 0 i j) = ((x i j : ℝ) : EReal)
  target : ∀ i j, (m ((c : Thread nD τ).loc main_arg1) : FVec Ideal S1x8192x1024 .f32) (ix3 0 i j) = ((y i j : ℝ) : EReal)
  norm2 : ∀ j, (m ((c : Thread nD τ).loc main_arg2) : FVec Ideal S1024 .f32) (ix1 j) = ((g2 j : ℝ) : EReal)
  normf : ∀ j, (m ((c : Thread nD τ).loc main_arg3) : FVec Ideal S1024 .f32) (ix1 j) = ((gf j : ℝ) : EReal)
  gate : ∀ j f, (m ((c : Thread nD τ).loc main_arg4) : FVec Ideal S1024x2816 .f32) (ix2 j f) = ((wg j f : ℝ) : EReal)
  up : ∀ j f, (m ((c : Thread nD τ).loc main_arg5) : FVec Ideal S1024x2816 .f32) (ix2 j f) = ((wu j f : ℝ) : EReal)
  down : ∀ f j, (m ((c : Thread nD τ).loc main_arg6) : FVec Ideal S2816x1024 .f32) (ix2 f j) = ((wd f j : ℝ) : EReal)

variable (H : Args m c g2 gf wg wu wd x y)
include H

/-! ## What each kernel finds -/

theorem e1_x (i : Fin 8192) (j : Fin 1024) : (V1 m ρ c main_v7 : FVec Ideal S8192x1024 .f32) (ix2 i j) = ((x i j : ℝ) : EReal) :=
  (in_v7 m ρ c i j).trans (H.x1 i j)
theorem e1_y (i : Fin 8192) (j : Fin 1024) : (V1 m ρ c main_v8 : FVec Ideal S8192x1024 .f32) (ix2 i j) = ((y i j : ℝ) : EReal) :=
  (in_v8 m ρ c i j).trans (H.target i j)
theorem e1_g2 (j : Fin 1024) : (V1 m ρ c main_v5 : FVec Ideal S1x1024 .f32) (ix2 0 j) = ((g2 j : ℝ) : EReal) :=
  (in_v5 m ρ c j).trans (H.norm2 j)
theorem e1_gf (j : Fin 1024) : (V1 m ρ c main_v6 : FVec Ideal S1x1024 .f32) (ix2 0 j) = ((gf j : ℝ) : EReal) :=
  (in_v6 m ρ c j).trans (H.normf j)
theorem e1_wg (f : Fin 2816) (j : Fin 1024) : (V1 m ρ c main_v1 : FVec Ideal S2816x1024 .bf16) (ix2 f j) = ((wg j f : ℝ) : EReal) :=
  (in_v1 m ρ c f j).trans (H.gate j f)
theorem e1_wu (f : Fin 2816) (j : Fin 1024) : (V1 m ρ c main_v3 : FVec Ideal S2816x1024 .bf16) (ix2 f j) = ((wu j f : ℝ) : EReal) :=
  (in_v3 m ρ c f j).trans (H.up j f)
theorem e1_wd (f : Fin 2816) (j : Fin 1024) : (V1 m ρ c main_v4 : FVec Ideal S2816x1024 .bf16) (ix2 f j) = ((wd f j : ℝ) : EReal) :=
  (in_v4 m ρ c f j).trans (H.down f j)

theorem w2_hid : W2 m ρ c (Proc.devRef .tc main_v9_0) = (fun i => ((hid g2 (x (i 0)) (i 1) : ℝ) : EReal) : FVec Ideal S8192x1024 .bf16) :=
  (W2_arr m ρ c 7).trans (arr0_hid (V1 m ρ) c g2 x (e1_x m ρ c g2 gf wg wu wd x y H) (e1_g2 m ρ c g2 gf wg wu wd x y H))
theorem w2_gate : W2 m ρ c (Proc.devRef .tc main_v9_1) = (fun i => ((FfnMath.gate g2 wg (x (i 0)) (i 1) : ℝ) : EReal) : FVec Ideal S8192x2816 .f32) :=
  (W2_arr m ρ c 8).trans (arr0_gate (V1 m ρ) c g2 wg x (e1_x m ρ c g2 gf wg wu wd x y H) (e1_g2 m ρ c g2 gf wg wu wd x y H) (e1_wg m ρ c g2 gf wg wu wd x y H))
theorem w2_up : W2 m ρ c (Proc.devRef .tc main_v9_2) = (fun i => ((FfnMath.up g2 wu (x (i 0)) (i 1) : ℝ) : EReal) : FVec Ideal S8192x2816 .f32) :=
  (W2_arr m ρ c 9).trans (arr0_up (V1 m ρ) c g2 wu x (e1_x m ρ c g2 gf wg wu wd x y H) (e1_g2 m ρ c g2 gf wg wu wd x y H) (e1_wu m ρ c g2 gf wg wu wd x y H))
theorem w2_act : W2 m ρ c (Proc.devRef .tc main_v9_3) = (fun i => ((act g2 wg wu (x (i 0)) (i 1) : ℝ) : EReal) : FVec Ideal S8192x2816 .bf16) :=
  (W2_arr m ρ c 10).trans (arr0_act (V1 m ρ) c g2 wg wu x (e1_x m ρ c g2 gf wg wu wd x y H) (e1_g2 m ρ c g2 gf wg wu wd x y H) (e1_wg m ρ c g2 gf wg wu wd x y H) (e1_wu m ρ c g2 gf wg wu wd x y H))
theorem w2_dx2 : W2 m ρ c (Proc.devRef .tc main_v9_4) = (fun i => ((dx2 g2 gf wg wu wd (x (i 0)) (y (i 0)) (i 1) : ℝ) : EReal) : FVec Ideal S8192x1024 .f32) :=
  (W2_arr m ρ c 11).trans (arr0_dx2 (V1 m ρ) c g2 gf wg wu wd x y (e1_x m ρ c g2 gf wg wu wd x y H) (e1_y m ρ c g2 gf wg wu wd x y H) (e1_g2 m ρ c g2 gf wg wu wd x y H) (e1_gf m ρ c g2 gf wg wu wd x y H) (e1_wg m ρ c g2 gf wg wu wd x y H) (e1_wu m ρ c g2 gf wg wu wd x y H) (e1_wd m ρ c g2 gf wg wu wd x y H))
theorem w2_loss : W2 m ρ c (Proc.devRef .tc main_v9_5) = (fun i => ((1 / 2 * ∑ r, lossRow g2 gf wg wu wd (x r) (y r) : ℝ) : EReal) : FVec Ideal S1x128 .f32) :=
  (W2_arr m ρ c 12).trans (arr0_loss (V1 m ρ) c g2 gf wg wu wd x y (e1_x m ρ c g2 gf wg wu wd x y H) (e1_y m ρ c g2 gf wg wu wd x y H) (e1_g2 m ρ c g2 gf wg wu wd x y H) (e1_gf m ρ c g2 gf wg wu wd x y H) (e1_wg m ρ c g2 gf wg wu wd x y H) (e1_wu m ρ c g2 gf wg wu wd x y H) (e1_wd m ρ c g2 gf wg wu wd x y H))
theorem w2_dgf : W2 m ρ c (Proc.devRef .tc main_v9_6) = (fun i => ((∑ r, dgfRow g2 gf wg wu wd (x r) (y r) (i 1) : ℝ) : EReal) : FVec Ideal S1x1024 .f32) :=
  (W2_arr m ρ c 13).trans (arr0_dgf (V1 m ρ) c g2 gf wg wu wd x y (e1_x m ρ c g2 gf wg wu wd x y H) (e1_y m ρ c g2 gf wg wu wd x y H) (e1_g2 m ρ c g2 gf wg wu wd x y H) (e1_gf m ρ c g2 gf wg wu wd x y H) (e1_wg m ρ c g2 gf wg wu wd x y H) (e1_wu m ρ c g2 gf wg wu wd x y H) (e1_wd m ρ c g2 gf wg wu wd x y H))

theorem e3_dx2 (i : Fin 8192) (j : Fin 1024) : (V3 m ρ c main_v9_4 : FVec Ideal S8192x1024 .f32) (ix2 i j) = ((dx2 g2 gf wg wu wd (x i) (y i) j : ℝ) : EReal) :=
  congrFun ((W3_of m ρ c main_v9_4 (by decide)).trans (w2_dx2 m ρ c g2 gf wg wu wd x y H)) (ix2 i j)
theorem e3_gate (i : Fin 8192) (f : Fin 2816) : (V3 m ρ c main_v9_1 : FVec Ideal S8192x2816 .f32) (ix2 i f) = ((FfnMath.gate g2 wg (x i) f : ℝ) : EReal) :=
  congrFun ((W3_of m ρ c main_v9_1 (by decide)).trans (w2_gate m ρ c g2 gf wg wu wd x y H)) (ix2 i f)
theorem e3_up (i : Fin 8192) (f : Fin 2816) : (V3 m ρ c main_v9_2 : FVec Ideal S8192x2816 .f32) (ix2 i f) = ((FfnMath.up g2 wu (x i) f : ℝ) : EReal) :=
  congrFun ((W3_of m ρ c main_v9_2 (by decide)).trans (w2_up m ρ c g2 gf wg wu wd x y H)) (ix2 i f)
theorem e3_x (i : Fin 8192) (j : Fin 1024) : (V3 m ρ c main_v10 : FVec Ideal S8192x1024 .f32) (ix2 i j) = ((x i j : ℝ) : EReal) :=
  (mid_v10 m ρ c i j).trans (H.x1 i j)
theorem e3_g2 (j : Fin 1024) : (V3 m ρ c main_v5 : FVec Ideal S1x1024 .f32) (ix2 0 j) = ((g2 j : ℝ) : EReal) :=
  (congrFun ((W3_of m ρ c main_v5 (by decide)).trans (W2_of m ρ c main_v5 (by decide +kernel))) (ix2 0 j)).trans (e1_g2 m ρ c g2 gf wg wu wd x y H j)
theorem e3_wg (f : Fin 2816) (j : Fin 1024) : (V3 m ρ c main_v1 : FVec Ideal S2816x1024 .bf16) (ix2 f j) = ((wg j f : ℝ) : EReal) :=
  (congrFun ((W3_of m ρ c main_v1 (by decide)).trans (W2_of m ρ c main_v1 (by decide +kernel))) (ix2 f j)).trans (e1_wg m ρ c g2 gf wg wu wd x y H f j)
theorem e3_wu (f : Fin 2816) (j : Fin 1024) : (V3 m ρ c main_v3 : FVec Ideal S2816x1024 .bf16) (ix2 f j) = ((wu j f : ℝ) : EReal) :=
  (congrFun ((W3_of m ρ c main_v3 (by decide)).trans (W2_of m ρ c main_v3 (by decide +kernel))) (ix2 f j)).trans (e1_wu m ρ c g2 gf wg wu wd x y H f j)
theorem e3_wd (f : Fin 2816) (j : Fin 1024) : (V3 m ρ c main_v4 : FVec Ideal S2816x1024 .bf16) (ix2 f j) = ((wd f j : ℝ) : EReal) :=
  (congrFun ((W3_of m ρ c main_v4 (by decide)).trans (W2_of m ρ c main_v4 (by decide +kernel))) (ix2 f j)).trans (e1_wd m ρ c g2 gf wg wu wd x y H f j)

theorem w4_dgate : W4 m ρ c (Proc.devRef .tc main_v11_0) = (fun i => ((dgate g2 gf wg wu wd (x (i 0)) (y (i 0)) (i 1) : ℝ) : EReal) : FVec Ideal S8192x2816 .bf16) :=
  (W4_arr m ρ c 8).trans (arr1_dgate (V3 m ρ) c g2 gf wg wu wd x y (e3_dx2 m ρ c g2 gf wg wu wd x y H) (e3_gate m ρ c g2 gf wg wu wd x y H) (e3_up m ρ c g2 gf wg wu wd x y H) (e3_wd m ρ c g2 gf wg wu wd x y H))
theorem w4_dup : W4 m ρ c (Proc.devRef .tc main_v11_1) = (fun i => ((dup g2 gf wg wu wd (x (i 0)) (y (i 0)) (i 1) : ℝ) : EReal) : FVec Ideal S8192x2816 .bf16) :=
  (W4_arr m ρ c 9).trans (arr1_dup (V3 m ρ) c g2 gf wg wu wd x y (e3_dx2 m ρ c g2 gf wg wu wd x y H) (e3_gate m ρ c g2 gf wg wu wd x y H) (e3_wd m ρ c g2 gf wg wu wd x y H))
theorem w4_dx1 : W4 m ρ c (Proc.devRef .tc main_v11_2) = (fun i => ((dx1 g2 gf wg wu wd (x (i 0)) (y (i 0)) (i 1) : ℝ) : EReal) : FVec Ideal S8192x1024 .f32) :=
  (W4_arr m ρ c 10).trans (arr1_dx1 (V3 m ρ) c g2 gf wg wu wd x y (e3_dx2 m ρ c g2 gf wg wu wd x y H) (e3_gate m ρ c g2 gf wg wu wd x y H) (e3_up m ρ c g2 gf wg wu wd x y H) (e3_x m ρ c g2 gf wg wu wd x y H) (e3_g2 m ρ c g2 gf wg wu wd x y H) (e3_wg m ρ c g2 gf wg wu wd x y H) (e3_wu m ρ c g2 gf wg wu wd x y H) (e3_wd m ρ c g2 gf wg wu wd x y H))
theorem w4_dg2 : W4 m ρ c (Proc.devRef .tc main_v11_3) = (fun i => ((∑ r, dg2Row g2 gf wg wu wd (x r) (y r) (i 1) : ℝ) : EReal) : FVec Ideal S1x1024 .f32) :=
  (W4_arr m ρ c 11).trans (arr1_dg2 (V3 m ρ) c g2 gf wg wu wd x y (e3_dx2 m ρ c g2 gf wg wu wd x y H) (e3_gate m ρ c g2 gf wg wu wd x y H) (e3_up m ρ c g2 gf wg wu wd x y H) (e3_x m ρ c g2 gf wg wu wd x y H) (e3_wg m ρ c g2 gf wg wu wd x y H) (e3_wu m ρ c g2 gf wg wu wd x y H) (e3_wd m ρ c g2 gf wg wu wd x y H))

theorem e4_hid (i : Fin 8192) (j : Fin 1024) : (V4 m ρ c main_v9_0 : FVec Ideal S8192x1024 .bf16) (ix2 i j) = ((hid g2 (x i) j : ℝ) : EReal) :=
  congrFun ((W4_of m ρ c main_v9_0 (by decide +kernel)).trans ((W3_of m ρ c main_v9_0 (by decide)).trans (w2_hid m ρ c g2 gf wg wu wd x y H))) (ix2 i j)
theorem e4_act (i : Fin 8192) (f : Fin 2816) : (V4 m ρ c main_v9_3 : FVec Ideal S8192x2816 .bf16) (ix2 i f) = ((act g2 wg wu (x i) f : ℝ) : EReal) :=
  congrFun ((W4_of m ρ c main_v9_3 (by decide +kernel)).trans ((W3_of m ρ c main_v9_3 (by decide)).trans (w2_act m ρ c g2 gf wg wu wd x y H))) (ix2 i f)
theorem e4_dx2 (i : Fin 8192) (j : Fin 1024) : (V4 m ρ c main_v9_4 : FVec Ideal S8192x1024 .f32) (ix2 i j) = ((dx2 g2 gf wg wu wd (x i) (y i) j : ℝ) : EReal) :=
  congrFun ((W4_of m ρ c main_v9_4 (by decide +kernel)).trans ((W3_of m ρ c main_v9_4 (by decide)).trans (w2_dx2 m ρ c g2 gf wg wu wd x y H))) (ix2 i j)
theorem e4_dgate (i : Fin 8192) (f : Fin 2816) : (V4 m ρ c main_v11_0 : FVec Ideal S8192x2816 .bf16) (ix2 i f) = ((dgate g2 gf wg wu wd (x i) (y i) f : ℝ) : EReal) :=
  congrFun (w4_dgate m ρ c g2 gf wg wu wd x y H) (ix2 i f)
theorem e4_dup (i : Fin 8192) (f : Fin 2816) : (V4 m ρ c main_v11_1 : FVec Ideal S8192x2816 .bf16) (ix2 i f) = ((dup g2 gf wg wu wd (x i) (y i) f : ℝ) : EReal) :=
  congrFun (w4_dup m ρ c g2 gf wg wu wd x y H) (ix2 i f)

/-! ## The seven results -/

theorem w5_dwg : W5 m ρ c (Proc.devRef .tc main_v12_0) = (fun i => ((∑ r, dgate g2 gf wg wu wd (x r) (y r) (i 0) * hid g2 (x r) (i 1) : ℝ) : EReal) : FVec Ideal S2816x1024 .f32) :=
  (W5_arr m ρ c 5).trans (arr2_dwg (V4 m ρ) c (fun i j => hid g2 (x i) j) (fun i f => dgate g2 gf wg wu wd (x i) (y i) f) (e4_hid m ρ c g2 gf wg wu wd x y H) (e4_dgate m ρ c g2 gf wg wu wd x y H))
theorem w5_dwu : W5 m ρ c (Proc.devRef .tc main_v12_1) = (fun i => ((∑ r, dup g2 gf wg wu wd (x r) (y r) (i 0) * hid g2 (x r) (i 1) : ℝ) : EReal) : FVec Ideal S2816x1024 .f32) :=
  (W5_arr m ρ c 6).trans (arr2_dwu (V4 m ρ) c (fun i j => hid g2 (x i) j) (fun i f => dup g2 gf wg wu wd (x i) (y i) f) (e4_hid m ρ c g2 gf wg wu wd x y H) (e4_dup m ρ c g2 gf wg wu wd x y H))
theorem w5_dwd : W5 m ρ c (Proc.devRef .tc main_v12_2) = (fun i => ((∑ r, act g2 wg wu (x r) (i 0) * dx2 g2 gf wg wu wd (x r) (y r) (i 1) : ℝ) : EReal) : FVec Ideal S2816x1024 .f32) :=
  (W5_arr m ρ c 7).trans (arr2_dwd (V4 m ρ) c (fun i j => dx2 g2 gf wg wu wd (x i) (y i) j) (fun i f => act g2 wg wu (x i) f) (e4_dx2 m ρ c g2 gf wg wu wd x y H) (e4_act m ρ c g2 gf wg wu wd x y H))
theorem loss_eq (k : S_.Idx) : (W6 m ρ c (Proc.devRef .tc main_v14) : FVec Ideal S_ .f32) k
    = ((1 / 2 * ∑ r, lossRow g2 gf wg wu wd (x r) (y r) : ℝ) : EReal) :=
  (out_v14 m ρ c k).trans (congrFun ((W5_of m ρ c main_v9_5 (by decide +kernel)).trans ((W4_of m ρ c main_v9_5 (by decide +kernel)).trans ((W3_of m ρ c main_v9_5 (by decide)).trans (w2_loss m ρ c g2 gf wg wu wd x y H)))) (ix2 0 0))
theorem dx_eq (i : Fin 8192) (j : Fin 1024) : (W6 m ρ c (Proc.devRef .tc main_v15) : FVec Ideal S1x8192x1024 .f32) (ix3 0 i j)
    = ((dx1 g2 gf wg wu wd (x i) (y i) j : ℝ) : EReal) :=
  (out_v15 m ρ c i j).trans (congrFun ((W5_of m ρ c main_v11_2 (by decide +kernel)).trans (w4_dx1 m ρ c g2 gf wg wu wd x y H)) (ix2 i j))
theorem dg2_eq (j : Fin 1024) : (W6 m ρ c (Proc.devRef .tc main_v16) : FVec Ideal S1024 .f32) (ix1 j)
    = ((∑ r, dg2Row g2 gf wg wu wd (x r) (y r) j : ℝ) : EReal) :=
  (out_v16 m ρ c j).trans (congrFun ((W5_of m ρ c main_v11_3 (by decide +kernel)).trans (w4_dg2 m ρ c g2 gf wg wu wd x y H)) (ix2 0 j))
theorem dgf_eq (j : Fin 1024) : (W6 m ρ c (Proc.devRef .tc main_v17) : FVec Ideal S1024 .f32) (ix1 j)
    = ((∑ r, dgfRow g2 gf wg wu wd (x r) (y r) j : ℝ) : EReal) :=
  (out_v17 m ρ c j).trans (congrFun ((W5_of m ρ c main_v9_6 (by decide +kernel)).trans ((W4_of m ρ c main_v9_6 (by decide +kernel)).trans ((W3_of m ρ c main_v9_6 (by decide)).trans (w2_dgf m ρ c g2 gf wg wu wd x y H)))) (ix2 0 j))
theorem dwg_eq (j : Fin 1024) (f : Fin 2816) : (W6 m ρ c (Proc.devRef .tc main_v18) : FVec Ideal S1024x2816 .f32) (ix2 j f)
    = ((∑ r, dgate g2 gf wg wu wd (x r) (y r) f * hid g2 (x r) j : ℝ) : EReal) :=
  (out_v18 m ρ c j f).trans (congrFun (w5_dwg m ρ c g2 gf wg wu wd x y H) (ix2 f j))
theorem dwu_eq (j : Fin 1024) (f : Fin 2816) : (W6 m ρ c (Proc.devRef .tc main_v19) : FVec Ideal S1024x2816 .f32) (ix2 j f)
    = ((∑ r, dup g2 gf wg wu wd (x r) (y r) f * hid g2 (x r) j : ℝ) : EReal) :=
  (out_v19 m ρ c j f).trans (congrFun (w5_dwu m ρ c g2 gf wg wu wd x y H) (ix2 f j))
theorem dwd_eq (f : Fin 2816) (j : Fin 1024) : (W6 m ρ c (Proc.devRef .tc main_v12_2) : FVec Ideal S2816x1024 .f32) (ix2 f j)
    = ((∑ r, act g2 wg wu (x r) f * dx2 g2 gf wg wu wd (x r) (y r) j : ℝ) : EReal) :=
  congrFun ((W6_of m ρ c main_v12_2 (by decide)).trans (w5_dwd m ρ c g2 gf wg wu wd x y H)) (ix2 f j)

end Cert.FfnIdeal.Value

end
-- ==== Proof.Unit.lean ====
/- A host sum over the unit axes of an array of three axes. -/
module

public import Idealize.ShloMosaic.Lib.Pointwise

@[expose] public section

namespace Cert.UnitAxes

open Idealize.ShloMosaic

/-- Summing the first and last axis, both of size one. -/
theorem sum_first_last (h : (⟨3, ![1, 8192, 1]⟩ : Shape).ReducesTo [0, 2] ⟨1, ![8192]⟩)
    (v : (⟨3, ![1, 8192, 1]⟩ : Shape).Idx → EReal) (init : EReal) (i : Fin 8192) :
    Ideal.hostReduceAdd h v init (ix1 i) = init + v (ix3 0 i 0) := by
  have e : (Finset.univ.filter fun k => h.drop k = ix1 i) = {ix3 0 i 0} := by
    ext k
    rw [Finset.mem_filter, Finset.mem_singleton]
    have hk : (h.drop k 0 : Nat) = k 1 := h.drop_apply_val_of_eq k 0 1
    constructor
    · rintro ⟨-, e⟩
      rw [e] at hk
      rw [eq_ix3 k]
      exact (ix3_inj ..).2 ⟨Subsingleton.elim _ _, Fin.ext hk.symm, Subsingleton.elim _ _⟩
    · rintro rfl
      refine ⟨Finset.mem_univ _, ?_⟩
      rw [eq_ix1 (h.drop _)]
      exact (ix1_inj ..).2 (Fin.ext hk)
  unfold Ideal.hostReduceAdd
  rw [e, Finset.sum_singleton]

/-- Summing the first two axes, both of size one. -/
theorem sum_first_two (h : (⟨3, ![1, 1, 1024]⟩ : Shape).ReducesTo [0, 1] ⟨1, ![1024]⟩)
    (v : (⟨3, ![1, 1, 1024]⟩ : Shape).Idx → EReal) (init : EReal) (i : Fin 1024) :
    Ideal.hostReduceAdd h v init (ix1 i) = init + v (ix3 0 0 i) := by
  have e : (Finset.univ.filter fun k => h.drop k = ix1 i) = {ix3 0 0 i} := by
    ext k
    rw [Finset.mem_filter, Finset.mem_singleton]
    have hk : (h.drop k 0 : Nat) = k 2 := h.drop_apply_val_of_eq k 0 2
    constructor
    · rintro ⟨-, e⟩
      rw [e] at hk
      rw [eq_ix3 k]
      exact (ix3_inj ..).2 ⟨Subsingleton.elim _ _, Subsingleton.elim _ _, Fin.ext hk.symm⟩
    · rintro rfl
      refine ⟨Finset.mem_univ _, ?_⟩
      rw [eq_ix1 (h.drop _)]
      exact (ix1_inj ..).2 (Fin.ext hk)
  unfold Ideal.hostReduceAdd
  rw [e, Finset.sum_singleton]

end Cert.UnitAxes

end
-- ==== Proof.FfnRef.lean ====
/- What the reference's operations compute from real arguments, an entry at a time. -/
module

public import proofs.«01_k».proof.Proof.FfnMath
public import proofs.«01_k».proof.Proof.Unit
public import proofs.«01_k».proof.Proof.Gen.FfnRefIdeal.Run

@[expose] public section

set_option maxRecDepth 16384

noncomputable section

namespace Cert.FfnRefIdeal.Value

open Idealize.ShloMosaic Idealize.ShloMosaic.TcCoe Idealize.SL.Sem
open Cert.FfnRefIdeal Cert.FfnRefIdeal.Gen Cert.FfnMath

section Rows
variable (g2 gf : Row) (wg wu : Fin 1024 → Fin 2816 → ℝ) (wd : Fin 2816 → Fin 1024 → ℝ) (x t : Fin 8192 → Row)
variable (V0 : Valuation τ sig (Elt Ideal))
variable (h0 : ∀ i j, (V0 (Proc.devRef .tc main_arg0) : FVec Ideal S1x8192x1024 .f32) (ix3 0 i j) = ((x i j : ℝ) : EReal))
variable (h1 : ∀ i j, (V0 (Proc.devRef .tc main_arg1) : FVec Ideal S1x8192x1024 .f32) (ix3 0 i j) = ((t i j : ℝ) : EReal))
variable (h2 : ∀ j, (V0 (Proc.devRef .tc main_arg2) : FVec Ideal S1024 .f32) (ix1 j) = ((g2 j : ℝ) : EReal))
variable (h3 : ∀ j, (V0 (Proc.devRef .tc main_arg3) : FVec Ideal S1024 .f32) (ix1 j) = ((gf j : ℝ) : EReal))
variable (h4 : ∀ j f, (V0 (Proc.devRef .tc main_arg4) : FVec Ideal S1024x2816 .f32) (ix2 j f) = ((wg j f : ℝ) : EReal))
variable (h5 : ∀ j f, (V0 (Proc.devRef .tc main_arg5) : FVec Ideal S1024x2816 .f32) (ix2 j f) = ((wu j f : ℝ) : EReal))
variable (h6 : ∀ f j, (V0 (Proc.devRef .tc main_arg6) : FVec Ideal S2816x1024 .f32) (ix2 f j) = ((wd f j : ℝ) : EReal))

include h0 in
theorem v6_at (i : Fin 8192) : res_main_v6 V0 (ix3 0 i 0) = ((ms (x i) : ℝ) : EReal) := by
  pointwise [res_main_v6, h0]
  simp only [c1024, ceps, mul_r, sum_r, zero_r, div1024_r, add_r]
  rfl

include h0 in
theorem v7_at (i : Fin 8192) : res_main_v7 V0 (ix3 0 i 0) = ((rs (x i) : ℝ) : EReal) := by
  pointwise [res_main_v7, v6_at x V0 h0]
  exact rsqrt_r (x i)

include h0 in
theorem v12_at (i : Fin 8192) (j : Fin 1024) : res_main_v12 V0 (ix3 0 i j) = ((nrm (x i) j : ℝ) : EReal) := by
  pointwise [res_main_v12, v7_at x V0 h0, h0]
  simp only [mul_r]
  rfl

include h0 h2 in
theorem v15_at (i : Fin 8192) (j : Fin 1024) : res_main_v15 V0 (ix3 0 i j) = ((hid g2 (x i) j : ℝ) : EReal) := by
  pointwise [res_main_v15, res_main_v13, v12_at x V0 h0, h2]
  simp only [mul_r]
  rfl

include h0 h2 h4 in
theorem v16_at (i : Fin 8192) (f : Fin 2816) : res_main_v16 V0 (ix3 0 i f) = ((gate g2 wg (x i) f : ℝ) : EReal) := by
  pointwise [res_main_v16, v15_at g2 x V0 h0 h2, h4]
  simp only [mul_r, sum_r, zero_r]
  rfl

include h0 h2 h4 in
theorem v17_2_at (i : Fin 8192) (f : Fin 2816) : res_main_v17_2 V0 (ix3 0 i f) = ((sg (gate g2 wg (x i) f) : ℝ) : EReal) := by
  pointwise [res_main_v17_2, v16_at g2 wg x V0 h0 h2 h4]
  simp only [sg_neg_r]

include h0 h2 h4 in
theorem v17_0_at (i : Fin 8192) (f : Fin 2816) :
    res_main_v17_0 V0 (ix3 0 i f) = ((gate g2 wg (x i) f * sg (gate g2 wg (x i) f) : ℝ) : EReal) := by
  pointwise [res_main_v17_0, v16_at g2 wg x V0 h0 h2 h4, v17_2_at g2 wg x V0 h0 h2 h4]
  simp only [mul_r]

include h0 h2 h5 in
theorem v18_at (i : Fin 8192) (f : Fin 2816) : res_main_v18 V0 (ix3 0 i f) = ((up g2 wu (x i) f : ℝ) : EReal) := by
  pointwise [res_main_v18, v15_at g2 x V0 h0 h2, h5]
  simp only [mul_r, sum_r, zero_r]
  rfl

include h0 h2 h4 h5 in
theorem v19_at (i : Fin 8192) (f : Fin 2816) : res_main_v19 V0 (ix3 0 i f) = ((act g2 wg wu (x i) f : ℝ) : EReal) := by
  pointwise [res_main_v19, v17_0_at g2 wg x V0 h0 h2 h4, v18_at g2 wu x V0 h0 h2 h5]
  simp only [mul_r]
  rfl

include h0 h2 h4 h5 h6 in
theorem v21_at (i : Fin 8192) (j : Fin 1024) : res_main_v21 V0 (ix3 0 i j) = ((x2 g2 wg wu wd (x i) j : ℝ) : EReal) := by
  pointwise [res_main_v21, v19_at g2 wg wu x V0 h0 h2 h4 h5, h0, h6]
  simp only [mul_r, sum_r, zero_r, add_r]
  rfl

include h0 h2 h4 h5 h6 in
theorem v28_at (i : Fin 8192) : res_main_v28 V0 (ix3 0 i 0) = ((ms (x2 g2 wg wu wd (x i)) : ℝ) : EReal) := by
  pointwise [res_main_v28, v21_at g2 wg wu wd x V0 h0 h2 h4 h5 h6]
  simp only [c1024, ceps, mul_r, sum_r, zero_r, div1024_r, add_r]
  rfl

include h0 h2 h4 h5 h6 in
theorem v29_at (i : Fin 8192) : res_main_v29 V0 (ix3 0 i 0) = ((rs (x2 g2 wg wu wd (x i)) : ℝ) : EReal) := by
  pointwise [res_main_v29, v28_at g2 wg wu wd x V0 h0 h2 h4 h5 h6]
  exact rsqrt_r (x2 g2 wg wu wd (x i))

include h0 h2 h4 h5 h6 in
theorem v34_at (i : Fin 8192) (j : Fin 1024) : res_main_v34 V0 (ix3 0 i j) = ((nrm (x2 g2 wg wu wd (x i)) j : ℝ) : EReal) := by
  pointwise [res_main_v34, v29_at g2 wg wu wd x V0 h0 h2 h4 h5 h6, v21_at g2 wg wu wd x V0 h0 h2 h4 h5 h6]
  simp only [mul_r]
  rfl

include h0 h1 h2 h3 h4 h5 h6 in
theorem v38_at (i : Fin 8192) (j : Fin 1024) : res_main_v38 V0 (ix3 0 i j) = ((err g2 gf wg wu wd (x i) (t i) j : ℝ) : EReal) := by
  pointwise [res_main_v38, res_main_v35, v34_at g2 wg wu wd x V0 h0 h2 h4 h5 h6, h1, h3]
  simp only [mul_r, sub_r]
  rfl

include h0 h1 h2 h3 h4 h5 h6 in
theorem v52_at (i : Fin 8192) (j : Fin 1024) : res_main_v52 V0 (ix3 0 i j) = ((dy g2 gf wg wu wd (x i) (t i) j : ℝ) : EReal) := by
  pointwise [res_main_v52, v38_at g2 gf wg wu wd x t V0 h0 h1 h2 h3 h4 h5 h6]
  simp only [chalf, ctwo, c1024, mul_one, mul_r, div1024_r]
  refine congrArg _ ?_
  unfold dy; ring

include h0 h1 h2 h3 h4 h5 h6 in
theorem v57_at (i : Fin 8192) (j : Fin 1024) :
    res_main_v57 V0 (ix3 0 i j) = ((dy g2 gf wg wu wd (x i) (t i) j * gf j : ℝ) : EReal) := by
  pointwise [res_main_v57, res_main_v35, v52_at g2 gf wg wu wd x t V0 h0 h1 h2 h3 h4 h5 h6, h3]
  simp only [mul_r]

include h0 h1 h2 h3 h4 h5 h6 in
theorem v69_at (i : Fin 8192) (j : Fin 1024) : res_main_v69 V0 (ix3 0 i j)
    = ((rbRoot (x2 g2 wg wu wd (x i)) (fun l => dy g2 gf wg wu wd (x i) (t i) l * gf l) : ℝ) : EReal) := by
  pointwise [res_main_v69, UnitAxes.sum_first_last, v57_at g2 gf wg wu wd x t V0 h0 h1 h2 h3 h4 h5 h6, v21_at g2 wg wu wd x V0 h0 h2 h4 h5 h6, v28_at g2 wg wu wd x V0 h0 h2 h4 h5 h6, v29_at g2 wg wu wd x V0 h0 h2 h4 h5 h6]
  simp only [v57_at g2 gf wg wu wd x t V0 h0 h1 h2 h3 h4 h5 h6, v21_at g2 wg wu wd x V0 h0 h2 h4 h5 h6, v28_at g2 wg wu wd x V0 h0 h2 h4 h5 h6, v29_at g2 wg wu wd x V0 h0 h2 h4 h5 h6, c1024, cnhalf, mul_r, sum_r, zero_r, div1024_r, div_r (ms_pos _).ne', Fin.sum_univ_one]
  rfl

include h0 h1 h2 h3 h4 h5 h6 in
theorem v73_at (i : Fin 8192) (j : Fin 1024) : res_main_v73 V0 (ix3 0 i j) = ((dx2 g2 gf wg wu wd (x i) (t i) j : ℝ) : EReal) := by
  pointwise [res_main_v73, v69_at g2 gf wg wu wd x t V0 h0 h1 h2 h3 h4 h5 h6, v57_at g2 gf wg wu wd x t V0 h0 h1 h2 h3 h4 h5 h6, v21_at g2 wg wu wd x V0 h0 h2 h4 h5 h6, v29_at g2 wg wu wd x V0 h0 h2 h4 h5 h6]
  simp only [mul_r, add_r]
  exact congrArg _ (rb_eq (x2 g2 wg wu wd (x i)) (fun l => dy g2 gf wg wu wd (x i) (t i) l * gf l) j)

include h0 h1 h2 h3 h4 h5 h6 in
theorem v76_at (i : Fin 8192) (f : Fin 2816) : res_main_v76 V0 (ix3 0 i f) = ((dact g2 gf wg wu wd (x i) (t i) f : ℝ) : EReal) := by
  pointwise [res_main_v76, v73_at g2 gf wg wu wd x t V0 h0 h1 h2 h3 h4 h5 h6, h6]
  simp only [mul_r, sum_r, zero_r]
  rfl

include h0 h1 h2 h3 h4 h5 h6 in
theorem v77_at (i : Fin 8192) (f : Fin 2816) : res_main_v77 V0 (ix3 0 i f) = ((dup g2 gf wg wu wd (x i) (t i) f : ℝ) : EReal) := by
  pointwise [res_main_v77, v76_at g2 gf wg wu wd x t V0 h0 h1 h2 h3 h4 h5 h6, v17_0_at g2 wg x V0 h0 h2 h4]
  simp only [mul_r]
  exact congrArg _ (mul_comm _ _)

include h0 h1 h2 h3 h4 h5 h6 in
theorem v82_at (i : Fin 8192) (f : Fin 2816) : res_main_v82 V0 (ix3 0 i f) = ((dgate g2 gf wg wu wd (x i) (t i) f : ℝ) : EReal) := by
  pointwise [res_main_v82, res_main_v78, v76_at g2 gf wg wu wd x t V0 h0 h1 h2 h3 h4 h5 h6, v16_at g2 wg x V0 h0 h2 h4, v17_2_at g2 wg x V0 h0 h2 h4, v18_at g2 wu x V0 h0 h2 h5]
  simp only [mul_r, add_r, one_sub_r]
  exact congrArg _ (dgate_eq g2 gf wg wu wd (x i) (t i) f)

include h0 h1 h2 h3 h4 h5 h6 in
theorem v86_at (i : Fin 8192) (j : Fin 1024) : res_main_v86 V0 (ix3 0 i j) = ((dh g2 gf wg wu wd (x i) (t i) j : ℝ) : EReal) := by
  pointwise [res_main_v86, v77_at g2 gf wg wu wd x t V0 h0 h1 h2 h3 h4 h5 h6, v82_at g2 gf wg wu wd x t V0 h0 h1 h2 h3 h4 h5 h6, h4, h5]
  simp only [mul_r, sum_r, zero_r, add_r]
  exact congrArg _ (add_comm _ _)

include h0 h1 h2 h3 h4 h5 h6 in
theorem v91_at (i : Fin 8192) (j : Fin 1024) :
    res_main_v91 V0 (ix3 0 i j) = ((dh g2 gf wg wu wd (x i) (t i) j * g2 j : ℝ) : EReal) := by
  pointwise [res_main_v91, res_main_v13, v86_at g2 gf wg wu wd x t V0 h0 h1 h2 h3 h4 h5 h6, h2]
  simp only [mul_r]

include h0 h1 h2 h3 h4 h5 h6 in
theorem v104_at (i : Fin 8192) (j : Fin 1024) : res_main_v104 V0 (ix3 0 i j)
    = ((rbRoot (x i) (fun l => dh g2 gf wg wu wd (x i) (t i) l * g2 l) : ℝ) : EReal) := by
  pointwise [res_main_v104, UnitAxes.sum_first_last, v91_at g2 gf wg wu wd x t V0 h0 h1 h2 h3 h4 h5 h6, v6_at x V0 h0, v7_at x V0 h0, h0]
  simp only [v91_at g2 gf wg wu wd x t V0 h0 h1 h2 h3 h4 h5 h6, v6_at x V0 h0, v7_at x V0 h0, h0, c1024, cnhalf, mul_r, sum_r, zero_r, div1024_r, div_r (ms_pos _).ne', Fin.sum_univ_one]
  rfl

/-! ## The seven results -/

include h0 h1 h2 h3 h4 h5 h6 in
theorem loss_at (k : S_.Idx) :
    (mulf (constant S_ .f32 0x3F000000#32) (Host.reduceAdd (Host.divf (Host.reduceAdd (mulf (res_main_v38 V0) (res_main_v38 V0)) (constant S_ .f32 0x00000000#32) reducesTo_S1x8192x1024_S1x8192_d2 h_S_) (broadcastInDim S1x8192 ![] bcast_S_S1x8192 (constant S_ .f32 0x44800000#32))) (constant S_ .f32 0x00000000#32) reducesTo_S1x8192_S_d0_1 h_S_) : FVec Ideal S_ .f32) k
    = ((1 / 2 * ∑ i, lossRow g2 gf wg wu wd (x i) (t i) : ℝ) : EReal) := by
  pointwise [v38_at g2 gf wg wu wd x t V0 h0 h1 h2 h3 h4 h5 h6]
  simp only [v38_at g2 gf wg wu wd x t V0 h0 h1 h2 h3 h4 h5 h6, chalf, c1024, mul_r, sum_r, zero_r, div1024_r, Fin.sum_univ_one]
  rfl

include h0 h1 h2 h3 h4 h5 h6 in
theorem dx_at (i : Fin 8192) (j : Fin 1024) :
    (addf (addf (addf (res_main_v73 V0) (mulf (res_main_v91 V0) (broadcastInDim S1x8192x1024 ![0, 1, 2] bcast_S1x8192x1_S1x8192x1024_0_1_2 (res_main_v7 V0)))) (mulf (V0 (Proc.devRef .tc main_arg0)) (res_main_v104 V0))) (mulf (res_main_v104 V0) (V0 (Proc.devRef .tc main_arg0))) : FVec Ideal S1x8192x1024 .f32) (ix3 0 i j)
    = ((dx1 g2 gf wg wu wd (x i) (t i) j : ℝ) : EReal) := by
  pointwise [v73_at g2 gf wg wu wd x t V0 h0 h1 h2 h3 h4 h5 h6, v91_at g2 gf wg wu wd x t V0 h0 h1 h2 h3 h4 h5 h6, v104_at g2 gf wg wu wd x t V0 h0 h1 h2 h3 h4 h5 h6, v7_at x V0 h0, h0]
  simp only [mul_r, add_r]
  refine congrArg _ ?_
  unfold dx1
  rw [← rb_eq]; ring

include h0 h1 h2 h3 h4 h5 h6 in
theorem dg2_at (j : Fin 1024) :
    (Host.reduceAdd (shapeCast _ (Host.reduceAdd (mulf (res_main_v12 V0) (res_main_v86 V0)) (constant S_ .f32 0x00000000#32) reducesTo_S1x8192x1024_S1x1024_d1 h_S_) shapeCasts_S1x1024_S1x1x1024) (constant S_ .f32 0x00000000#32) reducesTo_S1x1x1024_S1024_d0_1 h_S_ : FVec Ideal S1024 .f32) (ix1 j)
    = ((∑ i, dg2Row g2 gf wg wu wd (x i) (t i) j : ℝ) : EReal) := by
  pointwise [UnitAxes.sum_first_two, v12_at x V0 h0, v86_at g2 gf wg wu wd x t V0 h0 h1 h2 h3 h4 h5 h6]
  simp only [v12_at x V0 h0, v86_at g2 gf wg wu wd x t V0 h0 h1 h2 h3 h4 h5 h6, mul_r, sum_r, zero_r, Fin.sum_univ_one]
  refine congrArg _ (Finset.sum_congr rfl fun i _ => ?_)
  exact mul_comm _ _

include h0 h1 h2 h3 h4 h5 h6 in
theorem dgf_at (j : Fin 1024) :
    (Host.reduceAdd (shapeCast _ (Host.reduceAdd (mulf (res_main_v34 V0) (res_main_v52 V0)) (constant S_ .f32 0x00000000#32) reducesTo_S1x8192x1024_S1x1024_d1 h_S_) shapeCasts_S1x1024_S1x1x1024) (constant S_ .f32 0x00000000#32) reducesTo_S1x1x1024_S1024_d0_1 h_S_ : FVec Ideal S1024 .f32) (ix1 j)
    = ((∑ i, dgfRow g2 gf wg wu wd (x i) (t i) j : ℝ) : EReal) := by
  pointwise [UnitAxes.sum_first_two, v34_at g2 wg wu wd x V0 h0 h2 h4 h5 h6, v52_at g2 gf wg wu wd x t V0 h0 h1 h2 h3 h4 h5 h6]
  simp only [v34_at g2 wg wu wd x V0 h0 h2 h4 h5 h6, v52_at g2 gf wg wu wd x t V0 h0 h1 h2 h3 h4 h5 h6, mul_r, sum_r, zero_r, Fin.sum_univ_one]
  refine congrArg _ (Finset.sum_congr rfl fun i _ => ?_)
  exact mul_comm _ _

include h0 h1 h2 h3 h4 h5 h6 in
theorem dwg_at (j : Fin 1024) (f : Fin 2816) :
    (transpose S1024x2816 [1, 0] (Host.dotGeneral (φ₁ := .f32) (φ₂ := .f32) dot_S1x8192x2816_S1x8192x1024_S2816x1024_01_01_2_2_n_n none (res_main_v82 V0) (res_main_v15 V0)) transposes_S2816x1024_S1024x2816_1_0 : FVec Ideal S1024x2816 .f32) (ix2 j f)
    = ((∑ i, dgate g2 gf wg wu wd (x i) (t i) f * hid g2 (x i) j : ℝ) : EReal) := by
  pointwise [v82_at g2 gf wg wu wd x t V0 h0 h1 h2 h3 h4 h5 h6, v15_at g2 x V0 h0 h2]
  simp only [v82_at g2 gf wg wu wd x t V0 h0 h1 h2 h3 h4 h5 h6, v15_at g2 x V0 h0 h2, mul_r, sum_r, zero_r, Fin.sum_univ_one]

include h0 h1 h2 h3 h4 h5 h6 in
theorem dwu_at (j : Fin 1024) (f : Fin 2816) :
    (transpose S1024x2816 [1, 0] (Host.dotGeneral (φ₁ := .f32) (φ₂ := .f32) dot_S1x8192x2816_S1x8192x1024_S2816x1024_01_01_2_2_n_n none (res_main_v77 V0) (res_main_v15 V0)) transposes_S2816x1024_S1024x2816_1_0 : FVec Ideal S1024x2816 .f32) (ix2 j f)
    = ((∑ i, dup g2 gf wg wu wd (x i) (t i) f * hid g2 (x i) j : ℝ) : EReal) := by
  pointwise [v77_at g2 gf wg wu wd x t V0 h0 h1 h2 h3 h4 h5 h6, v15_at g2 x V0 h0 h2]
  simp only [v77_at g2 gf wg wu wd x t V0 h0 h1 h2 h3 h4 h5 h6, v15_at g2 x V0 h0 h2, mul_r, sum_r, zero_r, Fin.sum_univ_one]

include h0 h1 h2 h3 h4 h5 h6 in
theorem dwd_at (f : Fin 2816) (j : Fin 1024) :
    (transpose S2816x1024 [1, 0] (Host.dotGeneral (φ₁ := .f32) (φ₂ := .f32) dot_S1x8192x1024_S1x8192x2816_S1024x2816_01_01_2_2_n_n none (res_main_v73 V0) (res_main_v19 V0)) transposes_S1024x2816_S2816x1024_1_0 : FVec Ideal S2816x1024 .f32) (ix2 f j)
    = ((∑ i, act g2 wg wu (x i) f * dx2 g2 gf wg wu wd (x i) (t i) j : ℝ) : EReal) := by
  pointwise [v73_at g2 gf wg wu wd x t V0 h0 h1 h2 h3 h4 h5 h6, v19_at g2 wg wu x V0 h0 h2 h4 h5]
  simp only [v73_at g2 gf wg wu wd x t V0 h0 h1 h2 h3 h4 h5 h6, v19_at g2 wg wu x V0 h0 h2 h4 h5, mul_r, sum_r, zero_r, Fin.sum_univ_one]
  refine congrArg _ (Finset.sum_congr rfl fun i _ => ?_)
  exact mul_comm _ _

end Rows

end Cert.FfnRefIdeal.Value

end
-- ==== Proof.FfnFinite.lean ====
/- What the precondition says: every argument is an array of real numbers. -/
module

public import Idealize.ShloMosaic.Lib.Pointwise
public import proofs.«01_k».proof.Pre_finite
public import proofs.«01_k».proof.Proof.Gen.Pre_finite

@[expose] public section

set_option maxRecDepth 16384

noncomputable section

namespace Cert.FfnFinite

open Idealize.ShloMosaic
open Cert.Pre_finite

/-- An extended real whose absolute value is below infinity is real. -/
theorem real_of {s : Shape} (a : FVec Ideal s .f32) (hs : (⟨0, ![]⟩ : Shape).BroadcastsInDim s ![])
    (h : cmpf .olt (Host.absf a) (broadcastInDim s ![] hs (constant (F := Ideal) ⟨0, ![]⟩ .f32 0x7F800000#32)) = fun _ => 1#1) (k : s.Idx) :
    a k = ((EReal.toReal (a k) : ℝ) : EReal) := by
  have e := congrFun h k
  revert e
  pointwise
  intro e
  have hi : Ideal.ofBits .f32 2139095040#32 = (⊤ : EReal) := by simp [Ideal.ofBits, Ideal.ieee]
  rw [hi] at e
  by_cases hl : FloatOps.absf (F := Ideal) (φ := .f32) (a k) < (⊤ : EReal)
  · refine (EReal.coe_toReal (fun h1 => ?_) (fun h1 => ?_)).symm <;> (rw [h1] at hl; revert hl; simp [FloatOps.absf])
  · rw [decide_eq_false hl] at e; exact absurd e (by decide)

end Cert.FfnFinite

end
-- ==== Proof.FfnClaim.lean ====
/- The feed-forward program: on real arguments it leaves what the reference leaves. -/
module

public import proofs.«01_k».proof.Defs
public import proofs.«01_k».proof.Proof.FfnRun
public import proofs.«01_k».proof.Proof.FfnValue
public import proofs.«01_k».proof.Proof.FfnRef
public import proofs.«01_k».proof.Proof.FfnFinite
public import proofs.«01_k».proof.Proof.Gen.Pre_finite

@[expose] public section

set_option maxRecDepth 16384

noncomputable section

namespace Cert.FfnClaim

open Idealize.ShloMosaic Idealize.ShloMosaic.TcCoe Idealize.SL.Sem
open Cert.FfnMath

section Reals
open Cert.FfnIdeal
variable (m : (ℓ : Loc Cert.FfnIdeal.nD Cert.FfnIdeal.τ Cert.FfnIdeal.sig) → Buf (Elt Ideal) ℓ) (c : Dev nD)

/-- The arguments' entries as real numbers. -/
def x (i : Fin 8192) (j : Fin 1024) : ℝ := EReal.toReal ((m ((c : Thread nD τ).loc main_arg0) : FVec Ideal S1x8192x1024 .f32) (ix3 0 i j))
def y (i : Fin 8192) (j : Fin 1024) : ℝ := EReal.toReal ((m ((c : Thread nD τ).loc main_arg1) : FVec Ideal S1x8192x1024 .f32) (ix3 0 i j))
def g2 (j : Fin 1024) : ℝ := EReal.toReal ((m ((c : Thread nD τ).loc main_arg2) : FVec Ideal S1024 .f32) (ix1 j))
def gf (j : Fin 1024) : ℝ := EReal.toReal ((m ((c : Thread nD τ).loc main_arg3) : FVec Ideal S1024 .f32) (ix1 j))
def wg (j : Fin 1024) (f : Fin 2816) : ℝ := EReal.toReal ((m ((c : Thread nD τ).loc main_arg4) : FVec Ideal S1024x2816 .f32) (ix2 j f))
def wu (j : Fin 1024) (f : Fin 2816) : ℝ := EReal.toReal ((m ((c : Thread nD τ).loc main_arg5) : FVec Ideal S1024x2816 .f32) (ix2 j f))
def wd (f : Fin 2816) (j : Fin 1024) : ℝ := EReal.toReal ((m ((c : Thread nD τ).loc main_arg6) : FVec Ideal S2816x1024 .f32) (ix2 f j))

theorem args (hp : Pre_FfnIdeal_finite m) :
    Value.Args m c (g2 m c) (gf m c) (wg m c) (wu m c) (wd m c) (x m c) (y m c) where
  x1 i j := FfnFinite.real_of _ _ (hp c).1 _
  target i j := FfnFinite.real_of _ _ (hp c).2.1 _
  norm2 j := FfnFinite.real_of _ _ (hp c).2.2.1 _
  normf j := FfnFinite.real_of _ _ (hp c).2.2.2.1 _
  gate j f := FfnFinite.real_of _ _ (hp c).2.2.2.2.1 _
  up j f := FfnFinite.real_of _ _ (hp c).2.2.2.2.2.1 _
  down f j := FfnFinite.real_of _ _ (hp c).2.2.2.2.2.2 _

end Reals

/-- On real arguments the kernel's seven results are the reference's. -/
theorem algebraic : algebraic_FfnIdeal_FfnRefIdeal_pre_finite := by
  intro m g m' g' hp hs
  refine ⟨fun c => FfnIdeal.Gen.W6 m g c (Proc.devRef .tc FfnIdeal.main_v14), fun c => FfnIdeal.Gen.W6 m g c (Proc.devRef .tc FfnIdeal.main_v15),
    fun c => FfnIdeal.Gen.W6 m g c (Proc.devRef .tc FfnIdeal.main_v16), fun c => FfnIdeal.Gen.W6 m g c (Proc.devRef .tc FfnIdeal.main_v17),
    fun c => FfnIdeal.Gen.W6 m g c (Proc.devRef .tc FfnIdeal.main_v18), fun c => FfnIdeal.Gen.W6 m g c (Proc.devRef .tc FfnIdeal.main_v19),
    fun c => FfnIdeal.Gen.W6 m g c (Proc.devRef .tc FfnIdeal.main_v12_2), ?_, ?_⟩
  · refine (θ_run _ _ _).mono (fun r h c => ?_) (FfnIdeal.Value.run (F := Ideal) m g)
    exact ⟨h c _ (FfnIdeal.Gen.mem_uc FfnIdeal.main_v14 (by decide)), h c _ (FfnIdeal.Gen.mem_uc FfnIdeal.main_v15 (by decide)),
      h c _ (FfnIdeal.Gen.mem_uc FfnIdeal.main_v16 (by decide)), h c _ (FfnIdeal.Gen.mem_uc FfnIdeal.main_v17 (by decide)),
      h c _ (FfnIdeal.Gen.mem_uc FfnIdeal.main_v18 (by decide)), h c _ (FfnIdeal.Gen.mem_uc FfnIdeal.main_v19 (by decide)),
      h c _ (FfnIdeal.Gen.mem_uc FfnIdeal.main_v12_2 (by decide)),
      (h c _ (FfnIdeal.Gen.mem_uc FfnIdeal.main_arg0 (by decide))).trans (FfnIdeal.Gen.W6_main_arg0 m g c),
      (h c _ (FfnIdeal.Gen.mem_uc FfnIdeal.main_arg1 (by decide))).trans (FfnIdeal.Gen.W6_main_arg1 m g c),
      (h c _ (FfnIdeal.Gen.mem_uc FfnIdeal.main_arg2 (by decide))).trans (FfnIdeal.Gen.W6_main_arg2 m g c),
      (h c _ (FfnIdeal.Gen.mem_uc FfnIdeal.main_arg3 (by decide))).trans (FfnIdeal.Gen.W6_main_arg3 m g c),
      (h c _ (FfnIdeal.Gen.mem_uc FfnIdeal.main_arg4 (by decide))).trans (FfnIdeal.Gen.W6_main_arg4 m g c),
      (h c _ (FfnIdeal.Gen.mem_uc FfnIdeal.main_arg5 (by decide))).trans (FfnIdeal.Gen.W6_main_arg5 m g c),
      (h c _ (FfnIdeal.Gen.mem_uc FfnIdeal.main_arg6 (by decide))).trans (FfnIdeal.Gen.W6_main_arg6 m g c)⟩
  · refine (θ_run _ _ _).mono (fun r h c => ?_) (FfnRefIdeal.Value.run (F := Ideal) m' g')
    obtain ⟨r0, r1, r2, r3, r4, r5, r6, ra⟩ := h c
    have H := args m c hp
    obtain ⟨s0, s1, s2, s3, s4, s5, s6⟩ := hs c
    have a0 := fun i j => (congrFun s0 (ix3 0 i j)).trans (H.x1 i j)
    have a1 := fun i j => (congrFun s1 (ix3 0 i j)).trans (H.target i j)
    have a2 := fun j => (congrFun s2 (ix1 j)).trans (H.norm2 j)
    have a3 := fun j => (congrFun s3 (ix1 j)).trans (H.normf j)
    have a4 := fun j f => (congrFun s4 (ix2 j f)).trans (H.gate j f)
    have a5 := fun j f => (congrFun s5 (ix2 j f)).trans (H.up j f)
    have a6 := fun f j => (congrFun s6 (ix2 f j)).trans (H.down f j)
    refine ⟨r0.trans (funext fun k => ?_), r1.trans (funext fun k => ?_), r2.trans (funext fun k => ?_), r3.trans (funext fun k => ?_),
      r4.trans (funext fun k => ?_), r5.trans (funext fun k => ?_), r6.trans (funext fun k => ?_), ra⟩
    · exact (FfnRefIdeal.Value.loss_at _ _ _ _ _ _ _ _ a0 a1 a2 a3 a4 a5 a6 k).trans (FfnIdeal.Value.loss_eq m g c _ _ _ _ _ _ _ H k).symm
    · idx_vars k
      obtain rfl : k0 = 0 := Subsingleton.elim _ _
      exact (FfnRefIdeal.Value.dx_at _ _ _ _ _ _ _ _ a0 a1 a2 a3 a4 a5 a6 _ _).trans (FfnIdeal.Value.dx_eq m g c _ _ _ _ _ _ _ H _ _).symm
    · idx_vars k
      exact (FfnRefIdeal.Value.dg2_at _ _ _ _ _ _ _ _ a0 a1 a2 a3 a4 a5 a6 _).trans (FfnIdeal.Value.dg2_eq m g c _ _ _ _ _ _ _ H _).symm
    · idx_vars k
      exact (FfnRefIdeal.Value.dgf_at _ _ _ _ _ _ _ _ a0 a1 a2 a3 a4 a5 a6 _).trans (FfnIdeal.Value.dgf_eq m g c _ _ _ _ _ _ _ H _).symm
    · idx_vars k
      exact (FfnRefIdeal.Value.dwg_at _ _ _ _ _ _ _ _ a0 a1 a2 a3 a4 a5 a6 _ _).trans (FfnIdeal.Value.dwg_eq m g c _ _ _ _ _ _ _ H _ _).symm
    · idx_vars k
      exact (FfnRefIdeal.Value.dwu_at _ _ _ _ _ _ _ _ a0 a1 a2 a3 a4 a5 a6 _ _).trans (FfnIdeal.Value.dwu_eq m g c _ _ _ _ _ _ _ H _ _).symm
    · idx_vars k
      exact (FfnRefIdeal.Value.dwd_at _ _ _ _ _ _ _ _ a0 a1 a2 a3 a4 a5 a6 _ _).trans (FfnIdeal.Value.dwd_eq m g c _ _ _ _ _ _ _ H _ _).symm

/-- The reference program runs, keeps its arguments and has no semaphore. -/

theorem quiescent_reference : quiescent_FfnRefIdeal := by
  intro m g _
  refine (θ_run _ _ _).mono (fun r h => ⟨fun c => ?_, sem_eq_zero_of_no_sems (by decide) _⟩) (FfnRefIdeal.Value.run (F := Ideal) m g)
  exact (h c).2.2.2.2.2.2.2

end Cert.FfnClaim

end
-- ==== Proof.ProjMath.lean ====
/- The input projection over the extended reals, row by row, and the identity that joins the two ways of writing the
   gradient through the norm.  No program appears here, and no entry needs to be finite. -/
module

public import proofs.«01_k».proof.Proof.FfnMath
public import Mathlib.Tactic.LinearCombination

@[expose] public section

set_option maxRecDepth 16384

noncomputable section

namespace Cert.ProjMath

open Idealize.ShloMosaic
open Cert.FfnMath (eps eps_pos)

/-- A row of the residual stream. -/
abbrev Row := Fin 1024 → EReal

/-- The mean square of a row, plus `eps`. -/
def ms (x : Row) : EReal := Ideal.div (∑ j, x j * x j) ((1024 : ℝ) : EReal) + ((eps : ℝ) : EReal)
/-- The reciprocal root mean square of a row. -/
def rs (x : Row) : EReal := Ideal.rsqrt (ms x)
/-- A row divided by its root mean square. -/
def nrm (x : Row) (j : Fin 1024) : EReal := x j * rs x
/-- The normalised, scaled row. -/
def hid (g : Row) (x : Row) (j : Fin 1024) : EReal := nrm x j * g j
/-- The gradient that reaches a row through its normalisation, `d` being what reaches the normalised row. -/
def rb (x d : Row) (j : Fin 1024) : EReal := rs x * (d j - nrm x j * Ideal.div (∑ l, d l * nrm x l) ((1024 : ℝ) : EReal))
/-- The same gradient, the mean square's part written as a derivative of the root. -/
def rbRoot (x d : Row) : EReal :=
  Ideal.div ((∑ l, x l * d l) * (((-(1 / 2) : ℝ) : EReal) * Ideal.div (rs x) (ms x))) ((1024 : ℝ) : EReal)

theorem div1024 (a : EReal) : Ideal.div a ((1024 : ℝ) : EReal) = a * ((1 / 1024 : ℝ) : EReal) := Ideal.div_coe (by norm_num) a

/-- A real factor, not negative, goes into a sum. -/
theorem sum_mul {n : ℕ} (f : Fin n → EReal) (r : ℝ) (hr : 0 ≤ r) : (∑ k, f k * (r : EReal)) = (∑ k, f k) * (r : EReal) := by
  induction n with
  | zero => simp
  | succ n ih =>
    rw [Fin.sum_univ_castSucc, Fin.sum_univ_castSucc, ih,
      EReal.right_distrib_of_nonneg_of_ne_top (EReal.coe_nonneg.mpr hr) (EReal.coe_ne_top r)]

theorem mul_sub {r : ℝ} (hr : 0 ≤ r) (a b : EReal) : (r : EReal) * (a - b) = (r : EReal) * a + -((r : EReal) * b) := by
  rw [sub_eq_add_neg, EReal.left_distrib_of_nonneg_of_ne_top (EReal.coe_nonneg.mpr hr) (EReal.coe_ne_top r), mul_neg]

theorem twice (a : EReal) (b : ℝ) : a * (b : EReal) + a * (b : EReal) = a * ((2 * b : ℝ) : EReal) := by
  have h : ((2 * b : ℝ) : EReal) = (b : EReal) * (1 + 1) := by
    rw [show ((1 : EReal) + 1) = ((2 : ℝ) : EReal) by rw [← EReal.coe_one, ← EReal.coe_add]; norm_num, ← EReal.coe_mul, mul_comm]
  rw [h, ← mul_assoc, EReal.left_distrib_of_nonneg zero_le_one zero_le_one, mul_one]

theorem sq_nonneg' (a : EReal) : 0 ≤ a * a := by
  induction a with
  | bot => simp
  | top => simp
  | coe a => rw [← EReal.coe_mul]; exact EReal.coe_nonneg.mpr (mul_self_nonneg a)

theorem ms_ge (x : Row) : ((eps : ℝ) : EReal) ≤ ms x := by
  unfold ms; rw [div1024]
  have h : 0 ≤ (∑ j, x j * x j) * ((1 / 1024 : ℝ) : EReal) :=
    mul_nonneg (Finset.sum_nonneg fun j _ => sq_nonneg' (x j)) (EReal.coe_nonneg.mpr (by norm_num))
  calc ((eps : ℝ) : EReal) = 0 + ((eps : ℝ) : EReal) := (zero_add _).symm
    _ ≤ _ := by gcongr

/-- A row whose mean square is a real number has real entries. -/
theorem real_of_ms {x : Row} {r : ℝ} (h : ms x = (r : EReal)) (j : Fin 1024) : ∃ a : ℝ, x j = (a : EReal) := by
  have hs : (∑ j, x j * x j) ≠ ⊤ := by
    intro e
    unfold ms at h
    rw [div1024, e, EReal.top_mul_coe_of_pos (by norm_num), EReal.top_add_coe] at h
    exact absurd h.symm (EReal.coe_ne_top r)
  have hj : x j * x j ≠ ⊤ := by
    intro e
    refine hs (top_le_iff.mp ?_)
    rw [← e]
    exact Finset.single_le_sum (f := fun j => x j * x j) (fun j _ => sq_nonneg' (x j)) (Finset.mem_univ j)
  generalize x j = a at hj
  induction a with
  | bot => simp at hj
  | top => simp at hj
  | coe a => exact ⟨a, rfl⟩

/-- The two ways of writing the gradient through a normalisation agree, on all extended reals. -/
theorem rb_eq (x d : Row) (j : Fin 1024) : d j * rs x + x j * rbRoot x d + rbRoot x d * x j = rb x d j := by
  have hge := ms_ge x
  rcases hm : ms x with _ | _ | r
  · rw [hm] at hge; exact absurd (le_bot_iff.mp hge) (EReal.coe_ne_bot _)
  · change ms x = ⊤ at hm
    have h0 : rs x = 0 := by unfold rs; rw [hm]; rfl
    unfold rb rbRoot nrm
    rw [h0, hm]
    simp [div1024, Ideal.div]
  · change ms x = (r : EReal) at hm
    have hr : 0 < r := lt_of_lt_of_le eps_pos (by rw [hm] at hge; exact EReal.coe_le_coe_iff.mp hge)
    obtain ⟨a, ha⟩ := real_of_ms hm j
    have hR : rs x = (((√r)⁻¹ : ℝ) : EReal) := by
      unfold rs; rw [hm, Ideal.rsqrt_coe, if_neg (not_lt.mpr hr.le), if_neg hr.ne']
    set s : ℝ := (√r)⁻¹ with hs
    have hs0 : 0 ≤ s := inv_nonneg.mpr (Real.sqrt_nonneg r)
    have hss : s * s = r⁻¹ := by rw [hs, ← mul_inv, Real.mul_self_sqrt hr.le]
    have hT : (∑ l, d l * nrm x l) = (∑ l, x l * d l) * (s : EReal) := by
      rw [← sum_mul _ s hs0]
      refine Finset.sum_congr rfl fun l _ => ?_
      unfold nrm; rw [hR]; ac_rfl
    have hroot : rbRoot x d = (∑ l, x l * d l) * ((-(1 / 2) * (s / r) * (1 / 1024) : ℝ) : EReal) := by
      unfold rbRoot
      rw [div1024, hR, hm, Cert.FfnMath.div_r hr.ne', Cert.FfnMath.mul_r, mul_assoc, Cert.FfnMath.mul_r]
    unfold rb
    rw [hroot, hT, div1024]
    unfold nrm
    rw [hR, ha]
    generalize (∑ l, x l * d l) = S
    rw [mul_sub hs0]
    have e1 : (a : EReal) * (S * ((-(1 / 2) * (s / r) * (1 / 1024) : ℝ) : EReal)) = S * ((a * (-(1 / 2) * (s / r) * (1 / 1024)) : ℝ) : EReal) := by
      rw [EReal.coe_mul a]; ac_rfl
    have e2 : (S * ((-(1 / 2) * (s / r) * (1 / 1024) : ℝ) : EReal)) * (a : EReal) = S * ((a * (-(1 / 2) * (s / r) * (1 / 1024)) : ℝ) : EReal) := by
      rw [EReal.coe_mul a]; ac_rfl
    have e3 : -((s : EReal) * ((a : EReal) * (s : EReal) * (S * (s : EReal) * ((1 / 1024 : ℝ) : EReal)))) = S * ((-(s * (a * s) * (s * (1 / 1024))) : ℝ) : EReal) := by
      rw [EReal.coe_neg, mul_neg]
      refine congrArg _ ?_
      rw [EReal.coe_mul, EReal.coe_mul, EReal.coe_mul, EReal.coe_mul]
      ac_rfl
    rw [e1, e2, e3, add_assoc, twice, mul_comm (s : EReal) (d j)]
    refine congrArg (fun z : ℝ => d j * (s : EReal) + S * (z : EReal)) ?_
    have : s / r = s * (s * s) := by rw [hss, div_eq_mul_inv]
    rw [this]; ring

/-! ## The projection -/

section
variable (g x : Row) (w : Fin 1024 → Fin 2592 → EReal) (d : Fin 2592 → EReal)

/-- A row of the projection. -/
def proj (f : Fin 2592) : EReal := ∑ j, hid g x j * w j f
/-- The gradient that reaches the normalised, scaled row. -/
def dh (j : Fin 1024) : EReal := ∑ f, d f * w j f

/-- A sum over 2592 columns in the three pieces the kernels take it in. -/
theorem sum_pieces (F : Fin 2592 → EReal) :
    (∑ f, F f) = (∑ k : Fin 1536, F ⟨k.val, by omega⟩) + (∑ k : Fin 1024, F ⟨k.val + 1568, by omega⟩)
      + ∑ k : Fin 32, F ⟨k.val + 1536, by omega⟩ := by
  have e1 := Fin.sum_univ_add (M := EReal) (a := 1536) (b := 1056) (fun i => F ⟨i.val, i.isLt⟩)
  have e2 := Fin.sum_univ_add (M := EReal) (a := 32) (b := 1024) (fun i => F ⟨i.val + 1536, by omega⟩)
  have h1 : (∑ f, F f) = ∑ i : Fin (1536 + 1056), F ⟨i.val, i.isLt⟩ := rfl
  rw [h1, e1, add_assoc]
  refine congrArg₂ (· + ·) rfl ?_
  have h2 : (∑ i : Fin 1056, F ⟨(Fin.natAdd 1536 i).val, (Fin.natAdd 1536 i).isLt⟩) = ∑ i : Fin (32 + 1024), F ⟨i.val + 1536, by omega⟩ :=
    Finset.sum_congr rfl fun i _ => congrArg F (Fin.ext (Nat.add_comm _ _))
  rw [h2, e2, add_comm]
  refine congrArg₂ (· + ·) (Finset.sum_congr rfl fun i _ => congrArg F (Fin.ext ?_)) rfl
  show 32 + i.val + 1536 = i.val + 1568
  omega

/-- A sum over 128 columns that is zero from the 33rd on. -/
theorem sum_128 (F : Fin 128 → EReal) (h : ∀ k : Fin 128, 32 ≤ k.val → F k = 0) :
    (∑ k, F k) = ∑ k : Fin 32, F ⟨k.val, by omega⟩ := by
  have e := Fin.sum_univ_add (M := EReal) (a := 32) (b := 96) (fun i => F ⟨i.val, i.isLt⟩)
  have h1 : (∑ k, F k) = ∑ i : Fin (32 + 96), F ⟨i.val, i.isLt⟩ := rfl
  rw [h1, e, Finset.sum_eq_zero (s := Finset.univ) (f := fun i : Fin 96 => F ⟨(Fin.natAdd 32 i).val, (Fin.natAdd 32 i).isLt⟩)
    (fun i _ => h _ (by show 32 ≤ 32 + i.val; omega)), add_zero]
  rfl

end

end Cert.ProjMath

end
-- ==== Proof.ProjPay.lean ====
/- What the three kernels of the input projection compute from their blocks, an entry at a time. -/
module

public import proofs.«01_k».proof.Proof.ProjMath
public import proofs.«01_k».proof.Proof.Gen.ProjIdeal.Skeleton

@[expose] public section

set_option maxRecDepth 16384

noncomputable section

namespace Cert.ProjIdeal.Value

open Idealize.ShloMosaic Idealize.ShloMosaic.TcCoe Idealize.SL.Sem
open Cert.ProjIdeal Cert.ProjIdeal.Gen Cert.ProjMath
open Cert.FfnMath (c1024 ceps)

variable (g : Row) (x : Fin 512 → Row)
variable (b0 : FVec Ideal S512x1024 .f32) (b1 : FVec Ideal S1x1024 .f32)
variable (h0 : ∀ i j, b0 (ix2 i j) = x i j) (h1 : ∀ j, b1 (ix2 0 j) = g j)

section Fwd
include h0 h1 in
theorem k0_hid (i : Fin 512) (j : Fin 1024) : k0_pay1 (F := Ideal) b0 b1 (ix2 i j) = hid g (x i) j := by
  pointwise [k0_pay1, h0, h1]
  simp only [c1024, ceps]
  rfl

include h0 h1 in
theorem k0_a (w : FVec Ideal S1536x1024 .bf16) (i : Fin 512) (f : Fin 1536) :
    k0_pay2 (F := Ideal) b0 b1 w (ix2 i f) = ∑ j, hid g (x i) j * w (ix2 f j) := by
  pointwise [k0_pay2, k0_hid g x b0 b1 h0 h1]

include h0 h1 in
theorem k0_b (w : FVec Ideal S1024x1024 .bf16) (i : Fin 512) (f : Fin 1024) :
    k0_pay3 (F := Ideal) b0 b1 w (ix2 i f) = ∑ j, hid g (x i) j * w (ix2 f j) := by
  pointwise [k0_pay3, k0_hid g x b0 b1 h0 h1]

include h0 h1 in
theorem k0_c (w : FVec Ideal S128x1024 .bf16) (i : Fin 512) (f : Fin 128) :
    k0_pay4 (F := Ideal) b0 b1 w (ix2 i f) = ∑ j, hid g (x i) j * w (ix2 f j) := by
  pointwise [k0_pay4, k0_hid g x b0 b1 h0 h1]
end Fwd

section Wgrad
include h0 h1 in
theorem k1_hid (i : Fin 512) (j : Fin 1024) : k1_pay10 (F := Ideal) b0 b1 (ix2 i j) = hid g (x i) j := by
  pointwise [k1_pay10, h0, h1]
  simp only [c1024, ceps]
  rfl

include h0 h1 in
theorem k1_a (a : FVec Ideal S1536x1024 .f32) (d : FVec Ideal S512x1536 .bf16) (f : Fin 1536) (j : Fin 1024) :
    k1_pay11 (F := Ideal) b0 b1 a d (ix2 f j) = a (ix2 f j) + ∑ i, d (ix2 i f) * hid g (x i) j := by
  pointwise [k1_pay11, k1_hid g x b0 b1 h0 h1]

include h0 h1 in
theorem k1_b (a : FVec Ideal S1024x1024 .f32) (d : FVec Ideal S512x1024 .bf16) (f : Fin 1024) (j : Fin 1024) :
    k1_pay12 (F := Ideal) b0 b1 a d (ix2 f j) = a (ix2 f j) + ∑ i, d (ix2 i f) * hid g (x i) j := by
  pointwise [k1_pay12, k1_hid g x b0 b1 h0 h1]

include h0 h1 in
theorem k1_c (a : FVec Ideal S32x1024 .f32) (d : FVec Ideal S512x128 .bf16) (f : Fin 32) (j : Fin 1024) :
    k1_pay1 (F := Ideal) (k1_pay10 (F := Ideal) b0 b1) a d (ix2 f j) = a (ix2 f j) + ∑ i, d (ix2 i ⟨f, by omega⟩) * hid g (x i) j := by
  pointwise [k1_pay1, k1_hid g x b0 b1 h0 h1]

theorem k1_zero (i : S2592x1024.Idx) : k1_pay2 (F := Ideal) i = 0 := by pointwise [k1_pay2]
end Wgrad

section Dx
include h0 in
theorem k2_rs (i : Fin 512) (z : Fin 1) : k2_pay5 (F := Ideal) b0 (ix2 i z) = rs (x i) := by
  pointwise [k2_pay5, k2_pay4, h0]
  simp only [c1024, ceps]
  rfl

include h0 in
theorem k2_nrm (i : Fin 512) (j : Fin 1024) : k2_pay6 (F := Ideal) b0 (ix2 i j) = nrm (x i) j := by
  pointwise [k2_pay6, k2_pay4, k2_rs x b0 h0, h0]
  rfl

variable (da : FVec Ideal S512x1536 .bf16) (db : FVec Ideal S512x1024 .bf16) (dc : FVec Ideal S512x128 .bf16)
variable (wa : FVec Ideal S1536x1024 .bf16) (wb : FVec Ideal S1024x1024 .bf16) (wc : FVec Ideal S128x1024 .bf16)

theorem k2_dh (i : Fin 512) (j : Fin 1024) : k2_pay7 (F := Ideal) da wa db wb dc wc (ix2 i j)
    = (∑ f, da (ix2 i f) * wa (ix2 f j)) + (∑ f, db (ix2 i f) * wb (ix2 f j)) + ∑ f, dc (ix2 i f) * wc (ix2 f j) := by
  pointwise [k2_pay7]

variable (r : FVec Ideal S512x1 .f32) (n e : FVec Ideal S512x1024 .f32) (d : Fin 512 → Row)
variable (hr : ∀ i, r (ix2 i 0) = rs (x i)) (hn : ∀ i j, n (ix2 i j) = nrm (x i) j) (he : ∀ i j, e (ix2 i j) = d i j)

include hn he in
theorem k2_dg (a : FVec Ideal S1x1024 .f32) (z : Fin 1) (j : Fin 1024) :
    k2_pay1 (F := Ideal) n e a (ix2 z j) = a (ix2 0 j) + ∑ i, d i j * nrm (x i) j := by
  obtain rfl : z = 0 := Subsingleton.elim _ _
  pointwise [k2_pay1, hn, he]

include hr hn he h1 in
theorem k2_dx (u : FVec Ideal S512x1024 .f32) (i : Fin 512) (j : Fin 1024) :
    k2_pay2 (F := Ideal) r n e u b1 (ix2 i j) = u (ix2 i j) + rb (x i) (fun l => d i l * g l) j := by
  pointwise [k2_pay2, hr, hn, he, h1]
  simp only [c1024]
  rfl

theorem k2_zero (i : S1x1024.Idx) : k2_pay3 (F := Ideal) i = 0 := by pointwise [k2_pay3]
theorem k2_acc (a : FVec Ideal S1x1024 .f32) (j : Fin 1024) : k2_pay8 (F := Ideal) a (ix2 0 j) = a (ix2 0 j) := by pointwise [k2_pay8]
end Dx

end Cert.ProjIdeal.Value

end
-- ==== Proof.ProjRegion0.lean ====
/- The projection kernel's array after its run. -/
module

public import Idealize.ShloMosaic.Lib.Pipeline.ValueKit
public import proofs.«01_k».proof.Proof.ProjPay
public import proofs.«01_k».proof.Proof.Gen.ProjIdeal.Frame

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjMath

/-- The 512 rows of point `t`. -/
def rows {n : ℕ} (x : Fin 8192 → Fin n → EReal) (t : ℕ) (ht : t < 16) : Fin 512 → Fin n → EReal := fun i => x ⟨t * 512 + i, by omega⟩

/-- The column of the reference's array that stands at column `q` of the padded array: the gated halves, the
    feed-forward pair, then the decay's columns. -/
def src (q : ℕ) (h : q < 2688) : Fin 2592 :=
  if h1 : q < 1536 then ⟨q, by omega⟩ else if h2 : q < 2560 then ⟨q + 32, by omega⟩ else ⟨q - 1024, by omega⟩

theorem src_lo {q : ℕ} (h : q < 2688) (hq : q < 1536) : src q h = ⟨q, by omega⟩ := dif_pos hq
theorem src_mid {q : ℕ} (h : q < 2688) (h1 : 1536 ≤ q) (h2 : q < 2560) : src q h = ⟨q + 32, by omega⟩ :=
  (dif_neg (not_lt.mpr h1)).trans (dif_pos h2)
theorem src_hi {q : ℕ} (h : q < 2688) (h2 : 2560 ≤ q) : src q h = ⟨q - 1024, by omega⟩ :=
  (dif_neg (by omega)).trans (dif_neg (not_lt.mpr h2))

section Slices
variable (w : Fin 1024 → Fin 2592 → EReal) (B : Vec Ideal S2592x1024 .bf16) (hB : ∀ f j, (B : FVec Ideal S2592x1024 .bf16) (ix2 f j) = w j f)
include hB
theorem ld_lo (f : Fin 1536) (j : Fin 1024) :
    (View.ld B (Rect.unit ![0, 0] ![1536, 1024] inb_S2592x1024_S1536x1024_0_0) : FVec Ideal S1536x1024 .bf16) (ix2 f j) = w j ⟨f.val, by omega⟩ := by
  refine Eq.trans ?_ (hB _ _); pointwise
theorem ld_mid (f : Fin 1024) (j : Fin 1024) :
    (View.ld B (Rect.unit ![1568, 0] ![1024, 1024] inb_S2592x1024_S1024x1024_1568_0) : FVec Ideal S1024x1024 .bf16) (ix2 f j) = w j ⟨f.val + 1568, by omega⟩ := by
  refine Eq.trans ?_ (hB _ _); pointwise; blk_ext
theorem ld_hi (f : Fin 128) (j : Fin 1024) :
    (View.ld B (Rect.unit ![1536, 0] ![128, 1024] inb_S2592x1024_S128x1024_1536_0) : FVec Ideal S128x1024 .bf16) (ix2 f j) = w j ⟨f.val + 1536, by omega⟩ := by
  refine Eq.trans ?_ (hB _ _); pointwise; blk_ext
end Slices

theorem idx0 : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

variable (V : (c : Dev nD) → (b : Ref sig .tc) → Buf (Elt Ideal) ((c : Thread nD τ).loc b)) (c : Dev nD)
variable (g : Row) (w : Fin 1024 → Fin 2592 → EReal) (x : Fin 8192 → Row)

section Blocks
variable (h0 : ∀ i j, (V c main_v4 : FVec Ideal S8192x1024 .f32) (ix2 i j) = x i j)
variable (h1 : ∀ j, (V c main_v0 : FVec Ideal S1x1024 .f32) (ix2 0 j) = g j)
variable (h2 : ∀ f j, (V c main_v2 : FVec Ideal S2592x1024 .bf16) (ix2 f j) = w j f)
variable (t : Fin cfg0.N)

include h0 in
theorem b0_0 (i : Fin 512) (j : Fin 1024) : (iblk0 V c 0 t : FVec Ideal S512x1024 .f32) (ix2 i j) = rows x t.val t.isLt i j := by
  refine Eq.trans ?_ (h0 _ _); blk_point [iblk0, idx0 t]
include h1 in
theorem b0_1 (j : Fin 1024) : (iblk0 V c 1 t : FVec Ideal S1x1024 .f32) (ix2 0 j) = g j := by
  refine Eq.trans ?_ (h1 _); blk_point [iblk0, idx0 t]
include h2 in
theorem b0_2 (f : Fin 2592) (j : Fin 1024) : (iblk0 V c 2 t : FVec Ideal S2592x1024 .bf16) (ix2 f j) = w j f := by
  refine Eq.trans ?_ (h2 _ _); blk_point [iblk0, idx0 t]

include h0 h1 h2 in
theorem arr0_p : (dat0 V c).arrAt 4 cfg0.N
    = (fun i => proj g (x (i 0)) w (src (i 1).val (i 1).isLt) : FVec Ideal S8192x2688 .f32) := by
  refine (dat0 V c).arrAt_eq_of_covers 4 _ (by decide +kernel) fun t _ z => ?_
  blk_simp [idx0 t]
  rw [after0_4]
  unfold outsAt0; frame_out
  canon_tiles k hk using (View.cover_of_tiledBy _ ![512, 128] (by sl_kernel_rfl) z)
  case piece0 =>
    idx_vars k
    have e := k0_c g (rows x t.val t.isLt) _ _ (b0_0 V c x h0 t) (b0_1 V c g h1 t)
    refine (e _ _ _).trans (Finset.sum_congr rfl fun j _ => congrArg₂ (· * ·) (congrArg (fun r => hid g (x r) j) (Fin.ext ?_)) ?_)
    · show t.val * 512 + k0.val = _
      blk_simp [idx0 t]; omega
    · refine (ld_hi w _ (b0_2 V c w h2 t) _ _).trans (congrArg (w j) ?_)
      rw [src_hi _ (by omega)]; exact Fin.ext (by show k1.val + 1536 = (z 1).val - 1024; omega)
  case piece1 =>
    idx_vars k
    have e := k0_b g (rows x t.val t.isLt) _ _ (b0_0 V c x h0 t) (b0_1 V c g h1 t)
    refine (e _ _ _).trans (Finset.sum_congr rfl fun j _ => congrArg₂ (· * ·) (congrArg (fun r => hid g (x r) j) (Fin.ext ?_)) ?_)
    · show t.val * 512 + k0.val = _
      blk_simp [idx0 t]; omega
    · refine (ld_mid w _ (b0_2 V c w h2 t) _ _).trans (congrArg (w j) ?_)
      rw [src_mid _ (by omega) (by omega)]; exact Fin.ext (by show k1.val + 1568 = (z 1).val + 32; omega)
  case piece2 =>
    idx_vars k
    have e := k0_a g (rows x t.val t.isLt) _ _ (b0_0 V c x h0 t) (b0_1 V c g h1 t)
    refine (e _ _ _).trans (Finset.sum_congr rfl fun j _ => congrArg₂ (· * ·) (congrArg (fun r => hid g (x r) j) (Fin.ext ?_)) ?_)
    · show t.val * 512 + k0.val = _
      blk_simp [idx0 t]; omega
    · refine (ld_lo w _ (b0_2 V c w h2 t) _ _).trans (congrArg (w j) ?_)
      rw [src_lo _ (by omega)]; exact Fin.ext (by show k1.val = (z 1).val; omega)

end Blocks

end Cert.ProjIdeal.Value

end
-- ==== Proof.ProjRegion2.lean ====
/- The residual's gradient and the scale's: the third kernel's arrays after its run. -/
module

public import Idealize.ShloMosaic.Lib.Pipeline.ValueKit
public import proofs.«01_k».proof.Proof.ProjRegion0

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjMath

/-- A sum over the rows, taken 512 rows at a time. -/
theorem sum_rows (x : Fin 8192 → EReal) : (∑ s : Fin 16, ∑ i : Fin 512, x ⟨s * 512 + i, by omega⟩) = ∑ r, x r :=
  Fin.sum_mul_add_congr fun s k hl => rfl

/-- The points' parts of a sum over the rows add up to the sum. -/
theorem sum_points (f : Fin 8192 → EReal) (P : Fin 16 → EReal) (h : ∀ s : Fin 16, P s = ∑ i : Fin 512, f ⟨s * 512 + i, by omega⟩)
    (k : ℕ) (hk : k = 0) (hb : ∀ s : Fin 16, 16 * k + s < 16) :
    (∑ s : Fin 16, P ⟨16 * k + s, hb s⟩) = ∑ r, f r := by
  subst hk
  rw [← sum_rows f]
  refine Finset.sum_congr rfl fun s _ => ?_
  rw [← h]
  exact congrArg P (Fin.ext (by show 16 * 0 + s.val = s.val; omega))

/-- The gradient that reaches the normalised, scaled row, in the order the kernel sums the padded columns. -/
def dhPad (w : Fin 1024 → Fin 2592 → EReal) (D : Fin 2688 → EReal) (j : Fin 1024) : EReal :=
  (∑ f : Fin 1536, D ⟨f.val, by omega⟩ * w j ⟨f.val, by omega⟩) + (∑ f : Fin 1024, D ⟨f.val + 1536, by omega⟩ * w j ⟨f.val + 1568, by omega⟩)
    + ∑ f : Fin 128, D ⟨f.val + 2560, by omega⟩ * w j ⟨f.val + 1536, by omega⟩

section Slices
variable (D : Fin 512 → Fin 2688 → EReal) (B : Vec Ideal S512x2688 .bf16) (hB : ∀ i q, (B : FVec Ideal S512x2688 .bf16) (ix2 i q) = D i q)
include hB
theorem dld_lo (i : Fin 512) (f : Fin 1536) :
    (View.ld B (Rect.unit ![0, 0] ![512, 1536] inb_S512x2688_S512x1536_0_0) : FVec Ideal S512x1536 .bf16) (ix2 i f) = D i ⟨f.val, by omega⟩ := by
  refine Eq.trans ?_ (hB _ _); pointwise
theorem dld_mid (i : Fin 512) (f : Fin 1024) :
    (View.ld B (Rect.unit ![0, 1536] ![512, 1024] inb_S512x2688_S512x1024_0_1536) : FVec Ideal S512x1024 .bf16) (ix2 i f) = D i ⟨f.val + 1536, by omega⟩ := by
  refine Eq.trans ?_ (hB _ _); pointwise; blk_ext
theorem dld_hi (i : Fin 512) (f : Fin 128) :
    (View.ld B (Rect.unit ![0, 2560] ![512, 128] inb_S512x2688_S512x128_0_2560) : FVec Ideal S512x128 .bf16) (ix2 i f) = D i ⟨f.val + 2560, by omega⟩ := by
  refine Eq.trans ?_ (hB _ _); pointwise; blk_ext
end Slices

theorem idx2 : ∀ t : Fin cfg2.N, win2_0.index t = ![t.val, 0] ∧ win2_1.index t = ![t.val, 0] ∧ win2_2.index t = ![0, 0]
    ∧ win2_3.index t = ![0, 0] ∧ win2_4.index t = ![t.val, 0] ∧ win2_5.index t = ![0, 0] ∧ win2_6.index t = ![t.val, 0]
    ∧ win2_7.index t = ![0, 0] :=
  (by decide +kernel : ∀ t : Fin grid2.N, _)

variable (V : (c : Dev nD) → (b : Ref sig .tc) → Buf (Elt Ideal) ((c : Thread nD τ).loc b)) (c : Dev nD)
variable (g : Row) (w : Fin 1024 → Fin 2592 → EReal) (x u : Fin 8192 → Row) (D : Fin 8192 → Fin 2688 → EReal)

section Blocks
variable (h0 : ∀ i j, (V c main_v18 : FVec Ideal S8192x1024 .f32) (ix2 i j) = x i j)
variable (h1 : ∀ i j, (V c main_v19 : FVec Ideal S8192x1024 .f32) (ix2 i j) = u i j)
variable (h2 : ∀ j, (V c main_v0 : FVec Ideal S1x1024 .f32) (ix2 0 j) = g j)
variable (h3 : ∀ f j, (V c main_v2 : FVec Ideal S2592x1024 .bf16) (ix2 f j) = w j f)
variable (h4 : ∀ i q, (V c main_v17_1 : FVec Ideal S8192x2688 .bf16) (ix2 i q) = D i q)
variable (t : Fin cfg2.N)

include h0 in
theorem b2_0 (i : Fin 512) (j : Fin 1024) : (iblk2 V c 0 t : FVec Ideal S512x1024 .f32) (ix2 i j) = rows x t.val t.isLt i j := by
  refine Eq.trans ?_ (h0 _ _); blk_point [iblk2, idx2 t]
include h1 in
theorem b2_1 (i : Fin 512) (j : Fin 1024) : (iblk2 V c 1 t : FVec Ideal S512x1024 .f32) (ix2 i j) = rows u t.val t.isLt i j := by
  refine Eq.trans ?_ (h1 _ _); blk_point [iblk2, idx2 t]
include h2 in
theorem b2_2 (j : Fin 1024) : (iblk2 V c 2 t : FVec Ideal S1x1024 .f32) (ix2 0 j) = g j := by
  refine Eq.trans ?_ (h2 _); blk_point [iblk2, idx2 t]
include h3 in
theorem b2_3 (f : Fin 2592) (j : Fin 1024) : (iblk2 V c 3 t : FVec Ideal S2592x1024 .bf16) (ix2 f j) = w j f := by
  refine Eq.trans ?_ (h3 _ _); blk_point [iblk2, idx2 t]
include h4 in
theorem b2_4 (i : Fin 512) (q : Fin 2688) : (iblk2 V c 4 t : FVec Ideal S512x2688 .bf16) (ix2 i q) = rows D t.val t.isLt i q := by
  refine Eq.trans ?_ (h4 _ _); blk_point [iblk2, idx2 t]

include h3 h4 in
theorem e2_dh (i : Fin 512) (j : Fin 1024) :
    k2_pay7 (F := Ideal) (View.ld (iblk2 V c 4 t) (Rect.unit ![0, 0] ![512, 1536] inb_S512x2688_S512x1536_0_0))
      (View.ld (iblk2 V c 3 t) (Rect.unit ![0, 0] ![1536, 1024] inb_S2592x1024_S1536x1024_0_0))
      (View.ld (iblk2 V c 4 t) (Rect.unit ![0, 1536] ![512, 1024] inb_S512x2688_S512x1024_0_1536))
      (View.ld (iblk2 V c 3 t) (Rect.unit ![1568, 0] ![1024, 1024] inb_S2592x1024_S1024x1024_1568_0))
      (View.ld (iblk2 V c 4 t) (Rect.unit ![0, 2560] ![512, 128] inb_S512x2688_S512x128_0_2560))
      (View.ld (iblk2 V c 3 t) (Rect.unit ![1536, 0] ![128, 1024] inb_S2592x1024_S128x1024_1536_0)) (ix2 i j)
      = dhPad w (rows D t.val t.isLt i) j := by
  refine (k2_dh _ _ _ _ _ _ i j).trans ?_
  have hw := b2_3 V c w h3 t
  have hD := b2_4 V c D h4 t
  refine congrArg₂ (· + ·) (congrArg₂ (· + ·) ?_ ?_) ?_
  · exact Finset.sum_congr rfl fun f _ => congrArg₂ (· * ·) (dld_lo _ _ hD i f) (ld_lo w _ hw f j)
  · exact Finset.sum_congr rfl fun f _ => congrArg₂ (· * ·) (dld_mid _ _ hD i f) (ld_mid w _ hw f j)
  · exact Finset.sum_congr rfl fun f _ => congrArg₂ (· * ·) (dld_hi _ _ hD i f) (ld_hi w _ hw f j)

include h0 h1 h2 h3 h4 in
theorem arr2_dx : (dat2 V c).arrAt 6 cfg2.N
    = (fun i => u (i 0) (i 1) + rb (x (i 0)) (fun l => dhPad w (D (i 0)) l * g l) (i 1) : FVec Ideal S8192x1024 .f32) := by
  refine (dat2 V c).arrAt_eq_of_covers 6 _ (by decide +kernel) fun t _ z => ?_
  have hx := b2_0 V c x h0 t
  have e := fun i j => (k2_dx g (rows x t.val t.isLt) _ (b2_2 V c g h2 t) _ _ _ (fun i => dhPad w (rows D t.val t.isLt i))
    (fun i => k2_rs _ _ hx i 0) (k2_nrm _ _ hx) (e2_dh V c w D h3 h4 t) _ i j).trans (congrArg (· + _) (b2_1 V c u h1 t i j))
  blk_simp [idx2 t]
  rw [after2_6]
  by_cases h : t.val % 16 = 0
  · rw [outsAt2_A V c t h]; frame_out
    idx_vars z
    refine (e _ _).trans (congrArg₂ (fun r j => u r j + rb (x r) (fun l => dhPad w (D r) l * g l) j) (Fin.ext ?_) (Fin.ext ?_)) <;> blk_simp [idx2 t]
  · rw [outsAt2_B V c t h]; frame_out
    idx_vars z
    refine (e _ _).trans (congrArg₂ (fun r j => u r j + rb (x r) (fun l => dhPad w (D r) l * g l) j) (Fin.ext ?_) (Fin.ext ?_)) <;> blk_simp [idx2 t]

/-- What point `t` adds to the scale's gradient. -/
def dgPart (t : Fin cfg2.N) (j : Fin 1024) : EReal := ∑ i, dhPad w (rows D t.val t.isLt i) j * nrm (rows x t.val t.isLt i) j

include h0 h3 h4 in
theorem arr2_dg : (dat2 V c).arrAt 7 cfg2.N = (fun i => ∑ r, dhPad w (D r) (i 1) * nrm (x r) (i 1) : FVec Ideal S1x1024 .f32) := by
  refine (dat2 V c).arrAt_eq_of_covers 7 _ (by decide +kernel) fun t hf z => ?_
  blk_simp
  rw [after2_7, Pipeline.eq_sum_fin_of_reset_step_apply_of_flush (fun n h => (outsAt2 V c n h).2) 16 (fun _ => 0)
    (fun t j => dgPart w x D t (j 1))
    (fun t h j => by
      have e := k2_dg (rows x t.val t.isLt) _ _ (fun i => dhPad w (rows D t.val t.isLt i)) (k2_nrm _ _ (b2_0 V c x h0 t)) (e2_dh V c w D h3 h4 t)
      rw [outsAt2_A V c t h]; frame_out
      idx_vars j
      obtain rfl : j0 = 0 := Subsingleton.elim _ _
      exact (e _ _ _).trans (congrArg (· + _) ((k2_acc _ _).trans (k2_zero _))))
    (fun t h j => by
      have e := k2_dg (rows x t.val t.isLt) _ _ (fun i => dhPad w (rows D t.val t.isLt i)) (k2_nrm _ _ (b2_0 V c x h0 t)) (e2_dh V c w D h3 h4 t)
      rw [outsAt2_B V c t h]; frame_out
      idx_vars j
      obtain rfl : j0 = 0 := Subsingleton.elim _ _
      exact (e _ _ _).trans (congrArg (· + _) (k2_acc _ _)))
    t ((flush2_7 t).mp hf) _, zero_add]
  have ht : t.val < 16 := t.isLt
  show (_ : EReal) = _
  idx_vars z
  rw [show (((cfg2.win 7).blk t).view.emb (ix2 z0 z1) 1) = z1 from Fin.ext (by blk_simp [idx2 t])]
  exact sum_points (fun r => dhPad w (D r) z1 * nrm (x r) z1) (fun t => dgPart w x D t z1) (fun s => rfl) _ (by omega) _

end Blocks

end Cert.ProjIdeal.Value

end
-- ==== Proof.ProjRegion1.lean ====
/- The weights' gradient and the padded gradient of the projection: the second kernel's arrays after its run. -/
module

public import Idealize.ShloMosaic.Lib.Pipeline.ValueKit
public import proofs.«01_k».proof.Proof.ProjRegion2

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjMath

theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] ∧ win1_8.index t = ![t.val, 0] ∧ win1_9.index t = ![0, 0] ∧ win1_10.index t = ![t.val, 0] :=
  (by decide +kernel : ∀ t : Fin grid1.N, _)

variable (V : (c : Dev nD) → (b : Ref sig .tc) → Buf (Elt Ideal) ((c : Thread nD τ).loc b)) (c : Dev nD)

variable (g : Row) (x : Fin 8192 → Row) (D : Fin 8192 → Fin 2688 → EReal)

/-- The column of the padded array at which the reference's column `f` stands. -/
def dst (f : ℕ) (h : f < 2592) : Fin 2688 :=
  if h1 : f < 1536 then ⟨f, by omega⟩ else if h2 : f < 1568 then ⟨f + 1024, by omega⟩ else ⟨f - 32, by omega⟩
theorem dst_lo {f : ℕ} (h : f < 2592) (h1 : f < 1536) : dst f h = ⟨f, by omega⟩ := dif_pos h1
theorem dst_hi {f : ℕ} (h : f < 2592) (h1 : 1536 ≤ f) (h2 : f < 1568) : dst f h = ⟨f + 1024, by omega⟩ :=
  (dif_neg (not_lt.mpr h1)).trans (dif_pos h2)
theorem dst_mid {f : ℕ} (h : f < 2592) (h2 : 1568 ≤ f) : dst f h = ⟨f - 32, by omega⟩ :=
  (dif_neg (by omega)).trans (dif_neg (not_lt.mpr h2))

/-- What lies under pieces that already cover an index does not matter there. -/
theorem canon_append {s : Shape} {e : EltTy} (L L' : List (View.Piece (Elt Ideal) s e)) (y : s.Idx) (h : ∃ p ∈ L, y ∈ p.1.set) :
    View.canon (L ++ L') y = View.canon L y := by
  induction L with
  | nil => obtain ⟨p, hp, -⟩ := h; exact absurd hp (List.not_mem_nil)
  | cons p L ih =>
    by_cases hy : y ∈ p.1.set
    · obtain ⟨r, v⟩ := p
      obtain ⟨z, rfl⟩ : ∃ z, r.emb z = y := r.exists_idx_of_mem hy
      rw [List.cons_append, View.canon_cons_emb, View.canon_cons_emb]
    · rw [List.cons_append, View.canon_cons_of_not_mem p _ hy, View.canon_cons_of_not_mem p _ hy]
      obtain ⟨q, hq, hqy⟩ := h
      rcases List.mem_cons.mp hq with rfl | hq
      · exact absurd hqy hy
      · exact ih ⟨q, hq, hqy⟩

/-- Column `q` of the piece that begins at column `o` of the padded array. -/
def cl (o n : ℕ) (h : o + n ≤ 2688) (q : Fin n) : Fin 2688 := ⟨q.val + o, by omega⟩

section Blocks
variable (h0 : ∀ i j, (V c main_v10 : FVec Ideal S8192x1024 .f32) (ix2 i j) = x i j)
variable (h1 : ∀ j, (V c main_v0 : FVec Ideal S1x1024 .f32) (ix2 0 j) = g j)
variable (h2 : ∀ i (q : Fin 256), (V c main_v11 : FVec Ideal S8192x256 .bf16) (ix2 i q) = D i (cl 0 256 (Nat.le_of_ble_eq_true rfl) q))
variable (h3 : ∀ i (q : Fin 256), (V c main_v12 : FVec Ideal S8192x256 .bf16) (ix2 i q) = D i (cl 256 256 (Nat.le_of_ble_eq_true rfl) q))
variable (h4 : ∀ i (q : Fin 512), (V c main_v13 : FVec Ideal S8192x512 .bf16) (ix2 i q) = D i (cl 512 512 (Nat.le_of_ble_eq_true rfl) q))
variable (h5 : ∀ i (q : Fin 512), (V c main_v14 : FVec Ideal S8192x512 .bf16) (ix2 i q) = D i (cl 1024 512 (Nat.le_of_ble_eq_true rfl) q))
variable (h6 : ∀ i (q : Fin 512), (V c main_v15 : FVec Ideal S8192x512 .bf16) (ix2 i q) = D i (cl 1536 512 (Nat.le_of_ble_eq_true rfl) q))
variable (h7 : ∀ i (q : Fin 512), (V c main_v16 : FVec Ideal S8192x512 .bf16) (ix2 i q) = D i (cl 2048 512 (Nat.le_of_ble_eq_true rfl) q))
variable (h8 : ∀ i (q : Fin 128), (V c main_v9 : FVec Ideal S8192x128 .bf16) (ix2 i q) = D i (cl 2560 128 (Nat.le_of_ble_eq_true rfl) q))
variable (t : Fin cfg1.N)

include h0 in
theorem b1_0 (i : Fin 512) (j : Fin 1024) : (iblk1 V c 0 t : FVec Ideal S512x1024 .f32) (ix2 i j) = rows x t.val t.isLt i j := by
  refine Eq.trans ?_ (h0 _ _); blk_point [iblk1, idx1 t]
include h1 in
theorem b1_1 (j : Fin 1024) : (iblk1 V c 1 t : FVec Ideal S1x1024 .f32) (ix2 0 j) = g j := by
  refine Eq.trans ?_ (h1 _); blk_point [iblk1, idx1 t]
include h2 in
theorem b1_2 (i : Fin 512) (q : Fin 256) : (iblk1 V c 2 t : FVec Ideal S512x256 .bf16) (ix2 i q) = rows D t.val t.isLt i (cl 0 256 (Nat.le_of_ble_eq_true rfl) q) := by
  refine Eq.trans ?_ (h2 _ _); blk_point [iblk1, idx1 t]
include h3 in
theorem b1_3 (i : Fin 512) (q : Fin 256) : (iblk1 V c 3 t : FVec Ideal S512x256 .bf16) (ix2 i q) = rows D t.val t.isLt i (cl 256 256 (Nat.le_of_ble_eq_true rfl) q) := by
  refine Eq.trans ?_ (h3 _ _); blk_point [iblk1, idx1 t]
include h4 in
theorem b1_4 (i : Fin 512) (q : Fin 512) : (iblk1 V c 4 t : FVec Ideal S512x512 .bf16) (ix2 i q) = rows D t.val t.isLt i (cl 512 512 (Nat.le_of_ble_eq_true rfl) q) := by
  refine Eq.trans ?_ (h4 _ _); blk_point [iblk1, idx1 t]
include h5 in
theorem b1_5 (i : Fin 512) (q : Fin 512) : (iblk1 V c 5 t : FVec Ideal S512x512 .bf16) (ix2 i q) = rows D t.val t.isLt i (cl 1024 512 (Nat.le_of_ble_eq_true rfl) q) := by
  refine Eq.trans ?_ (h5 _ _); blk_point [iblk1, idx1 t]
include h6 in
theorem b1_6 (i : Fin 512) (q : Fin 512) : (iblk1 V c 6 t : FVec Ideal S512x512 .bf16) (ix2 i q) = rows D t.val t.isLt i (cl 1536 512 (Nat.le_of_ble_eq_true rfl) q) := by
  refine Eq.trans ?_ (h6 _ _); blk_point [iblk1, idx1 t]
include h7 in
theorem b1_7 (i : Fin 512) (q : Fin 512) : (iblk1 V c 7 t : FVec Ideal S512x512 .bf16) (ix2 i q) = rows D t.val t.isLt i (cl 2048 512 (Nat.le_of_ble_eq_true rfl) q) := by
  refine Eq.trans ?_ (h7 _ _); blk_point [iblk1, idx1 t]
include h8 in
theorem b1_8 (i : Fin 512) (q : Fin 128) : (iblk1 V c 8 t : FVec Ideal S512x128 .bf16) (ix2 i q) = rows D t.val t.isLt i (cl 2560 128 (Nat.le_of_ble_eq_true rfl) q) := by
  refine Eq.trans ?_ (h8 _ _); blk_point [iblk1, idx1 t]

/-- The pieces of the padded gradient's block: the seven gradients, side by side. -/
def dpPieces : List (View.Piece (Elt Ideal) S512x2688 .bf16) :=
  [⟨Rect.unit ![0, 2560] ![512, 128] inb_S512x2688_S512x128_0_2560, k1_pay9 (iblk1 V c 8 t)⟩,
   ⟨Rect.unit ![0, 2048] ![512, 512] inb_S512x2688_S512x512_0_2048, k1_pay8 (iblk1 V c 7 t)⟩,
   ⟨Rect.unit ![0, 1536] ![512, 512] inb_S512x2688_S512x512_0_1536, k1_pay7 (iblk1 V c 6 t)⟩,
   ⟨Rect.unit ![0, 1024] ![512, 512] inb_S512x2688_S512x512_0_1024, k1_pay6 (iblk1 V c 5 t)⟩,
   ⟨Rect.unit ![0, 512] ![512, 512] inb_S512x2688_S512x512_0_512, k1_pay5 (iblk1 V c 4 t)⟩,
   ⟨Rect.unit ![0, 256] ![512, 256] inb_S512x2688_S512x256_0_256, k1_pay4 (iblk1 V c 3 t)⟩,
   ⟨Rect.unit ![0, 0] ![512, 256] inb_S512x2688_S512x256_0_0, k1_pay3 (iblk1 V c 2 t)⟩]

include h2 h3 h4 h5 h6 h7 h8 in
theorem dp_pieces (y : S512x2688.Idx) : View.canon (dpPieces V c t) y = rows D t.val t.isLt (y 0) (y 1) := by
  unfold dpPieces
  canon_tiles k hk using (View.cover_of_tiledBy _ ![512, 128] (by sl_kernel_rfl) y)
  case piece0 =>
    idx_vars k
    refine Eq.trans (by pointwise [k1_pay9]) ((b1_8 V c D h8 t k0 k1).trans ?_)
    exact congrArg₂ (rows D t.val t.isLt) (Fin.ext (by show k0.val = (y 0).val; omega)) (Fin.ext (by show k1.val + 2560 = (y 1).val; omega))
  case piece1 =>
    idx_vars k
    refine Eq.trans (by pointwise [k1_pay8]) ((b1_7 V c D h7 t k0 k1).trans ?_)
    exact congrArg₂ (rows D t.val t.isLt) (Fin.ext (by show k0.val = (y 0).val; omega)) (Fin.ext (by show k1.val + 2048 = (y 1).val; omega))
  case piece2 =>
    idx_vars k
    refine Eq.trans (by pointwise [k1_pay7]) ((b1_6 V c D h6 t k0 k1).trans ?_)
    exact congrArg₂ (rows D t.val t.isLt) (Fin.ext (by show k0.val = (y 0).val; omega)) (Fin.ext (by show k1.val + 1536 = (y 1).val; omega))
  case piece3 =>
    idx_vars k
    refine Eq.trans (by pointwise [k1_pay6]) ((b1_5 V c D h5 t k0 k1).trans ?_)
    exact congrArg₂ (rows D t.val t.isLt) (Fin.ext (by show k0.val = (y 0).val; omega)) (Fin.ext (by show k1.val + 1024 = (y 1).val; omega))
  case piece4 =>
    idx_vars k
    refine Eq.trans (by pointwise [k1_pay5]) ((b1_4 V c D h4 t k0 k1).trans ?_)
    exact congrArg₂ (rows D t.val t.isLt) (Fin.ext (by show k0.val = (y 0).val; omega)) (Fin.ext (by show k1.val + 512 = (y 1).val; omega))
  case piece5 =>
    idx_vars k
    refine Eq.trans (by pointwise [k1_pay4]) ((b1_3 V c D h3 t k0 k1).trans ?_)
    exact congrArg₂ (rows D t.val t.isLt) (Fin.ext (by show k0.val = (y 0).val; omega)) (Fin.ext (by show k1.val + 256 = (y 1).val; omega))
  case piece6 =>
    idx_vars k
    refine Eq.trans (by pointwise [k1_pay3]) ((b1_2 V c D h2 t k0 k1).trans ?_)
    exact congrArg₂ (rows D t.val t.isLt) (Fin.ext (by show k0.val = (y 0).val; omega)) (Fin.ext (by show k1.val + 0 = (y 1).val; omega))

include h2 h3 h4 h5 h6 h7 h8 in
theorem arr1_dp : (dat1 V c).arrAt 10 cfg1.N = (fun i => D (i 0) (i 1) : FVec Ideal S8192x2688 .bf16) := by
  refine (dat1 V c).arrAt_eq_of_covers 10 _ (by decide +kernel) fun t _ z => ?_
  have e := dp_pieces V c D h2 h3 h4 h5 h6 h7 h8 t
  blk_simp [idx1 t]
  rw [after1_10]
  by_cases h : t.val % 16 = 0
  · rw [outsAt1_A V c t h]; frame_out
    idx_vars z
    refine (e _).trans (congrArg₂ D (Fin.ext ?_) (Fin.ext ?_)) <;> blk_simp [idx1 t]
  · rw [outsAt1_B V c t h]; frame_out
    idx_vars z
    refine (e _).trans (congrArg₂ D (Fin.ext ?_) (Fin.ext ?_)) <;> blk_simp [idx1 t]

end Blocks

end Cert.ProjIdeal.Value

end
-- ==== Proof.ProjHost.lean ====
/- What the projection's host operations hand to the kernels and make of their arrays. -/
module

public import Idealize.ShloMosaic.Lib.Pipeline.ValueKit
public import Idealize.ShloMosaic.Lib.Pipeline.ReadBack
public import proofs.«01_k».proof.Proof.ProjRegion1

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjMath

variable (m : (ℓ : Loc nD τ sig) → Buf (Elt Ideal) ℓ) (ρ : Dev nD → PrngReg) (c : Dev nD)

theorem in_x (i : Fin 8192) (j : Fin 1024) : (W1 m ρ c (Proc.devRef .tc main_v4) : FVec Ideal S8192x1024 .f32) (ix2 i j)
    = (m ((c : Thread nD τ).loc main_arg0) : FVec Ideal S1x8192x1024 .f32) (ix3 0 i j) := by
  show (StableHlo.after hostOps0 (W0 m ρ c) (Proc.devRef .tc main_v4) : FVec Ideal S8192x1024 .f32) (ix2 i j) = _
  simp only [hostOps0]
  after_results_simp
  pointwise

theorem in_g (j : Fin 1024) : (W1 m ρ c (Proc.devRef .tc main_v0) : FVec Ideal S1x1024 .f32) (ix2 0 j)
    = (m ((c : Thread nD τ).loc main_arg1) : FVec Ideal S1024 .f32) (ix1 j) := by
  show (StableHlo.after hostOps0 (W0 m ρ c) (Proc.devRef .tc main_v0) : FVec Ideal S1x1024 .f32) (ix2 0 j) = _
  simp only [hostOps0]
  after_results_simp
  pointwise

theorem in_w (f : Fin 2592) (j : Fin 1024) : (W1 m ρ c (Proc.devRef .tc main_v2) : FVec Ideal S2592x1024 .bf16) (ix2 f j)
    = (m ((c : Thread nD τ).loc main_arg2) : FVec Ideal S1024x2592 .f32) (ix2 j f) := by
  show (StableHlo.after hostOps0 (W0 m ρ c) (Proc.devRef .tc main_v2) : FVec Ideal S2592x1024 .bf16) (ix2 f j) = _
  simp only [hostOps0]
  after_results_simp
  pointwise

theorem mid_d (i : Fin 8192) (f : Fin 2592) : (W3 m ρ c (Proc.devRef .tc main_v7) : FVec Ideal S8192x2592 .bf16) (ix2 i f)
    = (m ((c : Thread nD τ).loc main_arg4) : FVec Ideal S1x8192x2592 .f32) (ix3 0 i f) := by
  show (StableHlo.after hostOps1 (W2 m ρ c) (Proc.devRef .tc main_v7) : FVec Ideal S8192x2592 .bf16) (ix2 i f) = _
  simp only [hostOps1]
  after_results_simp
  rw [W2_args m ρ c main_arg4 (by decide)]
  pointwise

theorem mid_lr (i : Fin 8192) (q : Fin 32) : (W3 m ρ c (Proc.devRef .tc main_v8) : FVec Ideal S8192x32 .bf16) (ix2 i q)
    = (m ((c : Thread nD τ).loc main_arg4) : FVec Ideal S1x8192x2592 .f32) (ix3 0 i ⟨q.val + 1536, by omega⟩) := by
  show (StableHlo.after hostOps1 (W2 m ρ c) (Proc.devRef .tc main_v8) : FVec Ideal S8192x32 .bf16) (ix2 i q) = _
  simp only [hostOps1]
  after_results_simp
  rw [W2_args m ρ c main_arg4 (by decide)]
  pointwise
  blk_ext

theorem pad_at (X : FVec Ideal S8192x32 .bf16) (i : Fin 8192) (q : Fin 128) :
    (pad S8192x128 ![0, 0] ![0, 96] ![0, 0] X (sitofp FTy.bf16 (constantI S_ 32 0#32) : FVec Ideal S_ .bf16) pads_S8192x32_S8192x128_000_0960 h_S_ : FVec Ideal S8192x128 .bf16) (ix2 i q)
      = if h : q.val < 32 then X (ix2 i ⟨q.val, h⟩) else (0 : EReal) := by
  have z : (FloatOps.sitofp (F := Ideal) FTy.bf16 (0#32 : BitVec 32) : EReal) = 0 := by
    show (((0#32 : BitVec 32).toInt : ℝ) : EReal) = 0
    simp
  pointwise [z]

theorem pad_lr (i : Fin 8192) (q : Fin 128) : (W5 m ρ c (Proc.devRef .tc main_v9) : FVec Ideal S8192x128 .bf16) (ix2 i q)
    = if h : q.val < 32 then (m ((c : Thread nD τ).loc main_arg4) : FVec Ideal S1x8192x2592 .f32) (ix3 0 i ⟨q.val + 1536, by omega⟩) else (0 : EReal) := by
  refine (congrFun (W5_of m ρ c main_v9 (by decide)) (ix2 i q)).trans ?_
  have e : W4 m ρ c (Proc.devRef .tc main_v9) = (pad S8192x128 ![0, 0] ![0, 96] ![0, 0] (W3 m ρ c (Proc.devRef .tc main_v8)) (sitofp FTy.bf16 (constantI S_ 32 0#32) : FVec Ideal S_ .bf16) pads_S8192x32_S8192x128_000_0960 h_S_ : FVec Ideal S8192x128 .bf16) := by
    show StableHlo.after hostOps1_1 (W3 m ρ c) (Proc.devRef .tc main_v9) = _
    simp only [hostOps1_1]
    after_results_simp
    simp only [StableHlo.TRef.ofBuf_toBuf]
    rfl
  rw [e, pad_at]
  split
  · exact mid_lr m ρ c i _
  · rfl

theorem mid_x (i : Fin 8192) (j : Fin 1024) : (W5 m ρ c (Proc.devRef .tc main_v10) : FVec Ideal S8192x1024 .f32) (ix2 i j)
    = (m ((c : Thread nD τ).loc main_arg0) : FVec Ideal S1x8192x1024 .f32) (ix3 0 i j) := by
  show (StableHlo.after hostOps1_2 (W4 m ρ c) (Proc.devRef .tc main_v10) : FVec Ideal S8192x1024 .f32) (ix2 i j) = _
  simp only [hostOps1_2]
  after_results_simp
  rw [W2_args m ρ c main_arg0 (by decide)]
  pointwise

theorem mid_11 (i : Fin 8192) (q : Fin 256) : (W5 m ρ c (Proc.devRef .tc main_v11) : FVec Ideal S8192x256 .bf16) (ix2 i q)
    = (m ((c : Thread nD τ).loc main_arg4) : FVec Ideal S1x8192x2592 .f32) (ix3 0 i ⟨q.val, by omega⟩) := by
  show (StableHlo.after hostOps1_2 (W4 m ρ c) (Proc.devRef .tc main_v11) : FVec Ideal S8192x256 .bf16) (ix2 i q) = _
  simp only [hostOps1_2]
  after_results_simp
  rw [W2_args m ρ c main_arg4 (by decide)]
  pointwise

theorem mid_12 (i : Fin 8192) (q : Fin 256) : (W5 m ρ c (Proc.devRef .tc main_v12) : FVec Ideal S8192x256 .bf16) (ix2 i q)
    = (m ((c : Thread nD τ).loc main_arg4) : FVec Ideal S1x8192x2592 .f32) (ix3 0 i ⟨q.val + 256, by omega⟩) := by
  show (StableHlo.after hostOps1_2 (W4 m ρ c) (Proc.devRef .tc main_v12) : FVec Ideal S8192x256 .bf16) (ix2 i q) = _
  simp only [hostOps1_2]
  after_results_simp
  rw [W2_args m ρ c main_arg4 (by decide)]
  pointwise
  blk_ext

theorem mid_13 (i : Fin 8192) (q : Fin 512) : (W5 m ρ c (Proc.devRef .tc main_v13) : FVec Ideal S8192x512 .bf16) (ix2 i q)
    = (m ((c : Thread nD τ).loc main_arg4) : FVec Ideal S1x8192x2592 .f32) (ix3 0 i ⟨q.val + 512, by omega⟩) := by
  show (StableHlo.after hostOps1_2 (W4 m ρ c) (Proc.devRef .tc main_v13) : FVec Ideal S8192x512 .bf16) (ix2 i q) = _
  simp only [hostOps1_2]
  after_results_simp
  rw [W2_args m ρ c main_arg4 (by decide)]
  pointwise
  blk_ext

theorem mid_14 (i : Fin 8192) (q : Fin 512) : (W5 m ρ c (Proc.devRef .tc main_v14) : FVec Ideal S8192x512 .bf16) (ix2 i q)
    = (m ((c : Thread nD τ).loc main_arg4) : FVec Ideal S1x8192x2592 .f32) (ix3 0 i ⟨q.val + 1024, by omega⟩) := by
  show (StableHlo.after hostOps1_2 (W4 m ρ c) (Proc.devRef .tc main_v14) : FVec Ideal S8192x512 .bf16) (ix2 i q) = _
  simp only [hostOps1_2]
  after_results_simp
  rw [W2_args m ρ c main_arg4 (by decide)]
  pointwise
  blk_ext

theorem mid_15 (i : Fin 8192) (q : Fin 512) : (W5 m ρ c (Proc.devRef .tc main_v15) : FVec Ideal S8192x512 .bf16) (ix2 i q)
    = (m ((c : Thread nD τ).loc main_arg4) : FVec Ideal S1x8192x2592 .f32) (ix3 0 i ⟨q.val + 1568, by omega⟩) := by
  show (StableHlo.after hostOps1_2 (W4 m ρ c) (Proc.devRef .tc main_v15) : FVec Ideal S8192x512 .bf16) (ix2 i q) = _
  simp only [hostOps1_2]
  after_results_simp
  rw [W2_args m ρ c main_arg4 (by decide)]
  pointwise
  blk_ext

theorem mid_16 (i : Fin 8192) (q : Fin 512) : (W5 m ρ c (Proc.devRef .tc main_v16) : FVec Ideal S8192x512 .bf16) (ix2 i q)
    = (m ((c : Thread nD τ).loc main_arg4) : FVec Ideal S1x8192x2592 .f32) (ix3 0 i ⟨q.val + 2080, by omega⟩) := by
  show (StableHlo.after hostOps1_2 (W4 m ρ c) (Proc.devRef .tc main_v16) : FVec Ideal S8192x512 .bf16) (ix2 i q) = _
  simp only [hostOps1_2]
  after_results_simp
  rw [W2_args m ρ c main_arg4 (by decide)]
  pointwise
  blk_ext

theorem late_x (i : Fin 8192) (j : Fin 1024) : (W7 m ρ c (Proc.devRef .tc main_v18) : FVec Ideal S8192x1024 .f32) (ix2 i j)
    = (m ((c : Thread nD τ).loc main_arg0) : FVec Ideal S1x8192x1024 .f32) (ix3 0 i j) := by
  show (StableHlo.after hostOps2 (W6 m ρ c) (Proc.devRef .tc main_v18) : FVec Ideal S8192x1024 .f32) (ix2 i j) = _
  simp only [hostOps2]
  after_results_simp
  rw [W6_args m ρ c main_arg0 (by decide)]
  pointwise

theorem late_u (i : Fin 8192) (j : Fin 1024) : (W7 m ρ c (Proc.devRef .tc main_v19) : FVec Ideal S8192x1024 .f32) (ix2 i j)
    = (m ((c : Thread nD τ).loc main_arg3) : FVec Ideal S1x8192x1024 .f32) (ix3 0 i j) := by
  show (StableHlo.after hostOps2 (W6 m ρ c) (Proc.devRef .tc main_v19) : FVec Ideal S8192x1024 .f32) (ix2 i j) = _
  simp only [hostOps2]
  after_results_simp
  rw [W6_args m ρ c main_arg3 (by decide)]
  pointwise

theorem out_p (i : Fin 8192) (f : Fin 2592) : (W9 m ρ c (Proc.devRef .tc main_v25) : FVec Ideal S1x8192x2592 .f32) (ix3 0 i f)
    = (W8 m ρ c (Proc.devRef .tc main_v5) : FVec Ideal S8192x2688 .f32) (ix2 i (dst f.val f.isLt)) := by
  show (StableHlo.after hostOps3 (W8 m ρ c) (Proc.devRef .tc main_v25) : FVec Ideal S1x8192x2592 .f32) (ix3 0 i f) = _
  simp only [hostOps3]
  after_results_simp
  pointwise
  by_cases h1 : f.val < 1536
  · rw [dif_pos h1, dst_lo f.isLt h1]
    after_results_simp
    pointwise
  · rw [dif_neg h1]
    by_cases h2 : f.val < 1568
    · rw [dif_pos (show f.val - 1536 < 32 by omega), dst_hi f.isLt (by omega) h2]
      after_results_simp
      pointwise
      blk_ext
    · rw [dif_neg (show ¬ f.val - 1536 < 32 by omega), dst_mid f.isLt (by omega)]
      after_results_simp
      pointwise
      blk_ext

theorem out_dx (i : Fin 8192) (j : Fin 1024) : (W9 m ρ c (Proc.devRef .tc main_v26) : FVec Ideal S1x8192x1024 .f32) (ix3 0 i j)
    = (W8 m ρ c (Proc.devRef .tc main_v20_0) : FVec Ideal S8192x1024 .f32) (ix2 i j) := by
  show (StableHlo.after hostOps3 (W8 m ρ c) (Proc.devRef .tc main_v26) : FVec Ideal S1x8192x1024 .f32) (ix3 0 i j) = _
  simp only [hostOps3]
  after_results_simp
  pointwise

theorem out_dg (j : Fin 1024) : (W9 m ρ c (Proc.devRef .tc main_v27) : FVec Ideal S1024 .f32) (ix1 j)
    = (W8 m ρ c (Proc.devRef .tc main_v20_1) : FVec Ideal S1x1024 .f32) (ix2 0 j) := by
  show (StableHlo.after hostOps3 (W8 m ρ c) (Proc.devRef .tc main_v27) : FVec Ideal S1024 .f32) (ix1 j) = _
  simp only [hostOps3]
  after_results_simp
  pointwise

theorem out_dw (j : Fin 1024) (f : Fin 2592) : (W9 m ρ c (Proc.devRef .tc main_v28) : FVec Ideal S1024x2592 .f32) (ix2 j f)
    = (W8 m ρ c (Proc.devRef .tc main_v17_0) : FVec Ideal S2592x1024 .f32) (ix2 f j) := by
  show (StableHlo.after hostOps3 (W8 m ρ c) (Proc.devRef .tc main_v28) : FVec Ideal S1024x2592 .f32) (ix2 j f) = _
  simp only [hostOps3]
  after_results_simp
  pointwise

end Cert.ProjIdeal.Value

end
-- ==== Proof.ProjRegion1b.lean ====
/- The weights' gradient: the second kernel's other array after its run. -/
module

public import Idealize.ShloMosaic.Lib.Pipeline.ValueKit
public import Idealize.ShloMosaic.Lib.Pipeline.ReadBack
public import proofs.«01_k».proof.Proof.ProjRegion1

@[expose] public section

set_option maxRecDepth 16384

noncomputable section

namespace Cert.ProjIdeal.Value

open Idealize.ShloMosaic Idealize.ShloMosaic.TcCoe Idealize.SL.Sem
open Idealize.ShloMosaic.Pipeline (Dat)
open Cert.ProjIdeal Cert.ProjIdeal.Gen Cert.ProjMath

variable (V : (c : Dev nD) → (b : Ref sig .tc) → Buf (Elt Ideal) ((c : Thread nD τ).loc b)) (c : Dev nD)

variable (g : Row) (x : Fin 8192 → Row) (D : Fin 8192 → Fin 2688 → EReal)

/-- The padded gradient's columns that the kernel reads back: the gated halves', the feed-forward pair's, the decay's. -/
abbrev rLo : Rect S512x2688 := Rect.unit ![0, 0] ![512, 1536] inb_S512x2688_S512x1536_0_0
abbrev rMid : Rect S512x2688 := Rect.unit ![0, 1536] ![512, 1024] inb_S512x2688_S512x1024_0_1536
abbrev rHi : Rect S512x2688 := Rect.unit ![0, 2560] ![512, 128] inb_S512x2688_S512x128_0_2560

theorem readCov_ld {s : Shape} {e : EltTy} {κ : Kind} {sp : Space} (v : View sig κ sp s e) (L : List (View.Piece (Elt Ideal) s e)) (r : Rect s) :
    v.readCov L r.toLoadRect = View.ld (View.canon L) r := View.readCov_eq_canon' v L r.toLoadRect

section Reads
variable {κ : Kind} {sp : Space} (v : View sig κ sp S512x2688 .bf16) (L : List (View.Piece (Elt Ideal) S512x2688 .bf16))
variable (E : Fin 512 → Fin 2688 → EReal) (hL : ∀ i q, (View.canon L : FVec Ideal S512x2688 .bf16) (ix2 i q) = E i q)
include hL
theorem read_lo (i : Fin 512) (f : Fin 1536) : (v.readCov L rLo.toLoadRect : FVec Ideal S512x1536 .bf16) (ix2 i f) = E i ⟨f.val, by omega⟩ := by
  rw [readCov_ld]; exact dld_lo E _ hL i f
theorem read_mid (i : Fin 512) (f : Fin 1024) : (v.readCov L rMid.toLoadRect : FVec Ideal S512x1024 .bf16) (ix2 i f) = E i ⟨f.val + 1536, by omega⟩ := by
  rw [readCov_ld]; exact dld_mid E _ hL i f
theorem read_hi (i : Fin 512) (f : Fin 128) : (v.readCov L rHi.toLoadRect : FVec Ideal S512x128 .bf16) (ix2 i f) = E i ⟨f.val + 2560, by omega⟩ := by
  rw [readCov_ld]; exact dld_hi E _ hL i f
end Reads

section Blocks
variable (h0 : ∀ i j, (V c main_v10 : FVec Ideal S8192x1024 .f32) (ix2 i j) = x i j)
variable (h1 : ∀ j, (V c main_v0 : FVec Ideal S1x1024 .f32) (ix2 0 j) = g j)
variable (h2 : ∀ i (q : Fin 256), (V c main_v11 : FVec Ideal S8192x256 .bf16) (ix2 i q) = D i (cl 0 256 (Nat.le_of_ble_eq_true rfl) q))
variable (h3 : ∀ i (q : Fin 256), (V c main_v12 : FVec Ideal S8192x256 .bf16) (ix2 i q) = D i (cl 256 256 (Nat.le_of_ble_eq_true rfl) q))
variable (h4 : ∀ i (q : Fin 512), (V c main_v13 : FVec Ideal S8192x512 .bf16) (ix2 i q) = D i (cl 512 512 (Nat.le_of_ble_eq_true rfl) q))
variable (h5 : ∀ i (q : Fin 512), (V c main_v14 : FVec Ideal S8192x512 .bf16) (ix2 i q) = D i (cl 1024 512 (Nat.le_of_ble_eq_true rfl) q))
variable (h6 : ∀ i (q : Fin 512), (V c main_v15 : FVec Ideal S8192x512 .bf16) (ix2 i q) = D i (cl 1536 512 (Nat.le_of_ble_eq_true rfl) q))
variable (h7 : ∀ i (q : Fin 512), (V c main_v16 : FVec Ideal S8192x512 .bf16) (ix2 i q) = D i (cl 2048 512 (Nat.le_of_ble_eq_true rfl) q))
variable (h8 : ∀ i (q : Fin 128), (V c main_v9 : FVec Ideal S8192x128 .bf16) (ix2 i q) = D i (cl 2560 128 (Nat.le_of_ble_eq_true rfl) q))
variable (t : Fin cfg1.N)

/-- What point `t` adds to the weights' gradient. -/
def dwPart (t : Fin cfg1.N) (f : Fin 2592) (j : Fin 1024) : EReal :=
  ∑ i, rows D t.val t.isLt i (dst f.val f.isLt) * hid g (rows x t.val t.isLt i) j

include h2 h3 h4 h5 h6 h7 h8 in
/-- Reading the padded gradient's block through a rectangle right after its stores. -/
theorem dp_lo (i : Fin 512) (f : Fin 1536) : ((ms1_10 t).view.readCov (dpPieces V c t)
    rLo.toLoadRect : FVec Ideal S512x1536 .bf16) (ix2 i f)
      = rows D t.val t.isLt i ⟨f.val, by omega⟩ :=
  read_lo _ _ _ (fun i q => dp_pieces V c D h2 h3 h4 h5 h6 h7 h8 t (ix2 i q)) i f
include h2 h3 h4 h5 h6 h7 h8 in
theorem dp_mid (i : Fin 512) (f : Fin 1024) : ((ms1_10 t).view.readCov (dpPieces V c t)
    rMid.toLoadRect : FVec Ideal S512x1024 .bf16) (ix2 i f)
      = rows D t.val t.isLt i ⟨f.val + 1536, by omega⟩ :=
  read_mid _ _ _ (fun i q => dp_pieces V c D h2 h3 h4 h5 h6 h7 h8 t (ix2 i q)) i f
include h2 h3 h4 h5 h6 h7 h8 in
theorem dp_hi (i : Fin 512) (f : Fin 128) : ((ms1_10 t).view.readCov (dpPieces V c t)
    rHi.toLoadRect : FVec Ideal S512x128 .bf16) (ix2 i f)
      = rows D t.val t.isLt i ⟨f.val + 2560, by omega⟩ :=
  read_hi _ _ _ (fun i q => dp_pieces V c D h2 h3 h4 h5 h6 h7 h8 t (ix2 i q)) i f

section Stores
variable (A : Vec Ideal S2592x1024 .f32) (aa : FVec Ideal S1536x1024 .f32) (ab : FVec Ideal S1024x1024 .f32) (ac : FVec Ideal S32x1024 .f32)
variable (ha : ∀ f j, aa (ix2 f j) = (A : FVec Ideal S2592x1024 .f32) (ix2 ⟨f.val, by omega⟩ j))
variable (hb : ∀ f j, ab (ix2 f j) = (A : FVec Ideal S2592x1024 .f32) (ix2 ⟨f.val + 1568, by omega⟩ j))
variable (hc : ∀ f j, ac (ix2 f j) = (A : FVec Ideal S2592x1024 .f32) (ix2 ⟨f.val + 1536, by omega⟩ j))

/-- The three stores of the weights' gradient, over what the array held at their rows. -/
def dwPieces : List (View.Piece (Elt Ideal) S2592x1024 .f32) :=
  [⟨Rect.unit ![1536, 0] ![32, 1024] inb_S2592x1024_S32x1024_1536_0, k1_pay1 (k1_pay10 (iblk1 V c 0 t) (iblk1 V c 1 t)) ac
      ((ms1_10 t).view.readCov (dpPieces V c t) rHi.toLoadRect)⟩,
   ⟨Rect.unit ![1568, 0] ![1024, 1024] inb_S2592x1024_S1024x1024_1568_0, k1_pay12 (iblk1 V c 0 t) (iblk1 V c 1 t) ab
      ((ms1_10 t).view.readCov (dpPieces V c t) rMid.toLoadRect)⟩,
   ⟨Rect.unit ![0, 0] ![1536, 1024] inb_S2592x1024_S1536x1024_0_0, k1_pay11 (iblk1 V c 0 t) (iblk1 V c 1 t) aa
      ((ms1_10 t).view.readCov (dpPieces V c t) rLo.toLoadRect)⟩]

theorem dw_cover (y : S2592x1024.Idx) : ∃ p ∈ dwPieces V c t aa ab ac, y ∈ p.1.set :=
  View.cover_of_tiledBy _ ![32, 1024] (by sl_kernel_rfl) y

include h0 h1 h2 h3 h4 h5 h6 h7 h8 ha hb hc in
theorem dw_pieces (y : S2592x1024.Idx) :
    (View.canon (dwPieces V c t aa ab ac) y : EReal) = (A : FVec Ideal S2592x1024 .f32) y + dwPart g x D t (y 0) (y 1) := by
  have cov := dw_cover V c t aa ab ac y
  unfold dwPieces at cov ⊢
  canon_tiles k hk using cov
  case piece0 =>
    idx_vars k
    refine (k1_c g (rows x t.val t.isLt) _ _ (b1_0 V c x h0 t) (b1_1 V c g h1 t) _ _ _ _).trans ?_
    refine congrArg₂ (· + ·) ((hc _ _).trans (congrArg (A : FVec Ideal S2592x1024 .f32) ?_)) (Finset.sum_congr rfl fun i _ => congrArg₂ (· * ·) ?_ ?_)
    · rw [eq_ix2 y]; exact (ix2_inj ..).2 ⟨Fin.ext (by show k0.val + 1536 = (y 0).val; omega), Fin.ext (by show k1.val = (y 1).val; omega)⟩
    · refine (dp_hi V c D h2 h3 h4 h5 h6 h7 h8 t i ⟨k0.val, by omega⟩).trans (congrArg (rows D t.val t.isLt i) ?_)
      rw [dst_hi _ (by omega) (by omega)]; exact Fin.ext (by show k0.val + 2560 = (y 0).val + 1024; omega)
    · exact congrArg (hid g (rows x t.val t.isLt i)) (Fin.ext (by show k1.val = (y 1).val; omega))
  case piece1 =>
    idx_vars k
    refine (k1_b g (rows x t.val t.isLt) _ _ (b1_0 V c x h0 t) (b1_1 V c g h1 t) _ _ _ _).trans ?_
    refine congrArg₂ (· + ·) ((hb _ _).trans (congrArg (A : FVec Ideal S2592x1024 .f32) ?_)) (Finset.sum_congr rfl fun i _ => congrArg₂ (· * ·) ?_ ?_)
    · rw [eq_ix2 y]; exact (ix2_inj ..).2 ⟨Fin.ext (by show k0.val + 1568 = (y 0).val; omega), Fin.ext (by show k1.val = (y 1).val; omega)⟩
    · refine (dp_mid V c D h2 h3 h4 h5 h6 h7 h8 t i k0).trans (congrArg (rows D t.val t.isLt i) ?_)
      rw [dst_mid _ (by omega)]; exact Fin.ext (by show k0.val + 1536 = (y 0).val - 32; omega)
    · exact congrArg (hid g (rows x t.val t.isLt i)) (Fin.ext (by show k1.val = (y 1).val; omega))
  case piece2 =>
    idx_vars k
    refine (k1_a g (rows x t.val t.isLt) _ _ (b1_0 V c x h0 t) (b1_1 V c g h1 t) _ _ _ _).trans ?_
    refine congrArg₂ (· + ·) ((ha _ _).trans (congrArg (A : FVec Ideal S2592x1024 .f32) ?_)) (Finset.sum_congr rfl fun i _ => congrArg₂ (· * ·) ?_ ?_)
    · rw [eq_ix2 y]; exact (ix2_inj ..).2 ⟨Fin.ext (by show k0.val = (y 0).val; omega), Fin.ext (by show k1.val = (y 1).val; omega)⟩
    · refine (dp_lo V c D h2 h3 h4 h5 h6 h7 h8 t i k0).trans (congrArg (rows D t.val t.isLt i) ?_)
      rw [dst_lo _ (by omega)]; exact Fin.ext (by show k0.val = (y 0).val; omega)
    · exact congrArg (hid g (rows x t.val t.isLt i)) (Fin.ext (by show k1.val = (y 1).val; omega))

end Stores

theorem ld0_lo (B : Vec Ideal S2592x1024 .f32) (f : Fin 1536) (j : Fin 1024) :
    (View.ld B (Rect.unit ![0, 0] ![1536, 1024] inb_S2592x1024_S1536x1024_0_0) : FVec Ideal S1536x1024 .f32) (ix2 f j)
      = (B : FVec Ideal S2592x1024 .f32) (ix2 ⟨f.val, by omega⟩ j) := by pointwise
theorem ld0_mid (B : Vec Ideal S2592x1024 .f32) (f : Fin 1024) (j : Fin 1024) :
    (View.ld B (Rect.unit ![1568, 0] ![1024, 1024] inb_S2592x1024_S1024x1024_1568_0) : FVec Ideal S1024x1024 .f32) (ix2 f j)
      = (B : FVec Ideal S2592x1024 .f32) (ix2 ⟨f.val + 1568, by omega⟩ j) := by pointwise; blk_ext
theorem ld0_hi (B : Vec Ideal S2592x1024 .f32) (f : Fin 32) (j : Fin 1024) :
    (View.ld B (Rect.unit ![1536, 0] ![32, 1024] inb_S2592x1024_S32x1024_1536_0) : FVec Ideal S32x1024 .f32) (ix2 f j)
      = (B : FVec Ideal S2592x1024 .f32) (ix2 ⟨f.val + 1536, by omega⟩ j) := by pointwise; blk_ext

include h0 h1 h2 h3 h4 h5 h6 h7 h8 in
theorem arr1_dw : (dat1 V c).arrAt 9 cfg1.N = (fun i => ∑ r, D r (dst (i 0).val (i 0).isLt) * hid g (x r) (i 1) : FVec Ideal S2592x1024 .f32) := by
  refine (dat1 V c).arrAt_eq_of_covers 9 _ (by decide +kernel) fun t hf z => ?_
  blk_simp
  rw [after1_9, Pipeline.eq_sum_fin_of_reset_step_apply_of_flush (fun n h => (outsAt1 V c n h).1) 16 (fun _ => 0)
    (fun t j => dwPart g x D t (j 0) (j 1))
    (fun t h j => by
      have e := dw_pieces V c g x D h0 h1 h2 h3 h4 h5 h6 h7 h8 t (k1_pay2 (F := Ideal))
      rw [outsAt1_A V c t h]; frame_out
      refine (canon_append (dwPieces V c t _ _ _) _ j (dw_cover V c t _ _ _ j)).trans ((e _ _ _ ?_ ?_ ?_ j).trans (congrArg (· + _) (k1_zero j)))
      · intro f j
        exact (congrFun (View.readCov_fill (Val := Elt Ideal) _ _ _ _ _ (by decide)) _).trans (ld0_lo _ f j)
      · intro f j
        exact (congrFun ((View.readCov_skip (Val := Elt Ideal) _ _ _ _ _ (by decide)).trans (View.readCov_fill (Val := Elt Ideal) _ _ _ _ _ (by decide))) _).trans (ld0_mid _ f j)
      · intro f j
        exact (congrFun ((View.readCov_skip (Val := Elt Ideal) _ _ _ _ _ (by decide)).trans ((View.readCov_skip (Val := Elt Ideal) _ _ _ _ _ (by decide)).trans
          (View.readCov_fill (Val := Elt Ideal) _ _ _ _ _ (by decide)))) _).trans (ld0_hi _ f j))
    (fun t h j => by
      have e := dw_pieces V c g x D h0 h1 h2 h3 h4 h5 h6 h7 h8 t (outsAt1 V c (t.val - 1) (Nat.lt_of_le_of_lt (Nat.sub_le _ _) t.isLt)).1
      rw [outsAt1_B V c t h]; frame_out
      exact e _ _ _ (ld0_lo _) (ld0_mid _) (ld0_hi _) j)
    t ((flush1_9 t).mp hf) _, zero_add]
  have ht : t.val < 16 := t.isLt
  show (_ : EReal) = _
  idx_vars z
  refine (sum_points (fun r => D r (dst z0.val z0.isLt) * hid g (x r) z1) (fun t => dwPart g x D t z0 z1) (fun s => rfl) _ (by omega) _).trans ?_
  have q : win1_9.index t 0 = 0 := by simp [idx1 t]
  simp only [q, Nat.zero_mul, Nat.zero_add]
  exact Finset.sum_congr rfl fun r _ => congrArg (fun j => D r (dst z0.val z0.isLt) * hid g (x r) j) (Fin.ext (by blk_simp [idx1 t]))

end Blocks

end Cert.ProjIdeal.Value

end
-- ==== Proof.ProjValue.lean ====
/- What the projection's program leaves in its four results, on every extended real. -/
module

public import proofs.«01_k».proof.Proof.ProjHost
public import proofs.«01_k».proof.Proof.ProjRegion1b

@[expose] public section

set_option maxRecDepth 16384

noncomputable section

namespace Cert.ProjIdeal.Value

open Idealize.ShloMosaic Idealize.ShloMosaic.TcCoe Idealize.SL.Sem
open Cert.ProjIdeal Cert.ProjIdeal.Gen Cert.FfnMath Cert.ProjMath

/-- A row of the gradient of the projection's output in the padded order of its columns. -/
def padded (d : Fin 2592 → EReal) (q : Fin 2688) : EReal :=
  if h1 : q.val < 1536 then d ⟨q.val, by omega⟩
  else if h2 : q.val < 2560 then d ⟨q.val + 32, by omega⟩
  else if h3 : q.val < 2592 then d ⟨q.val - 1024, by omega⟩
  else 0

theorem padded_lo (d : Fin 2592 → EReal) (q : Fin 2688) (h : q.val < 1536) (f : Fin 2592) (e : f.val = q.val) : padded d q = d f := by
  rw [padded, dif_pos h]; exact congrArg d (Fin.ext e.symm)
theorem padded_mid (d : Fin 2592 → EReal) (q : Fin 2688) (h : 1536 ≤ q.val) (h' : q.val < 2560) (f : Fin 2592) (e : f.val = q.val + 32) :
    padded d q = d f := by
  rw [padded, dif_neg (by omega), dif_pos h']; exact congrArg d (Fin.ext e.symm)
theorem padded_hi (d : Fin 2592 → EReal) (q : Fin 2688) (h : 2560 ≤ q.val) (h' : q.val < 2592) (f : Fin 2592) (e : f.val + 1024 = q.val) :
    padded d q = d f := by
  rw [padded, dif_neg (by omega), dif_neg (by omega), dif_pos h']; exact congrArg d (Fin.ext (by show q.val - 1024 = f.val; omega))
theorem padded_zero (d : Fin 2592 → EReal) (q : Fin 2688) (h : 2592 ≤ q.val) : padded d q = 0 := by
  rw [padded, dif_neg (by omega), dif_neg (by omega), dif_neg (by omega)]

theorem padded_dst (d : Fin 2592 → EReal) (f : Fin 2592) : padded d (dst f.val f.isLt) = d f := by
  by_cases h1 : f.val < 1536
  · rw [dst_lo f.isLt h1]; exact padded_lo d _ h1 f rfl
  · by_cases h2 : f.val < 1568
    · rw [dst_hi f.isLt (by omega) h2]
      exact padded_hi d _ (by show 2560 ≤ f.val + 1024; omega) (by show f.val + 1024 < 2592; omega) f rfl
    · rw [dst_mid f.isLt (by omega)]
      exact padded_mid d _ (by show 1536 ≤ f.val - 32; omega) (by show f.val - 32 < 2560; omega) f (by show f.val = f.val - 32 + 32; omega)

theorem src_dst (f : Fin 2592) : src (dst f.val f.isLt).val (dst f.val f.isLt).isLt = f := by
  by_cases h1 : f.val < 1536
  · rw [dst_lo f.isLt h1, src_lo _ h1]
  · by_cases h2 : f.val < 1568
    · rw [dst_hi f.isLt (by omega) h2, src_hi _ (by show 2560 ≤ f.val + 1024; omega)]
      exact Fin.ext (by show f.val + 1024 - 1024 = f.val; omega)
    · rw [dst_mid f.isLt (by omega), src_mid _ (by show 1536 ≤ f.val - 32; omega) (by show f.val - 32 < 2560; omega)]
      exact Fin.ext (by show f.val - 32 + 32 = f.val; omega)

/-- The three partial products over the padded columns are the product over the columns. -/
theorem dhPad_padded (w : Fin 1024 → Fin 2592 → EReal) (d : Fin 2592 → EReal) (j : Fin 1024) : dhPad w (padded d) j = dh w d j := by
  refine Eq.trans ?_ (sum_pieces fun f => d f * w j f).symm
  refine congrArg₂ (· + ·) (congrArg₂ (· + ·) ?_ ?_) ?_
  · exact Finset.sum_congr rfl fun k _ => congrArg (· * _) (padded_lo d _ k.isLt _ rfl)
  · exact Finset.sum_congr rfl fun k _ => congrArg (· * _) (padded_mid d _ (by show 1536 ≤ k.val + 1536; omega) (by show k.val + 1536 < 2560; omega) _ rfl)
  · refine (sum_128 _ fun k hk => ?_).trans ?_
    · rw [padded_zero d _ (by show 2592 ≤ k.val + 2560; omega), zero_mul]
    · exact Finset.sum_congr rfl fun k _ => congrArg (· * _) (padded_hi d _ (by show 2560 ≤ k.val + 2560; omega) (by show k.val + 2560 < 2592; omega) _ rfl)

variable (m : (ℓ : Loc nD τ sig) → Buf (Elt Ideal) ℓ) (ρ : Dev nD → PrngReg) (c : Dev nD)

/-- The arguments' entries. -/
def aX (i : Fin 8192) (j : Fin 1024) : EReal := (m ((c : Thread nD τ).loc main_arg0) : FVec Ideal S1x8192x1024 .f32) (ix3 0 i j)
def aG (j : Fin 1024) : EReal := (m ((c : Thread nD τ).loc main_arg1) : FVec Ideal S1024 .f32) (ix1 j)
def aW (j : Fin 1024) (f : Fin 2592) : EReal := (m ((c : Thread nD τ).loc main_arg2) : FVec Ideal S1024x2592 .f32) (ix2 j f)
def aU (i : Fin 8192) (j : Fin 1024) : EReal := (m ((c : Thread nD τ).loc main_arg3) : FVec Ideal S1x8192x1024 .f32) (ix3 0 i j)
def aD (i : Fin 8192) (f : Fin 2592) : EReal := (m ((c : Thread nD τ).loc main_arg4) : FVec Ideal S1x8192x2592 .f32) (ix3 0 i f)
/-- The rows of the padded gradient. -/
def aP (i : Fin 8192) : Fin 2688 → EReal := padded (aD m c i)

/-! ## The forward projection -/

theorem w2_p : W2 m ρ c (Proc.devRef .tc main_v5) = (fun i => proj (aG m c) (aX m c (i 0)) (aW m c) (src (i 1).val (i 1).isLt) : FVec Ideal S8192x2688 .f32) :=
  (W2_arr m ρ c 4).trans (arr0_p (V1 m ρ) c (aG m c) (aW m c) (aX m c) (in_x m ρ c) (in_g m ρ c) (in_w m ρ c))

theorem p_eq (i : Fin 8192) (f : Fin 2592) : (W9 m ρ c (Proc.devRef .tc main_v25) : FVec Ideal S1x8192x2592 .f32) (ix3 0 i f) = proj (aG m c) (aX m c i) (aW m c) f := by
  refine (out_p m ρ c i f).trans ?_
  rw [show W8 m ρ c (Proc.devRef .tc main_v5) = W2 m ρ c (Proc.devRef .tc main_v5) from
    (W8_of m ρ c main_v5 (by decide +kernel)).trans ((W7_of m ρ c main_v5 (by decide)).trans ((W6_of m ρ c main_v5 (by decide +kernel)).trans
      ((W5_of m ρ c main_v5 (by decide)).trans ((W4_of m ρ c main_v5 (by decide)).trans (W3_of m ρ c main_v5 (by decide)))))), w2_p]
  exact congrArg (proj (aG m c) (aX m c i) (aW m c)) (src_dst f)

/-! ## The weight's gradient -/

theorem e5_g (j : Fin 1024) : (V5 m ρ c main_v0 : FVec Ideal S1x1024 .f32) (ix2 0 j) = aG m c j :=
  (congrFun ((W5_of m ρ c main_v0 (by decide)).trans ((W4_of m ρ c main_v0 (by decide)).trans ((W3_of m ρ c main_v0 (by decide)).trans
    (W2_of m ρ c main_v0 (by decide +kernel))))) (ix2 0 j)).trans (in_g m ρ c j)
theorem e5_11 (i : Fin 8192) (q : Fin 256) : (V5 m ρ c main_v11 : FVec Ideal S8192x256 .bf16) (ix2 i q) = aP m c i (cl 0 256 (Nat.le_of_ble_eq_true rfl) q) := by
  refine (mid_11 m ρ c i q).trans (Eq.symm (padded_lo (aD m c i) _ ?_ ⟨q.val, by omega⟩ ?_))
  · show q.val + 0 < 1536
    omega
  · rfl
theorem e5_12 (i : Fin 8192) (q : Fin 256) : (V5 m ρ c main_v12 : FVec Ideal S8192x256 .bf16) (ix2 i q) = aP m c i (cl 256 256 (Nat.le_of_ble_eq_true rfl) q) := by
  refine (mid_12 m ρ c i q).trans (Eq.symm (padded_lo (aD m c i) _ ?_ ⟨q.val + 256, by omega⟩ ?_))
  · show q.val + 256 < 1536
    omega
  · rfl
theorem e5_13 (i : Fin 8192) (q : Fin 512) : (V5 m ρ c main_v13 : FVec Ideal S8192x512 .bf16) (ix2 i q) = aP m c i (cl 512 512 (Nat.le_of_ble_eq_true rfl) q) := by
  refine (mid_13 m ρ c i q).trans (Eq.symm (padded_lo (aD m c i) _ ?_ ⟨q.val + 512, by omega⟩ ?_))
  · show q.val + 512 < 1536
    omega
  · rfl
theorem e5_14 (i : Fin 8192) (q : Fin 512) : (V5 m ρ c main_v14 : FVec Ideal S8192x512 .bf16) (ix2 i q) = aP m c i (cl 1024 512 (Nat.le_of_ble_eq_true rfl) q) := by
  refine (mid_14 m ρ c i q).trans (Eq.symm (padded_lo (aD m c i) _ ?_ ⟨q.val + 1024, by omega⟩ ?_))
  · show q.val + 1024 < 1536
    omega
  · rfl
theorem e5_15 (i : Fin 8192) (q : Fin 512) : (V5 m ρ c main_v15 : FVec Ideal S8192x512 .bf16) (ix2 i q) = aP m c i (cl 1536 512 (Nat.le_of_ble_eq_true rfl) q) := by
  refine (mid_15 m ρ c i q).trans (Eq.symm (padded_mid (aD m c i) _ ?_ ?_ ⟨q.val + 1568, by omega⟩ ?_))
  · show 1536 ≤ q.val + 1536
    omega
  · show q.val + 1536 < 2560
    omega
  · show q.val + 1568 = q.val + 1536 + 32
    omega
theorem e5_16 (i : Fin 8192) (q : Fin 512) : (V5 m ρ c main_v16 : FVec Ideal S8192x512 .bf16) (ix2 i q) = aP m c i (cl 2048 512 (Nat.le_of_ble_eq_true rfl) q) := by
  refine (mid_16 m ρ c i q).trans (Eq.symm (padded_mid (aD m c i) _ ?_ ?_ ⟨q.val + 2080, by omega⟩ ?_))
  · show 1536 ≤ q.val + 2048
    omega
  · show q.val + 2048 < 2560
    omega
  · show q.val + 2080 = q.val + 2048 + 32
    omega
theorem e5_9 (i : Fin 8192) (q : Fin 128) : (V5 m ρ c main_v9 : FVec Ideal S8192x128 .bf16) (ix2 i q) = aP m c i (cl 2560 128 (Nat.le_of_ble_eq_true rfl) q) := by
  refine (pad_lr m ρ c i q).trans ?_
  by_cases h : q.val < 32
  · rw [dif_pos h]
    refine Eq.symm (padded_hi (aD m c i) _ ?_ ?_ ⟨q.val + 1536, by omega⟩ ?_)
    · show 2560 ≤ q.val + 2560
      omega
    · show q.val + 2560 < 2592
      omega
    · show q.val + 1536 + 1024 = q.val + 2560
      omega
  · rw [dif_neg h]
    refine Eq.symm (padded_zero (aD m c i) _ ?_)
    show 2592 ≤ q.val + 2560
    omega

theorem w6_dp : W6 m ρ c (Proc.devRef .tc main_v17_1) = (fun i => aP m c (i 0) (i 1) : FVec Ideal S8192x2688 .bf16) :=
  (W6_arr m ρ c 10).trans (arr1_dp (V5 m ρ) c (aP m c) (e5_11 m ρ c) (e5_12 m ρ c) (e5_13 m ρ c) (e5_14 m ρ c) (e5_15 m ρ c) (e5_16 m ρ c) (e5_9 m ρ c))
theorem w6_dw : W6 m ρ c (Proc.devRef .tc main_v17_0) = (fun i => ∑ r, aP m c r (dst (i 0).val (i 0).isLt) * hid (aG m c) (aX m c r) (i 1) : FVec Ideal S2592x1024 .f32) :=
  (W6_arr m ρ c 9).trans (arr1_dw (V5 m ρ) c (aG m c) (aX m c) (aP m c) (mid_x m ρ c) (e5_g m ρ c)
    (e5_11 m ρ c) (e5_12 m ρ c) (e5_13 m ρ c) (e5_14 m ρ c) (e5_15 m ρ c) (e5_16 m ρ c) (e5_9 m ρ c))

theorem dw_eq (j : Fin 1024) (f : Fin 2592) : (W9 m ρ c (Proc.devRef .tc main_v28) : FVec Ideal S1024x2592 .f32) (ix2 j f) = (∑ i, aD m c i f * hid (aG m c) (aX m c i) j : EReal) := by
  refine (out_dw m ρ c j f).trans ?_
  rw [show W8 m ρ c (Proc.devRef .tc main_v17_0) = W6 m ρ c (Proc.devRef .tc main_v17_0) from
    (W8_of m ρ c main_v17_0 (by decide +kernel)).trans (W7_of m ρ c main_v17_0 (by decide)), w6_dw]
  show (∑ r, aP m c r (dst f.val f.isLt) * hid (aG m c) (aX m c r) j : EReal) = _
  exact Finset.sum_congr rfl fun r _ => congrArg (· * hid (aG m c) (aX m c r) j) (padded_dst (aD m c r) f)

/-! ## The input's gradient and the norm's -/

theorem e7_g (j : Fin 1024) : (V7 m ρ c main_v0 : FVec Ideal S1x1024 .f32) (ix2 0 j) = aG m c j :=
  (congrFun ((W7_of m ρ c main_v0 (by decide)).trans (W6_of m ρ c main_v0 (by decide +kernel))) (ix2 0 j)).trans (e5_g m ρ c j)
theorem e7_w (f : Fin 2592) (j : Fin 1024) : (V7 m ρ c main_v2 : FVec Ideal S2592x1024 .bf16) (ix2 f j) = aW m c j f :=
  (congrFun ((W7_of m ρ c main_v2 (by decide)).trans ((W6_of m ρ c main_v2 (by decide +kernel)).trans ((W5_of m ρ c main_v2 (by decide)).trans
    ((W4_of m ρ c main_v2 (by decide)).trans ((W3_of m ρ c main_v2 (by decide)).trans (W2_of m ρ c main_v2 (by decide +kernel))))))) (ix2 f j)).trans (in_w m ρ c f j)
theorem e7_dp (i : Fin 8192) (q : Fin 2688) : (V7 m ρ c main_v17_1 : FVec Ideal S8192x2688 .bf16) (ix2 i q) = aP m c i q :=
  congrFun ((W7_of m ρ c main_v17_1 (by decide)).trans (w6_dp m ρ c)) (ix2 i q)

theorem dx_eq (i : Fin 8192) (j : Fin 1024) : (W9 m ρ c (Proc.devRef .tc main_v26) : FVec Ideal S1x8192x1024 .f32) (ix3 0 i j)
    = aU m c i j + rb (aX m c i) (fun l => dh (aW m c) (aD m c i) l * aG m c l) j := by
  refine (out_dx m ρ c i j).trans ?_
  rw [show W8 m ρ c (Proc.devRef .tc main_v20_0) = _ from
    (W8_arr m ρ c 6).trans (arr2_dx (V7 m ρ) c (aG m c) (aW m c) (aX m c) (aU m c) (aP m c) (late_x m ρ c) (late_u m ρ c) (e7_g m ρ c) (e7_w m ρ c) (e7_dp m ρ c))]
  exact congrArg (fun z => aU m c i j + rb (aX m c i) z j) (funext fun l => congrArg (· * _) (dhPad_padded (aW m c) (aD m c i) l))

theorem dg_eq (j : Fin 1024) : (W9 m ρ c (Proc.devRef .tc main_v27) : FVec Ideal S1024 .f32) (ix1 j)
    = (∑ i, nrm (aX m c i) j * dh (aW m c) (aD m c i) j : EReal) := by
  refine (out_dg m ρ c j).trans ?_
  rw [show W8 m ρ c (Proc.devRef .tc main_v20_1) = _ from
    (W8_arr m ρ c 7).trans (arr2_dg (V7 m ρ) c (aW m c) (aX m c) (aP m c) (late_x m ρ c) (e7_w m ρ c) (e7_dp m ρ c))]
  show (∑ r, dhPad (aW m c) (aP m c r) j * nrm (aX m c r) j : EReal) = _
  exact Finset.sum_congr rfl fun r _ => (congrArg (· * nrm (aX m c r) j) (dhPad_padded (aW m c) (aD m c r) j)).trans (mul_comm _ _)

end Cert.ProjIdeal.Value

end
-- ==== Proof.ProjRun.lean ====
/- The kernel's run: every buffer of the TensorCore ends at what the nine stretches of the program leave in it. -/
module

public import proofs.«01_k».proof.Proof.Gen.ProjIdeal.Frame

@[expose] public section

set_option maxRecDepth 16384

noncomputable section

namespace Cert.ProjIdeal.Value

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run terminates, and each buffer that lives through it ends at `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.ProjIdeal.Value

end
-- ==== Proof.ProjRef.lean ====
/- What the projection's reference computes, an entry at a time. -/
module

public import proofs.«01_k».proof.Proof.ProjMath
public import proofs.«01_k».proof.Proof.Unit
public import proofs.«01_k».proof.Proof.Gen.ProjRefIdeal.Run

@[expose] public section

set_option maxRecDepth 16384

noncomputable section

namespace Cert.ProjRefIdeal.Value

open Idealize.ShloMosaic Idealize.ShloMosaic.TcCoe Idealize.SL.Sem
open Cert.ProjRefIdeal Cert.ProjRefIdeal.Gen Cert.ProjMath
open Cert.FfnMath (c1024 ceps cnhalf)

variable (A0 : FVec Ideal S1x8192x1024 .f32) (A1 : FVec Ideal S1024 .f32) (A2 : FVec Ideal S1024x2592 .f32)
variable (A3 : FVec Ideal S1x8192x1024 .f32) (A4 : FVec Ideal S1x8192x2592 .f32)

/-- The mean square of the rows, plus `eps`. -/
def rMs : FVec Ideal S1x8192x1 .f32 := addf (Host.divf (broadcastInDim S1x8192x1 ![0, 1] bcast_S1x8192_S1x8192x1_0_1 (Host.reduceAdd (mulf A0 A0) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
/-- The normalised rows. -/
def rNrm : FVec Ideal S1x8192x1024 .f32 := mulf A0 (broadcastInDim S1x8192x1024 ![0, 1, 2] bcast_S1x8192x1_S1x8192x1024_0_1_2 (Host.rsqrt (rMs A0)))
/-- The scale, on every row. -/
def rG : FVec Ideal S1x8192x1024 .f32 := broadcastInDim S1x8192x1024 ![0, 1, 2] bcast_S1x1x1024_S1x8192x1024_0_1_2 (broadcastInDim S1x1x1024 ![2] bcast_S1024_S1x1x1024_2 A1)
/-- The gradient that reaches the normalised, scaled rows. -/
def rDh : FVec Ideal S1x8192x1024 .f32 := Host.dotGeneral (φ₁ := .f32) (φ₂ := .f32) dot_S1x8192x2592_S1024x2592_S1x8192x1024_2_1_01_0_n_n none A4 A2
/-- The mean square's share of the gradient of a row. -/
def rRoot : FVec Ideal S1x8192x1024 .f32 := broadcastInDim S1x8192x1024 ![0, 1] bcast_S1x8192_S1x8192x1024_0_1 (broadcastInDim S1x8192 ![1] bcast_S8192_S1x8192_1 (Host.reduceAdd (Host.divf (mulf (shapeCast _ (Host.reduceAdd (mulf A0 (mulf (rDh A2 A4) (rG A1))) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (Host.rsqrt (rMs A0)) (rMs A0)))) (broadcastInDim S1x8192x1 ![] bcast_S_S1x8192x1 (constant S_ .f32 0x44800000#32))) (constant S_ .f32 0x00000000#32) reducesTo_S1x8192x1_S8192_d0_2 h_S_))

variable (g : Row) (x u : Fin 8192 → Row) (w : Fin 1024 → Fin 2592 → EReal) (d : Fin 8192 → Fin 2592 → EReal)
variable (h0 : ∀ i j, A0 (ix3 0 i j) = x i j) (h1 : ∀ j, A1 (ix1 j) = g j) (h2 : ∀ j f, A2 (ix2 j f) = w j f)
variable (h3 : ∀ i j, A3 (ix3 0 i j) = u i j) (h4 : ∀ i f, A4 (ix3 0 i f) = d i f)

include h0 in
theorem ms_at (i : Fin 8192) : rMs A0 (ix3 0 i 0) = ms (x i) := by
  pointwise [rMs, h0]
  simp only [c1024, ceps, zero_add]
  rfl

include h0 in
theorem nrm_at (i : Fin 8192) (j : Fin 1024) : rNrm A0 (ix3 0 i j) = nrm (x i) j := by
  pointwise [rNrm, ms_at A0 x h0, h0]
  rfl

include h1 in
theorem g_at (i : Fin 8192) (j : Fin 1024) : rG A1 (ix3 0 i j) = g j := by
  pointwise [rG, h1]

include h2 h4 in
theorem dh_at (i : Fin 8192) (j : Fin 1024) : rDh A2 A4 (ix3 0 i j) = dh w (d i) j := by
  pointwise [rDh, h2, h4]
  rfl

include h0 h1 h2 h4 in
theorem root_at (i : Fin 8192) (j : Fin 1024) : rRoot A0 A1 A2 A4 (ix3 0 i j) = rbRoot (x i) (fun l => dh w (d i) l * g l) := by
  pointwise [rRoot, UnitAxes.sum_first_last, ms_at A0 x h0, h0, g_at A1 g h1, dh_at A2 A4 w d h2 h4]
  simp only [ms_at A0 x h0, h0, g_at A1 g h1, dh_at A2 A4 w d h2 h4, c1024, cnhalf, zero_add]
  rfl

include h0 h1 h2 in
theorem p_at (i : Fin 8192) (f : Fin 2592) :
    Host.dotGeneral (φ₁ := .f32) (φ₂ := .f32) dot_S1x8192x1024_S1024x2592_S1x8192x2592_2_0_01_1_n_n none (mulf (rNrm A0) (rG A1)) A2 (ix3 0 i f)
      = proj g (x i) w f := by
  pointwise [nrm_at A0 x h0, g_at A1 g h1, h2]
  rfl

include h0 h1 h2 h3 h4 in
theorem dx_at (i : Fin 8192) (j : Fin 1024) :
    addf (addf (addf A3 (mulf (mulf (rDh A2 A4) (rG A1)) (broadcastInDim S1x8192x1024 ![0, 1, 2] bcast_S1x8192x1_S1x8192x1024_0_1_2 (Host.rsqrt (rMs A0))))) (mulf A0 (rRoot A0 A1 A2 A4))) (mulf (rRoot A0 A1 A2 A4) A0) (ix3 0 i j)
      = u i j + rb (x i) (fun l => dh w (d i) l * g l) j := by
  pointwise [root_at A0 A1 A2 A4 g x w d h0 h1 h2 h4, ms_at A0 x h0, h0, h3, g_at A1 g h1, dh_at A2 A4 w d h2 h4]
  rw [← rb_eq, add_assoc, add_assoc, add_assoc]
  rfl

include h0 h2 h4 in
theorem dg_at (j : Fin 1024) :
    Host.reduceAdd (shapeCast _ (Host.reduceAdd (mulf (rNrm A0) (rDh A2 A4)) (constant S_ .f32 0x00000000#32) reducesTo_S1x8192x1024_S1x1024_d1 h_S_) shapeCasts_S1x1024_S1x1x1024) (constant S_ .f32 0x00000000#32) reducesTo_S1x1x1024_S1024_d0_1 h_S_ (ix1 j)
      = ∑ i, nrm (x i) j * dh w (d i) j := by
  pointwise [UnitAxes.sum_first_two, nrm_at A0 x h0, dh_at A2 A4 w d h2 h4]

include h0 h1 h4 in
theorem dw_at (j : Fin 1024) (f : Fin 2592) :
    transpose S1024x2592 [1, 0] (Host.dotGeneral (φ₁ := .f32) (φ₂ := .f32) dot_S1x8192x2592_S1x8192x1024_S2592x1024_01_01_2_2_n_n none A4 (mulf (rNrm A0) (rG A1))) transposes_S2592x1024_S1024x2592_1_0 (ix2 j f)
      = ∑ i, d i f * hid g (x i) j := by
  pointwise [nrm_at A0 x h0, g_at A1 g h1, h4]
  simp only [nrm_at A0 x h0, g_at A1 g h1, h4, Fin.sum_univ_one]
  rfl

end Cert.ProjRefIdeal.Value

end
-- ==== Proof.ProjClaim.lean ====
/- The kernel program's results are the reference's, and the reference runs to its end. -/
module

public import proofs.«01_k».proof.Defs
public import proofs.«01_k».proof.Proof.ProjValue
public import proofs.«01_k».proof.Proof.ProjRun
public import proofs.«01_k».proof.Proof.ProjRef

@[expose] public section

set_option maxRecDepth 16384

noncomputable section

namespace Cert.ProjClaim

open Idealize.ShloMosaic Idealize.ShloMosaic.TcCoe Idealize.SL.Sem
open Cert.ProjIdeal.Value (aX aG aW aU aD)

/-- On every argument the kernel's four results are the reference's. -/
theorem algebraic : algebraic_ProjIdeal_ProjRefIdeal := by
  intro m g m' g' _ hs
  refine ⟨fun c => ProjIdeal.Gen.W9 m g c (Proc.devRef .tc ProjIdeal.main_v25), fun c => ProjIdeal.Gen.W9 m g c (Proc.devRef .tc ProjIdeal.main_v26),
    fun c => ProjIdeal.Gen.W9 m g c (Proc.devRef .tc ProjIdeal.main_v27), fun c => ProjIdeal.Gen.W9 m g c (Proc.devRef .tc ProjIdeal.main_v28), ?_, ?_⟩
  · refine (θ_run _ _ _).mono (fun r h c => ?_) (ProjIdeal.Value.run (F := Ideal) m g)
    exact ⟨h c _ (ProjIdeal.Gen.mem_uc ProjIdeal.main_v25 (by decide)),
      h c _ (ProjIdeal.Gen.mem_uc ProjIdeal.main_v26 (by decide)),
      h c _ (ProjIdeal.Gen.mem_uc ProjIdeal.main_v27 (by decide)),
      h c _ (ProjIdeal.Gen.mem_uc ProjIdeal.main_v28 (by decide)),
      (h c _ (ProjIdeal.Gen.mem_uc ProjIdeal.main_arg0 (by decide))).trans (ProjIdeal.Gen.W9_main_arg0 m g c),
      (h c _ (ProjIdeal.Gen.mem_uc ProjIdeal.main_arg1 (by decide))).trans (ProjIdeal.Gen.W9_main_arg1 m g c),
      (h c _ (ProjIdeal.Gen.mem_uc ProjIdeal.main_arg2 (by decide))).trans (ProjIdeal.Gen.W9_main_arg2 m g c),
      (h c _ (ProjIdeal.Gen.mem_uc ProjIdeal.main_arg3 (by decide))).trans (ProjIdeal.Gen.W9_main_arg3 m g c),
      (h c _ (ProjIdeal.Gen.mem_uc ProjIdeal.main_arg4 (by decide))).trans (ProjIdeal.Gen.W9_main_arg4 m g c)⟩
  · refine (θ_run _ _ _).mono (fun r h c => ?_) (ProjRefIdeal.Value.run (F := Ideal) m' g')
    obtain ⟨r0, r1, r2, r3, ra⟩ := h c
    obtain ⟨s0, s1, s2, s3, s4⟩ := hs c
    have a0 : ∀ i j, (m' ((c : Thread ProjRefIdeal.nD ProjRefIdeal.τ).loc ProjRefIdeal.main_arg0) : FVec Ideal ProjRefIdeal.S1x8192x1024 .f32) (ix3 0 i j) = aX m c i j := fun i j => congrFun s0 (ix3 0 i j)
    have a1 : ∀ j, (m' ((c : Thread ProjRefIdeal.nD ProjRefIdeal.τ).loc ProjRefIdeal.main_arg1) : FVec Ideal ProjRefIdeal.S1024 .f32) (ix1 j) = aG m c j := fun j => congrFun s1 (ix1 j)
    have a2 : ∀ j f, (m' ((c : Thread ProjRefIdeal.nD ProjRefIdeal.τ).loc ProjRefIdeal.main_arg2) : FVec Ideal ProjRefIdeal.S1024x2592 .f32) (ix2 j f) = aW m c j f := fun j f => congrFun s2 (ix2 j f)
    have a3 : ∀ i j, (m' ((c : Thread ProjRefIdeal.nD ProjRefIdeal.τ).loc ProjRefIdeal.main_arg3) : FVec Ideal ProjRefIdeal.S1x8192x1024 .f32) (ix3 0 i j) = aU m c i j := fun i j => congrFun s3 (ix3 0 i j)
    have a4 : ∀ i f, (m' ((c : Thread ProjRefIdeal.nD ProjRefIdeal.τ).loc ProjRefIdeal.main_arg4) : FVec Ideal ProjRefIdeal.S1x8192x2592 .f32) (ix3 0 i f) = aD m c i f := fun i f => congrFun s4 (ix3 0 i f)
    refine ⟨r0.trans (funext fun k => ?_), r1.trans (funext fun k => ?_), r2.trans (funext fun k => ?_), r3.trans (funext fun k => ?_), ra⟩
    · idx_vars k
      obtain rfl : k0 = 0 := Subsingleton.elim _ _
      exact (ProjRefIdeal.Value.p_at _ _ _ _ _ _ a0 a1 a2 _ _).trans (ProjIdeal.Value.p_eq m g c _ _).symm
    · idx_vars k
      obtain rfl : k0 = 0 := Subsingleton.elim _ _
      exact (ProjRefIdeal.Value.dx_at _ _ _ _ _ _ _ _ _ _ a0 a1 a2 a3 a4 _ _).trans (ProjIdeal.Value.dx_eq m g c _ _).symm
    · idx_vars k
      exact (ProjRefIdeal.Value.dg_at _ _ _ _ _ _ a0 a2 a4 _).trans (ProjIdeal.Value.dg_eq m g c _).symm
    · idx_vars k
      exact (ProjRefIdeal.Value.dw_at _ _ _ _ _ _ a0 a1 a4 _ _).trans (ProjIdeal.Value.dw_eq m g c _ _).symm

/-- The reference program runs, keeps its arguments and has no semaphore. -/
theorem quiescent_reference : quiescent_ProjRefIdeal := by
  intro m g _
  refine (θ_run _ _ _).mono (fun r h => ⟨fun c => ?_, sem_eq_zero_of_no_sems (by decide) _⟩) (ProjRefIdeal.Value.run (F := Ideal) m g)
  exact (h c).2.2.2.2

end Cert.ProjClaim

end
-- ==== Proof.AdamRun.lean ====
/- The kernel's run: every buffer of the TensorCore ends at what the ten stretches of the program leave in it. -/
module

public import proofs.«01_k».proof.Proof.Gen.AdamIdeal.Frame

@[expose] public section

set_option maxRecDepth 16384

noncomputable section

namespace Cert.AdamIdeal.Value

open Cert.AdamIdeal Cert.AdamIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run terminates, and each buffer that lives through it ends at `W10`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Cert.AdamIdeal.Value

end
-- ==== Proof.AdamMath.lean ====
/- One AdamW step on one entry, over the extended reals. -/
module

public import Idealize.ShloMosaic.Lib.Pipeline.ValueKit

@[expose] public section

set_option maxRecDepth 16384

noncomputable section

namespace Cert.AdamMath

open Idealize.ShloMosaic

/-- The new first moment of an entry with gradient `g` and first moment `m`. -/
def adM (g m : EReal) : EReal := Ideal.ofBits .f32 0x3F666666#32 * m + Ideal.ofBits .f32 0x3DCCCCCD#32 * g
/-- The new second moment. -/
def adV (g v : EReal) : EReal := Ideal.ofBits .f32 0x3F7FBE77#32 * v + Ideal.ofBits .f32 0x3A83126F#32 * (g * g)
/-- The step of the entry `w`. -/
def adD (w g m v : EReal) : EReal :=
  Ideal.ofBits .f32 0xBA83126F#32
    * (Ideal.div (Ideal.div (adM g m) (Ideal.ofBits .f32 0x3F26BD02#32))
        (Ideal.sqrt (Ideal.div (adV g v) (Ideal.ofBits .f32 0x3C231ACC#32)) + Ideal.ofBits .f32 0x322BCC77#32)
      + Ideal.ofBits .f32 0x3C23D70A#32 * w)

end Cert.AdamMath

end
-- ==== Proof.AdamRegion0.lean ====
/- What one call leaves in its results, entry by entry. -/
module

public import Idealize.ShloMosaic.Lib.Pipeline.ReadBack
public import proofs.«01_k».proof.Proof.Gen.AdamIdeal.Frame
public import proofs.«01_k».proof.Proof.AdamMath

@[expose] public section

set_option maxRecDepth 16384

noncomputable section

namespace Cert.AdamIdeal.Value

open Idealize.ShloMosaic Idealize.ShloMosaic.TcCoe Idealize.SL.Sem
open Idealize.ShloMosaic.Pipeline (Dat)
open Cert.AdamIdeal Cert.AdamIdeal.Gen Cert.AdamMath

variable (V : (c : Dev nD) → (b : Ref sig .tc) → Buf (Elt Ideal) ((c : Thread nD τ).loc b)) (c : Dev nD)

theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem k0_d (W G M X : FVec Ideal S216x1024 .f32) (z : S216x1024.Idx) : (k0_pay1 (k0_pay8 G W M X) : FVec Ideal S216x1024 .f32) z = adD (W z) (G z) (M z) (X z) := by
  idx_vars z
  pointwise [k0_pay1, k0_pay2, k0_pay3, k0_pay4, k0_pay5, k0_pay6, k0_pay7, k0_pay8, adD, adM, adV]
theorem arr0_d : (dat0 V c).arrAt 5 cfg0.N = (fun i => adD ((V c main_v0 : FVec Ideal S648x1024 .f32) i) ((V c main_v1 : FVec Ideal S648x1024 .f32) i) ((V c main_v2 : FVec Ideal S648x1024 .f32) i) ((V c main_v3 : FVec Ideal S648x1024 .f32) i) : FVec Ideal S648x1024 .f32) := by
  refine (dat0 V c).arrAt_eq_of_covers 5 _ (by decide +kernel) fun t _ z => ?_
  blk_simp [idx0 t]
  rw [after0_5]
  frame_out
  refine (k0_d _ _ _ _ _).trans ?_
  blk_point [adD, adM, adV, iblk0, idx0 t]

theorem k0_m (G M : FVec Ideal S216x1024 .f32) (z : S216x1024.Idx) : (k0_pay2 (k0_pay6 G M) : FVec Ideal S216x1024 .f32) z = adM (G z) (M z) := by
  idx_vars z
  pointwise [k0_pay1, k0_pay2, k0_pay3, k0_pay4, k0_pay5, k0_pay6, k0_pay7, k0_pay8, adD, adM, adV]
theorem arr0_m : (dat0 V c).arrAt 6 cfg0.N = (fun i => adM ((V c main_v1 : FVec Ideal S648x1024 .f32) i) ((V c main_v2 : FVec Ideal S648x1024 .f32) i) : FVec Ideal S648x1024 .f32) := by
  refine (dat0 V c).arrAt_eq_of_covers 6 _ (by decide +kernel) fun t _ z => ?_
  blk_simp [idx0 t]
  rw [after0_6]
  frame_out
  refine (k0_m _ _ _).trans ?_
  blk_point [adD, adM, adV, iblk0, idx0 t]

theorem k0_v (G X : FVec Ideal S216x1024 .f32) (z : S216x1024.Idx) : (k0_pay3 (k0_pay7 G X) : FVec Ideal S216x1024 .f32) z = adV (G z) (X z) := by
  idx_vars z
  pointwise [k0_pay1, k0_pay2, k0_pay3, k0_pay4, k0_pay5, k0_pay6, k0_pay7, k0_pay8, adD, adM, adV]
theorem arr0_v : (dat0 V c).arrAt 7 cfg0.N = (fun i => adV ((V c main_v1 : FVec Ideal S648x1024 .f32) i) ((V c main_v3 : FVec Ideal S648x1024 .f32) i) : FVec Ideal S648x1024 .f32) := by
  refine (dat0 V c).arrAt_eq_of_covers 7 _ (by decide +kernel) fun t _ z => ?_
  blk_simp [idx0 t]
  rw [after0_7]
  frame_out
  refine (k0_v _ _ _).trans ?_
  blk_point [adD, adM, adV, iblk0, idx0 t]

end Cert.AdamIdeal.Value

end
-- ==== Proof.AdamRegion1.lean ====
/- What one call leaves in its results, entry by entry. -/
module

public import Idealize.ShloMosaic.Lib.Pipeline.ReadBack
public import proofs.«01_k».proof.Proof.Gen.AdamIdeal.Frame
public import proofs.«01_k».proof.Proof.AdamMath

@[expose] public section

set_option maxRecDepth 16384

noncomputable section

namespace Cert.AdamIdeal.Value

open Idealize.ShloMosaic Idealize.ShloMosaic.TcCoe Idealize.SL.Sem
open Idealize.ShloMosaic.Pipeline (Dat)
open Cert.AdamIdeal Cert.AdamIdeal.Gen Cert.AdamMath

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] ∧ win1_7.index t = ![t.val, 0] :=
  (by decide +kernel : ∀ t : Fin grid1.N, _)

theorem k1_d (W G M X : FVec Ideal S256x1024 .f32) (z : S256x1024.Idx) : (k1_pay6 G W M X : FVec Ideal S256x1024 .f32) z = adD (W z) (G z) (M z) (X z) := by
  idx_vars z
  pointwise [k1_pay1, k1_pay2, k1_pay3, k1_pay4, k1_pay5, k1_pay6, adD, adM, adV]
theorem arr1_d : (dat1 V c).arrAt 5 cfg1.N = (fun i => adD ((V c main_arg4 : FVec Ideal S256x1024 .f32) i) ((V c main_arg5 : FVec Ideal S256x1024 .f32) i) ((V c main_arg6 : FVec Ideal S256x1024 .f32) i) ((V c main_arg7 : FVec Ideal S256x1024 .f32) i) : FVec Ideal S256x1024 .f32) := by
  refine (dat1 V c).arrAt_eq_of_covers 5 _ (by decide +kernel) fun t _ z => ?_
  blk_simp [idx1 t]
  rw [after1_5]
  frame_out
  refine (k1_d _ _ _ _ _).trans ?_
  blk_point [adD, adM, adV, iblk1, idx1 t]

theorem k1_m (G M : FVec Ideal S256x1024 .f32) (z : S256x1024.Idx) : (k1_pay1 (k1_pay4 G M) : FVec Ideal S256x1024 .f32) z = adM (G z) (M z) := by
  idx_vars z
  pointwise [k1_pay1, k1_pay2, k1_pay3, k1_pay4, k1_pay5, k1_pay6, adD, adM, adV]
theorem arr1_m : (dat1 V c).arrAt 6 cfg1.N = (fun i => adM ((V c main_arg5 : FVec Ideal S256x1024 .f32) i) ((V c main_arg6 : FVec Ideal S256x1024 .f32) i) : FVec Ideal S256x1024 .f32) := by
  refine (dat1 V c).arrAt_eq_of_covers 6 _ (by decide +kernel) fun t _ z => ?_
  blk_simp [idx1 t]
  rw [after1_6]
  frame_out
  refine (k1_m _ _ _).trans ?_
  blk_point [adD, adM, adV, iblk1, idx1 t]

theorem k1_v (G X : FVec Ideal S256x1024 .f32) (z : S256x1024.Idx) : (k1_pay2 (k1_pay5 G X) : FVec Ideal S256x1024 .f32) z = adV (G z) (X z) := by
  idx_vars z
  pointwise [k1_pay1, k1_pay2, k1_pay3, k1_pay4, k1_pay5, k1_pay6, adD, adM, adV]
theorem arr1_v : (dat1 V c).arrAt 7 cfg1.N = (fun i => adV ((V c main_arg5 : FVec Ideal S256x1024 .f32) i) ((V c main_arg7 : FVec Ideal S256x1024 .f32) i) : FVec Ideal S256x1024 .f32) := by
  refine (dat1 V c).arrAt_eq_of_covers 7 _ (by decide +kernel) fun t _ z => ?_
  blk_simp [idx1 t]
  rw [after1_7]
  frame_out
  refine (k1_v _ _ _).trans ?_
  blk_point [adD, adM, adV, iblk1, idx1 t]

end Cert.AdamIdeal.Value

end
-- ==== Proof.AdamRegion2.lean ====
/- What one call leaves in its results, entry by entry. -/
module

public import Idealize.ShloMosaic.Lib.Pipeline.ReadBack
public import proofs.«01_k».proof.Proof.Gen.AdamIdeal.Frame
public import proofs.«01_k».proof.Proof.AdamMath

@[expose] public section

set_option maxRecDepth 16384

noncomputable section

namespace Cert.AdamIdeal.Value

open Idealize.ShloMosaic Idealize.ShloMosaic.TcCoe Idealize.SL.Sem
open Idealize.ShloMosaic.Pipeline (Dat)
open Cert.AdamIdeal Cert.AdamIdeal.Gen Cert.AdamMath

variable (V : (c : Dev nD) → (b : Ref sig .tc) → Buf (Elt Ideal) ((c : Thread nD τ).loc b)) (c : Dev nD)

theorem idx2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] ∧ win2_7.index t = ![t.val, 0] :=
  (by decide +kernel : ∀ t : Fin grid2.N, _)

theorem k2_d (W G M X : FVec Ideal S352x1024 .f32) (z : S352x1024.Idx) : (k2_pay1 (k2_pay8 G W M X) : FVec Ideal S352x1024 .f32) z = adD (W z) (G z) (M z) (X z) := by
  idx_vars z
  pointwise [k2_pay1, k2_pay2, k2_pay3, k2_pay4, k2_pay5, k2_pay6, k2_pay7, k2_pay8, adD, adM, adV]
theorem arr2_d : (dat2 V c).arrAt 5 cfg2.N = (fun i => adD ((V c main_v9 : FVec Ideal S704x1024 .f32) i) ((V c main_v10 : FVec Ideal S704x1024 .f32) i) ((V c main_v11 : FVec Ideal S704x1024 .f32) i) ((V c main_v12 : FVec Ideal S704x1024 .f32) i) : FVec Ideal S704x1024 .f32) := by
  refine (dat2 V c).arrAt_eq_of_covers 5 _ (by decide +kernel) fun t _ z => ?_
  blk_simp [idx2 t]
  rw [after2_5]
  frame_out
  refine (k2_d _ _ _ _ _).trans ?_
  blk_point [adD, adM, adV, iblk2, idx2 t]

theorem k2_m (G M : FVec Ideal S352x1024 .f32) (z : S352x1024.Idx) : (k2_pay2 (k2_pay6 G M) : FVec Ideal S352x1024 .f32) z = adM (G z) (M z) := by
  idx_vars z
  pointwise [k2_pay1, k2_pay2, k2_pay3, k2_pay4, k2_pay5, k2_pay6, k2_pay7, k2_pay8, adD, adM, adV]
theorem arr2_m : (dat2 V c).arrAt 6 cfg2.N = (fun i => adM ((V c main_v10 : FVec Ideal S704x1024 .f32) i) ((V c main_v11 : FVec Ideal S704x1024 .f32) i) : FVec Ideal S704x1024 .f32) := by
  refine (dat2 V c).arrAt_eq_of_covers 6 _ (by decide +kernel) fun t _ z => ?_
  blk_simp [idx2 t]
  rw [after2_6]
  frame_out
  refine (k2_m _ _ _).trans ?_
  blk_point [adD, adM, adV, iblk2, idx2 t]

theorem k2_v (G X : FVec Ideal S352x1024 .f32) (z : S352x1024.Idx) : (k2_pay3 (k2_pay7 G X) : FVec Ideal S352x1024 .f32) z = adV (G z) (X z) := by
  idx_vars z
  pointwise [k2_pay1, k2_pay2, k2_pay3, k2_pay4, k2_pay5, k2_pay6, k2_pay7, k2_pay8, adD, adM, adV]
theorem arr2_v : (dat2 V c).arrAt 7 cfg2.N = (fun i => adV ((V c main_v10 : FVec Ideal S704x1024 .f32) i) ((V c main_v12 : FVec Ideal S704x1024 .f32) i) : FVec Ideal S704x1024 .f32) := by
  refine (dat2 V c).arrAt_eq_of_covers 7 _ (by decide +kernel) fun t _ z => ?_
  blk_simp [idx2 t]
  rw [after2_7]
  frame_out
  refine (k2_v _ _ _).trans ?_
  blk_point [adD, adM, adV, iblk2, idx2 t]

end Cert.AdamIdeal.Value

end
-- ==== Proof.AdamRegion3.lean ====
/- What one call leaves in its results, entry by entry. -/
module

public import Idealize.ShloMosaic.Lib.Pipeline.ReadBack
public import proofs.«01_k».proof.Proof.Gen.AdamIdeal.Frame
public import proofs.«01_k».proof.Proof.AdamMath

@[expose] public section

set_option maxRecDepth 16384

noncomputable section

namespace Cert.AdamIdeal.Value

open Idealize.ShloMosaic Idealize.ShloMosaic.TcCoe Idealize.SL.Sem
open Idealize.ShloMosaic.Pipeline (Dat)
open Cert.AdamIdeal Cert.AdamIdeal.Gen Cert.AdamMath

variable (V : (c : Dev nD) → (b : Ref sig .tc) → Buf (Elt Ideal) ((c : Thread nD τ).loc b)) (c : Dev nD)

theorem idx3 : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] ∧ win3_7.index t = ![t.val, 0] :=
  (by decide +kernel : ∀ t : Fin grid3.N, _)

theorem k3_d (W G M X : FVec Ideal S352x1024 .f32) (z : S352x1024.Idx) : (k3_pay1 (k3_pay8 G W M X) : FVec Ideal S352x1024 .f32) z = adD (W z) (G z) (M z) (X z) := by
  idx_vars z
  pointwise [k3_pay1, k3_pay2, k3_pay3, k3_pay4, k3_pay5, k3_pay6, k3_pay7, k3_pay8, adD, adM, adV]
theorem arr3_d : (dat3 V c).arrAt 5 cfg3.N = (fun i => adD ((V c main_v17 : FVec Ideal S704x1024 .f32) i) ((V c main_v18 : FVec Ideal S704x1024 .f32) i) ((V c main_v19 : FVec Ideal S704x1024 .f32) i) ((V c main_v20 : FVec Ideal S704x1024 .f32) i) : FVec Ideal S704x1024 .f32) := by
  refine (dat3 V c).arrAt_eq_of_covers 5 _ (by decide +kernel) fun t _ z => ?_
  blk_simp [idx3 t]
  rw [after3_5]
  frame_out
  refine (k3_d _ _ _ _ _).trans ?_
  blk_point [adD, adM, adV, iblk3, idx3 t]

theorem k3_m (G M : FVec Ideal S352x1024 .f32) (z : S352x1024.Idx) : (k3_pay2 (k3_pay6 G M) : FVec Ideal S352x1024 .f32) z = adM (G z) (M z) := by
  idx_vars z
  pointwise [k3_pay1, k3_pay2, k3_pay3, k3_pay4, k3_pay5, k3_pay6, k3_pay7, k3_pay8, adD, adM, adV]
theorem arr3_m : (dat3 V c).arrAt 6 cfg3.N = (fun i => adM ((V c main_v18 : FVec Ideal S704x1024 .f32) i) ((V c main_v19 : FVec Ideal S704x1024 .f32) i) : FVec Ideal S704x1024 .f32) := by
  refine (dat3 V c).arrAt_eq_of_covers 6 _ (by decide +kernel) fun t _ z => ?_
  blk_simp [idx3 t]
  rw [after3_6]
  frame_out
  refine (k3_m _ _ _).trans ?_
  blk_point [adD, adM, adV, iblk3, idx3 t]

theorem k3_v (G X : FVec Ideal S352x1024 .f32) (z : S352x1024.Idx) : (k3_pay3 (k3_pay7 G X) : FVec Ideal S352x1024 .f32) z = adV (G z) (X z) := by
  idx_vars z
  pointwise [k3_pay1, k3_pay2, k3_pay3, k3_pay4, k3_pay5, k3_pay6, k3_pay7, k3_pay8, adD, adM, adV]
theorem arr3_v : (dat3 V c).arrAt 7 cfg3.N = (fun i => adV ((V c main_v18 : FVec Ideal S704x1024 .f32) i) ((V c main_v20 : FVec Ideal S704x1024 .f32) i) : FVec Ideal S704x1024 .f32) := by
  refine (dat3 V c).arrAt_eq_of_covers 7 _ (by decide +kernel) fun t _ z => ?_
  blk_simp [idx3 t]
  rw [after3_7]
  frame_out
  refine (k3_v _ _ _).trans ?_
  blk_point [adD, adM, adV, iblk3, idx3 t]

end Cert.AdamIdeal.Value

end
-- ==== Proof.AdamRegion4.lean ====
/- What one call leaves in its results, entry by entry. -/
module

public import Idealize.ShloMosaic.Lib.Pipeline.ReadBack
public import proofs.«01_k».proof.Proof.Gen.AdamIdeal.Frame
public import proofs.«01_k».proof.Proof.AdamMath

@[expose] public section

set_option maxRecDepth 16384

noncomputable section

namespace Cert.AdamIdeal.Value

open Idealize.ShloMosaic Idealize.ShloMosaic.TcCoe Idealize.SL.Sem
open Idealize.ShloMosaic.Pipeline (Dat)
open Cert.AdamIdeal Cert.AdamIdeal.Gen Cert.AdamMath

variable (V : (c : Dev nD) → (b : Ref sig .tc) → Buf (Elt Ideal) ((c : Thread nD τ).loc b)) (c : Dev nD)

theorem idx4 : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] :=
  (by decide +kernel : ∀ t : Fin grid4.N, _)

theorem k4_d (W G M X : FVec Ideal S352x1024 .f32) (z : S352x1024.Idx) : (k4_pay6 G W M X : FVec Ideal S352x1024 .f32) z = adD (W z) (G z) (M z) (X z) := by
  idx_vars z
  pointwise [k4_pay1, k4_pay2, k4_pay3, k4_pay4, k4_pay5, k4_pay6, adD, adM, adV]
theorem arr4_d : (dat4 V c).arrAt 5 cfg4.N = (fun i => adD ((V c main_arg16 : FVec Ideal S704x1024 .f32) i) ((V c main_arg17 : FVec Ideal S704x1024 .f32) i) ((V c main_arg18 : FVec Ideal S704x1024 .f32) i) ((V c main_arg19 : FVec Ideal S704x1024 .f32) i) : FVec Ideal S704x1024 .f32) := by
  refine (dat4 V c).arrAt_eq_of_covers 5 _ (by decide +kernel) fun t _ z => ?_
  blk_simp [idx4 t]
  rw [after4_5]
  frame_out
  refine (k4_d _ _ _ _ _).trans ?_
  blk_point [adD, adM, adV, iblk4, idx4 t]

theorem k4_m (G M : FVec Ideal S352x1024 .f32) (z : S352x1024.Idx) : (k4_pay1 (k4_pay4 G M) : FVec Ideal S352x1024 .f32) z = adM (G z) (M z) := by
  idx_vars z
  pointwise [k4_pay1, k4_pay2, k4_pay3, k4_pay4, k4_pay5, k4_pay6, adD, adM, adV]
theorem arr4_m : (dat4 V c).arrAt 6 cfg4.N = (fun i => adM ((V c main_arg17 : FVec Ideal S704x1024 .f32) i) ((V c main_arg18 : FVec Ideal S704x1024 .f32) i) : FVec Ideal S704x1024 .f32) := by
  refine (dat4 V c).arrAt_eq_of_covers 6 _ (by decide +kernel) fun t _ z => ?_
  blk_simp [idx4 t]
  rw [after4_6]
  frame_out
  refine (k4_m _ _ _).trans ?_
  blk_point [adD, adM, adV, iblk4, idx4 t]

theorem k4_v (G X : FVec Ideal S352x1024 .f32) (z : S352x1024.Idx) : (k4_pay2 (k4_pay5 G X) : FVec Ideal S352x1024 .f32) z = adV (G z) (X z) := by
  idx_vars z
  pointwise [k4_pay1, k4_pay2, k4_pay3, k4_pay4, k4_pay5, k4_pay6, adD, adM, adV]
theorem arr4_v : (dat4 V c).arrAt 7 cfg4.N = (fun i => adV ((V c main_arg17 : FVec Ideal S704x1024 .f32) i) ((V c main_arg19 : FVec Ideal S704x1024 .f32) i) : FVec Ideal S704x1024 .f32) := by
  refine (dat4 V c).arrAt_eq_of_covers 7 _ (by decide +kernel) fun t _ z => ?_
  blk_simp [idx4 t]
  rw [after4_7]
  frame_out
  refine (k4_v _ _ _).trans ?_
  blk_point [adD, adM, adV, iblk4, idx4 t]

end Cert.AdamIdeal.Value

end
-- ==== Proof.AdamValue.lean ====
/- What the optimiser's program leaves in its fifteen results. -/
module

public import proofs.«01_k».proof.Proof.AdamRegion0
public import proofs.«01_k».proof.Proof.AdamRegion1
public import proofs.«01_k».proof.Proof.AdamRegion2
public import proofs.«01_k».proof.Proof.AdamRegion3
public import proofs.«01_k».proof.Proof.AdamRegion4

@[expose] public section

set_option maxRecDepth 16384

noncomputable section

namespace Cert.AdamIdeal.Value

open Idealize.ShloMosaic Idealize.ShloMosaic.TcCoe Idealize.SL.Sem
open Cert.AdamIdeal Cert.AdamIdeal.Gen Cert.AdamMath

variable (m : (ℓ : Loc nD τ sig) → Buf (Elt Ideal) ℓ) (ρ : Dev nD → PrngReg) (c : Dev nD)

theorem in_0_0 (f : Fin 648) (j : Fin 1024) : (V1 m ρ c main_v0 : FVec Ideal S648x1024 .f32) (ix2 f j) = (m ((c : Thread nD τ).loc main_arg0) : FVec Ideal S1024x648 .f32) (ix2 j f) := by
  show (StableHlo.after hostOps0 (W0 m ρ c) (Proc.devRef .tc main_v0) : FVec Ideal S648x1024 .f32) (ix2 f j) = _
  simp only [hostOps0]
  after_results_simp
  pointwise
theorem in_0_1 (f : Fin 648) (j : Fin 1024) : (V1 m ρ c main_v1 : FVec Ideal S648x1024 .f32) (ix2 f j) = (m ((c : Thread nD τ).loc main_arg1) : FVec Ideal S1024x648 .f32) (ix2 j f) := by
  show (StableHlo.after hostOps0 (W0 m ρ c) (Proc.devRef .tc main_v1) : FVec Ideal S648x1024 .f32) (ix2 f j) = _
  simp only [hostOps0]
  after_results_simp
  pointwise
theorem in_0_2 (f : Fin 648) (j : Fin 1024) : (V1 m ρ c main_v2 : FVec Ideal S648x1024 .f32) (ix2 f j) = (m ((c : Thread nD τ).loc main_arg2) : FVec Ideal S1024x648 .f32) (ix2 j f) := by
  show (StableHlo.after hostOps0 (W0 m ρ c) (Proc.devRef .tc main_v2) : FVec Ideal S648x1024 .f32) (ix2 f j) = _
  simp only [hostOps0]
  after_results_simp
  pointwise
theorem in_0_3 (f : Fin 648) (j : Fin 1024) : (V1 m ρ c main_v3 : FVec Ideal S648x1024 .f32) (ix2 f j) = (m ((c : Thread nD τ).loc main_arg3) : FVec Ideal S1024x648 .f32) (ix2 j f) := by
  show (StableHlo.after hostOps0 (W0 m ρ c) (Proc.devRef .tc main_v3) : FVec Ideal S648x1024 .f32) (ix2 f j) = _
  simp only [hostOps0]
  after_results_simp
  pointwise
theorem in_1_0 : V3 m ρ c main_arg4 = m ((c : Thread nD τ).loc main_arg4) :=
  W3_args m ρ c main_arg4 (by decide)
theorem in_1_1 : V3 m ρ c main_arg5 = m ((c : Thread nD τ).loc main_arg5) :=
  W3_args m ρ c main_arg5 (by decide)
theorem in_1_2 : V3 m ρ c main_arg6 = m ((c : Thread nD τ).loc main_arg6) :=
  W3_args m ρ c main_arg6 (by decide)
theorem in_1_3 : V3 m ρ c main_arg7 = m ((c : Thread nD τ).loc main_arg7) :=
  W3_args m ρ c main_arg7 (by decide)
theorem in_2_0 (f : Fin 704) (j : Fin 1024) : (V5 m ρ c main_v9 : FVec Ideal S704x1024 .f32) (ix2 f j) = (m ((c : Thread nD τ).loc main_arg8) : FVec Ideal S1024x704 .f32) (ix2 j f) := by
  show (StableHlo.after hostOps2 (W4 m ρ c) (Proc.devRef .tc main_v9) : FVec Ideal S704x1024 .f32) (ix2 f j) = _
  simp only [hostOps2]
  after_results_simp
  rw [W4_args m ρ c main_arg8 (by decide)]
  pointwise
theorem in_2_1 (f : Fin 704) (j : Fin 1024) : (V5 m ρ c main_v10 : FVec Ideal S704x1024 .f32) (ix2 f j) = (m ((c : Thread nD τ).loc main_arg9) : FVec Ideal S1024x704 .f32) (ix2 j f) := by
  show (StableHlo.after hostOps2 (W4 m ρ c) (Proc.devRef .tc main_v10) : FVec Ideal S704x1024 .f32) (ix2 f j) = _
  simp only [hostOps2]
  after_results_simp
  rw [W4_args m ρ c main_arg9 (by decide)]
  pointwise
theorem in_2_2 (f : Fin 704) (j : Fin 1024) : (V5 m ρ c main_v11 : FVec Ideal S704x1024 .f32) (ix2 f j) = (m ((c : Thread nD τ).loc main_arg10) : FVec Ideal S1024x704 .f32) (ix2 j f) := by
  show (StableHlo.after hostOps2 (W4 m ρ c) (Proc.devRef .tc main_v11) : FVec Ideal S704x1024 .f32) (ix2 f j) = _
  simp only [hostOps2]
  after_results_simp
  rw [W4_args m ρ c main_arg10 (by decide)]
  pointwise
theorem in_2_3 (f : Fin 704) (j : Fin 1024) : (V5 m ρ c main_v12 : FVec Ideal S704x1024 .f32) (ix2 f j) = (m ((c : Thread nD τ).loc main_arg11) : FVec Ideal S1024x704 .f32) (ix2 j f) := by
  show (StableHlo.after hostOps2 (W4 m ρ c) (Proc.devRef .tc main_v12) : FVec Ideal S704x1024 .f32) (ix2 f j) = _
  simp only [hostOps2]
  after_results_simp
  rw [W4_args m ρ c main_arg11 (by decide)]
  pointwise
theorem in_3_0 (f : Fin 704) (j : Fin 1024) : (V7 m ρ c main_v17 : FVec Ideal S704x1024 .f32) (ix2 f j) = (m ((c : Thread nD τ).loc main_arg12) : FVec Ideal S1024x704 .f32) (ix2 j f) := by
  show (StableHlo.after hostOps3 (W6 m ρ c) (Proc.devRef .tc main_v17) : FVec Ideal S704x1024 .f32) (ix2 f j) = _
  simp only [hostOps3]
  after_results_simp
  rw [W6_args m ρ c main_arg12 (by decide)]
  pointwise
theorem in_3_1 (f : Fin 704) (j : Fin 1024) : (V7 m ρ c main_v18 : FVec Ideal S704x1024 .f32) (ix2 f j) = (m ((c : Thread nD τ).loc main_arg13) : FVec Ideal S1024x704 .f32) (ix2 j f) := by
  show (StableHlo.after hostOps3 (W6 m ρ c) (Proc.devRef .tc main_v18) : FVec Ideal S704x1024 .f32) (ix2 f j) = _
  simp only [hostOps3]
  after_results_simp
  rw [W6_args m ρ c main_arg13 (by decide)]
  pointwise
theorem in_3_2 (f : Fin 704) (j : Fin 1024) : (V7 m ρ c main_v19 : FVec Ideal S704x1024 .f32) (ix2 f j) = (m ((c : Thread nD τ).loc main_arg14) : FVec Ideal S1024x704 .f32) (ix2 j f) := by
  show (StableHlo.after hostOps3 (W6 m ρ c) (Proc.devRef .tc main_v19) : FVec Ideal S704x1024 .f32) (ix2 f j) = _
  simp only [hostOps3]
  after_results_simp
  rw [W6_args m ρ c main_arg14 (by decide)]
  pointwise
theorem in_3_3 (f : Fin 704) (j : Fin 1024) : (V7 m ρ c main_v20 : FVec Ideal S704x1024 .f32) (ix2 f j) = (m ((c : Thread nD τ).loc main_arg15) : FVec Ideal S1024x704 .f32) (ix2 j f) := by
  show (StableHlo.after hostOps3 (W6 m ρ c) (Proc.devRef .tc main_v20) : FVec Ideal S704x1024 .f32) (ix2 f j) = _
  simp only [hostOps3]
  after_results_simp
  rw [W6_args m ρ c main_arg15 (by decide)]
  pointwise
theorem in_4_0 : V9 m ρ c main_arg16 = m ((c : Thread nD τ).loc main_arg16) :=
  W9_args m ρ c main_arg16 (by decide)
theorem in_4_1 : V9 m ρ c main_arg17 = m ((c : Thread nD τ).loc main_arg17) :=
  W9_args m ρ c main_arg17 (by decide)
theorem in_4_2 : V9 m ρ c main_arg18 = m ((c : Thread nD τ).loc main_arg18) :=
  W9_args m ρ c main_arg18 (by decide)
theorem in_4_3 : V9 m ρ c main_arg19 = m ((c : Thread nD τ).loc main_arg19) :=
  W9_args m ρ c main_arg19 (by decide)
theorem out_0_d (j : Fin 1024) (f : Fin 648) : (W10 m ρ c (Proc.devRef .tc main_v5) : FVec Ideal S1024x648 .f32) (ix2 j f) = adD ((m ((c : Thread nD τ).loc main_arg0) : FVec Ideal S1024x648 .f32) (ix2 j f)) ((m ((c : Thread nD τ).loc main_arg1) : FVec Ideal S1024x648 .f32) (ix2 j f)) ((m ((c : Thread nD τ).loc main_arg2) : FVec Ideal S1024x648 .f32) (ix2 j f)) ((m ((c : Thread nD τ).loc main_arg3) : FVec Ideal S1024x648 .f32) (ix2 j f)) := by
  refine (congrFun ((W10_of m ρ c main_v5 (by decide +kernel)).trans ((W9_of m ρ c main_v5 (by decide)).trans ((W8_of m ρ c main_v5 (by decide +kernel)).trans ((W7_of m ρ c main_v5 (by decide)).trans ((W6_of m ρ c main_v5 (by decide +kernel)).trans ((W5_of m ρ c main_v5 (by decide)).trans (W4_of m ρ c main_v5 (by decide +kernel)))))))) (ix2 j f)).trans ?_
  show (StableHlo.after hostOps1 (W2 m ρ c) (Proc.devRef .tc main_v5) : FVec Ideal S1024x648 .f32) (ix2 j f) = _
  simp only [hostOps1]
  after_results_simp
  rw [show W2 m ρ c (Proc.devRef .tc main_v4_1) = _ from (W2_arr m ρ c 5).trans (arr0_d (V1 m ρ) c)]
  pointwise
  exact congr (congr (congr (congrArg adD (in_0_0 m ρ c f j)) (in_0_1 m ρ c f j)) (in_0_2 m ρ c f j)) (in_0_3 m ρ c f j)
theorem out_0_m (j : Fin 1024) (f : Fin 648) : (W10 m ρ c (Proc.devRef .tc main_v6) : FVec Ideal S1024x648 .f32) (ix2 j f) = adM ((m ((c : Thread nD τ).loc main_arg1) : FVec Ideal S1024x648 .f32) (ix2 j f)) ((m ((c : Thread nD τ).loc main_arg2) : FVec Ideal S1024x648 .f32) (ix2 j f)) := by
  refine (congrFun ((W10_of m ρ c main_v6 (by decide +kernel)).trans ((W9_of m ρ c main_v6 (by decide)).trans ((W8_of m ρ c main_v6 (by decide +kernel)).trans ((W7_of m ρ c main_v6 (by decide)).trans ((W6_of m ρ c main_v6 (by decide +kernel)).trans ((W5_of m ρ c main_v6 (by decide)).trans (W4_of m ρ c main_v6 (by decide +kernel)))))))) (ix2 j f)).trans ?_
  show (StableHlo.after hostOps1 (W2 m ρ c) (Proc.devRef .tc main_v6) : FVec Ideal S1024x648 .f32) (ix2 j f) = _
  simp only [hostOps1]
  after_results_simp
  rw [show W2 m ρ c (Proc.devRef .tc main_v4_2) = _ from (W2_arr m ρ c 6).trans (arr0_m (V1 m ρ) c)]
  pointwise
  exact congrArg₂ adM (in_0_1 m ρ c f j) (in_0_2 m ρ c f j)
theorem out_0_v (j : Fin 1024) (f : Fin 648) : (W10 m ρ c (Proc.devRef .tc main_v7) : FVec Ideal S1024x648 .f32) (ix2 j f) = adV ((m ((c : Thread nD τ).loc main_arg1) : FVec Ideal S1024x648 .f32) (ix2 j f)) ((m ((c : Thread nD τ).loc main_arg3) : FVec Ideal S1024x648 .f32) (ix2 j f)) := by
  refine (congrFun ((W10_of m ρ c main_v7 (by decide +kernel)).trans ((W9_of m ρ c main_v7 (by decide)).trans ((W8_of m ρ c main_v7 (by decide +kernel)).trans ((W7_of m ρ c main_v7 (by decide)).trans ((W6_of m ρ c main_v7 (by decide +kernel)).trans ((W5_of m ρ c main_v7 (by decide)).trans (W4_of m ρ c main_v7 (by decide +kernel)))))))) (ix2 j f)).trans ?_
  show (StableHlo.after hostOps1 (W2 m ρ c) (Proc.devRef .tc main_v7) : FVec Ideal S1024x648 .f32) (ix2 j f) = _
  simp only [hostOps1]
  after_results_simp
  rw [show W2 m ρ c (Proc.devRef .tc main_v4_3) = _ from (W2_arr m ρ c 7).trans (arr0_v (V1 m ρ) c)]
  pointwise
  exact congrArg₂ adV (in_0_1 m ρ c f j) (in_0_3 m ρ c f j)
theorem out_1_d : W10 m ρ c (Proc.devRef .tc main_v8_1) = (fun i => adD ((m ((c : Thread nD τ).loc main_arg4) : FVec Ideal S256x1024 .f32) i) ((m ((c : Thread nD τ).loc main_arg5) : FVec Ideal S256x1024 .f32) i) ((m ((c : Thread nD τ).loc main_arg6) : FVec Ideal S256x1024 .f32) i) ((m ((c : Thread nD τ).loc main_arg7) : FVec Ideal S256x1024 .f32) i) : FVec Ideal S256x1024 .f32) := by
  refine (((W10_of m ρ c main_v8_1 (by decide +kernel)).trans ((W9_of m ρ c main_v8_1 (by decide)).trans ((W8_of m ρ c main_v8_1 (by decide +kernel)).trans ((W7_of m ρ c main_v8_1 (by decide)).trans ((W6_of m ρ c main_v8_1 (by decide +kernel)).trans (W5_of m ρ c main_v8_1 (by decide))))))).trans ((W4_arr m ρ c 5).trans (arr1_d (V3 m ρ) c))).trans ?_
  simp only [in_1_0 m ρ c, in_1_1 m ρ c, in_1_2 m ρ c, in_1_3 m ρ c]
theorem out_1_m : W10 m ρ c (Proc.devRef .tc main_v8_2) = (fun i => adM ((m ((c : Thread nD τ).loc main_arg5) : FVec Ideal S256x1024 .f32) i) ((m ((c : Thread nD τ).loc main_arg6) : FVec Ideal S256x1024 .f32) i) : FVec Ideal S256x1024 .f32) := by
  refine (((W10_of m ρ c main_v8_2 (by decide +kernel)).trans ((W9_of m ρ c main_v8_2 (by decide)).trans ((W8_of m ρ c main_v8_2 (by decide +kernel)).trans ((W7_of m ρ c main_v8_2 (by decide)).trans ((W6_of m ρ c main_v8_2 (by decide +kernel)).trans (W5_of m ρ c main_v8_2 (by decide))))))).trans ((W4_arr m ρ c 6).trans (arr1_m (V3 m ρ) c))).trans ?_
  simp only [in_1_1 m ρ c, in_1_2 m ρ c]
theorem out_1_v : W10 m ρ c (Proc.devRef .tc main_v8_3) = (fun i => adV ((m ((c : Thread nD τ).loc main_arg5) : FVec Ideal S256x1024 .f32) i) ((m ((c : Thread nD τ).loc main_arg7) : FVec Ideal S256x1024 .f32) i) : FVec Ideal S256x1024 .f32) := by
  refine (((W10_of m ρ c main_v8_3 (by decide +kernel)).trans ((W9_of m ρ c main_v8_3 (by decide)).trans ((W8_of m ρ c main_v8_3 (by decide +kernel)).trans ((W7_of m ρ c main_v8_3 (by decide)).trans ((W6_of m ρ c main_v8_3 (by decide +kernel)).trans (W5_of m ρ c main_v8_3 (by decide))))))).trans ((W4_arr m ρ c 7).trans (arr1_v (V3 m ρ) c))).trans ?_
  simp only [in_1_1 m ρ c, in_1_3 m ρ c]
theorem out_2_d (j : Fin 1024) (f : Fin 704) : (W10 m ρ c (Proc.devRef .tc main_v14) : FVec Ideal S1024x704 .f32) (ix2 j f) = adD ((m ((c : Thread nD τ).loc main_arg8) : FVec Ideal S1024x704 .f32) (ix2 j f)) ((m ((c : Thread nD τ).loc main_arg9) : FVec Ideal S1024x704 .f32) (ix2 j f)) ((m ((c : Thread nD τ).loc main_arg10) : FVec Ideal S1024x704 .f32) (ix2 j f)) ((m ((c : Thread nD τ).loc main_arg11) : FVec Ideal S1024x704 .f32) (ix2 j f)) := by
  refine (congrFun ((W10_of m ρ c main_v14 (by decide +kernel)).trans ((W9_of m ρ c main_v14 (by decide)).trans (W8_of m ρ c main_v14 (by decide +kernel)))) (ix2 j f)).trans ?_
  show (StableHlo.after hostOps3 (W6 m ρ c) (Proc.devRef .tc main_v14) : FVec Ideal S1024x704 .f32) (ix2 j f) = _
  simp only [hostOps3]
  after_results_simp
  rw [show W6 m ρ c (Proc.devRef .tc main_v13_1) = _ from (W6_arr m ρ c 5).trans (arr2_d (V5 m ρ) c)]
  pointwise
  exact congr (congr (congr (congrArg adD (in_2_0 m ρ c f j)) (in_2_1 m ρ c f j)) (in_2_2 m ρ c f j)) (in_2_3 m ρ c f j)
theorem out_2_m (j : Fin 1024) (f : Fin 704) : (W10 m ρ c (Proc.devRef .tc main_v15) : FVec Ideal S1024x704 .f32) (ix2 j f) = adM ((m ((c : Thread nD τ).loc main_arg9) : FVec Ideal S1024x704 .f32) (ix2 j f)) ((m ((c : Thread nD τ).loc main_arg10) : FVec Ideal S1024x704 .f32) (ix2 j f)) := by
  refine (congrFun ((W10_of m ρ c main_v15 (by decide +kernel)).trans ((W9_of m ρ c main_v15 (by decide)).trans (W8_of m ρ c main_v15 (by decide +kernel)))) (ix2 j f)).trans ?_
  show (StableHlo.after hostOps3 (W6 m ρ c) (Proc.devRef .tc main_v15) : FVec Ideal S1024x704 .f32) (ix2 j f) = _
  simp only [hostOps3]
  after_results_simp
  rw [show W6 m ρ c (Proc.devRef .tc main_v13_2) = _ from (W6_arr m ρ c 6).trans (arr2_m (V5 m ρ) c)]
  pointwise
  exact congrArg₂ adM (in_2_1 m ρ c f j) (in_2_2 m ρ c f j)
theorem out_2_v (j : Fin 1024) (f : Fin 704) : (W10 m ρ c (Proc.devRef .tc main_v16) : FVec Ideal S1024x704 .f32) (ix2 j f) = adV ((m ((c : Thread nD τ).loc main_arg9) : FVec Ideal S1024x704 .f32) (ix2 j f)) ((m ((c : Thread nD τ).loc main_arg11) : FVec Ideal S1024x704 .f32) (ix2 j f)) := by
  refine (congrFun ((W10_of m ρ c main_v16 (by decide +kernel)).trans ((W9_of m ρ c main_v16 (by decide)).trans (W8_of m ρ c main_v16 (by decide +kernel)))) (ix2 j f)).trans ?_
  show (StableHlo.after hostOps3 (W6 m ρ c) (Proc.devRef .tc main_v16) : FVec Ideal S1024x704 .f32) (ix2 j f) = _
  simp only [hostOps3]
  after_results_simp
  rw [show W6 m ρ c (Proc.devRef .tc main_v13_3) = _ from (W6_arr m ρ c 7).trans (arr2_v (V5 m ρ) c)]
  pointwise
  exact congrArg₂ adV (in_2_1 m ρ c f j) (in_2_3 m ρ c f j)
theorem out_3_d (j : Fin 1024) (f : Fin 704) : (W10 m ρ c (Proc.devRef .tc main_v22) : FVec Ideal S1024x704 .f32) (ix2 j f) = adD ((m ((c : Thread nD τ).loc main_arg12) : FVec Ideal S1024x704 .f32) (ix2 j f)) ((m ((c : Thread nD τ).loc main_arg13) : FVec Ideal S1024x704 .f32) (ix2 j f)) ((m ((c : Thread nD τ).loc main_arg14) : FVec Ideal S1024x704 .f32) (ix2 j f)) ((m ((c : Thread nD τ).loc main_arg15) : FVec Ideal S1024x704 .f32) (ix2 j f)) := by
  refine (congrFun (W10_of m ρ c main_v22 (by decide +kernel)) (ix2 j f)).trans ?_
  show (StableHlo.after hostOps4 (W8 m ρ c) (Proc.devRef .tc main_v22) : FVec Ideal S1024x704 .f32) (ix2 j f) = _
  simp only [hostOps4]
  after_results_simp
  rw [show W8 m ρ c (Proc.devRef .tc main_v21_1) = _ from (W8_arr m ρ c 5).trans (arr3_d (V7 m ρ) c)]
  pointwise
  exact congr (congr (congr (congrArg adD (in_3_0 m ρ c f j)) (in_3_1 m ρ c f j)) (in_3_2 m ρ c f j)) (in_3_3 m ρ c f j)
theorem out_3_m (j : Fin 1024) (f : Fin 704) : (W10 m ρ c (Proc.devRef .tc main_v23) : FVec Ideal S1024x704 .f32) (ix2 j f) = adM ((m ((c : Thread nD τ).loc main_arg13) : FVec Ideal S1024x704 .f32) (ix2 j f)) ((m ((c : Thread nD τ).loc main_arg14) : FVec Ideal S1024x704 .f32) (ix2 j f)) := by
  refine (congrFun (W10_of m ρ c main_v23 (by decide +kernel)) (ix2 j f)).trans ?_
  show (StableHlo.after hostOps4 (W8 m ρ c) (Proc.devRef .tc main_v23) : FVec Ideal S1024x704 .f32) (ix2 j f) = _
  simp only [hostOps4]
  after_results_simp
  rw [show W8 m ρ c (Proc.devRef .tc main_v21_2) = _ from (W8_arr m ρ c 6).trans (arr3_m (V7 m ρ) c)]
  pointwise
  exact congrArg₂ adM (in_3_1 m ρ c f j) (in_3_2 m ρ c f j)
theorem out_3_v (j : Fin 1024) (f : Fin 704) : (W10 m ρ c (Proc.devRef .tc main_v24) : FVec Ideal S1024x704 .f32) (ix2 j f) = adV ((m ((c : Thread nD τ).loc main_arg13) : FVec Ideal S1024x704 .f32) (ix2 j f)) ((m ((c : Thread nD τ).loc main_arg15) : FVec Ideal S1024x704 .f32) (ix2 j f)) := by
  refine (congrFun (W10_of m ρ c main_v24 (by decide +kernel)) (ix2 j f)).trans ?_
  show (StableHlo.after hostOps4 (W8 m ρ c) (Proc.devRef .tc main_v24) : FVec Ideal S1024x704 .f32) (ix2 j f) = _
  simp only [hostOps4]
  after_results_simp
  rw [show W8 m ρ c (Proc.devRef .tc main_v21_3) = _ from (W8_arr m ρ c 7).trans (arr3_v (V7 m ρ) c)]
  pointwise
  exact congrArg₂ adV (in_3_1 m ρ c f j) (in_3_3 m ρ c f j)
theorem out_4_d : W10 m ρ c (Proc.devRef .tc main_v25_1) = (fun i => adD ((m ((c : Thread nD τ).loc main_arg16) : FVec Ideal S704x1024 .f32) i) ((m ((c : Thread nD τ).loc main_arg17) : FVec Ideal S704x1024 .f32) i) ((m ((c : Thread nD τ).loc main_arg18) : FVec Ideal S704x1024 .f32) i) ((m ((c : Thread nD τ).loc main_arg19) : FVec Ideal S704x1024 .f32) i) : FVec Ideal S704x1024 .f32) := by
  refine ((W10_arr m ρ c 5).trans (arr4_d (V9 m ρ) c)).trans ?_
  simp only [in_4_0 m ρ c, in_4_1 m ρ c, in_4_2 m ρ c, in_4_3 m ρ c]
theorem out_4_m : W10 m ρ c (Proc.devRef .tc main_v25_2) = (fun i => adM ((m ((c : Thread nD τ).loc main_arg17) : FVec Ideal S704x1024 .f32) i) ((m ((c : Thread nD τ).loc main_arg18) : FVec Ideal S704x1024 .f32) i) : FVec Ideal S704x1024 .f32) := by
  refine ((W10_arr m ρ c 6).trans (arr4_m (V9 m ρ) c)).trans ?_
  simp only [in_4_1 m ρ c, in_4_2 m ρ c]
theorem out_4_v : W10 m ρ c (Proc.devRef .tc main_v25_3) = (fun i => adV ((m ((c : Thread nD τ).loc main_arg17) : FVec Ideal S704x1024 .f32) i) ((m ((c : Thread nD τ).loc main_arg19) : FVec Ideal S704x1024 .f32) i) : FVec Ideal S704x1024 .f32) := by
  refine ((W10_arr m ρ c 7).trans (arr4_v (V9 m ρ) c)).trans ?_
  simp only [in_4_1 m ρ c, in_4_3 m ρ c]

end Cert.AdamIdeal.Value

end
-- ==== Proof.AdamRef.lean ====
/- The reference's fifteen results, entry by entry. -/
module

public import proofs.«01_k».proof.Proof.Gen.AdamRefIdeal.Run
public import proofs.«01_k».proof.Proof.AdamMath

@[expose] public section

set_option maxRecDepth 16384

noncomputable section

namespace Cert.AdamRefIdeal.Value

open Idealize.ShloMosaic Idealize.ShloMosaic.TcCoe Idealize.SL.Sem
open Cert.AdamRefIdeal Cert.AdamRefIdeal.Gen Cert.AdamMath

theorem r0_d (W G M X : FVec Ideal S1024x648 .f32) (z : S1024x648.Idx) :
    (mulf (broadcastInDim S1024x648 ![] bcast_S_S1024x648 (constant S_ .f32 0xBA83126F#32)) (addf (Host.divf (Host.divf (addf (mulf (broadcastInDim S1024x648 ![] bcast_S_S1024x648 (constant S_ .f32 0x3F666666#32)) M) (mulf (broadcastInDim S1024x648 ![] bcast_S_S1024x648 (constant S_ .f32 0x3DCCCCCD#32)) G)) (broadcastInDim S1024x648 ![] bcast_S_S1024x648 (constant S_ .f32 0x3F26BD02#32))) (addf (Host.sqrt (Host.divf (addf (mulf (broadcastInDim S1024x648 ![] bcast_S_S1024x648 (constant S_ .f32 0x3F7FBE77#32)) X) (mulf (broadcastInDim S1024x648 ![] bcast_S_S1024x648 (constant S_ .f32 0x3A83126F#32)) (mulf G G))) (broadcastInDim S1024x648 ![] bcast_S_S1024x648 (constant S_ .f32 0x3C231ACC#32)))) (broadcastInDim S1024x648 ![] bcast_S_S1024x648 (constant S_ .f32 0x322BCC77#32)))) (mulf (broadcastInDim S1024x648 ![] bcast_S_S1024x648 (constant S_ .f32 0x3C23D70A#32)) W)) : FVec Ideal S1024x648 .f32) z = adD (W z) (G z) (M z) (X z) := by
  idx_vars z
  pointwise [adD, adM, adV]
theorem r0_m (G M : FVec Ideal S1024x648 .f32) (z : S1024x648.Idx) :
    (addf (mulf (broadcastInDim S1024x648 ![] bcast_S_S1024x648 (constant S_ .f32 0x3F666666#32)) M) (mulf (broadcastInDim S1024x648 ![] bcast_S_S1024x648 (constant S_ .f32 0x3DCCCCCD#32)) G) : FVec Ideal S1024x648 .f32) z = adM (G z) (M z) := by
  idx_vars z
  pointwise [adD, adM, adV]
theorem r0_v (G X : FVec Ideal S1024x648 .f32) (z : S1024x648.Idx) :
    (addf (mulf (broadcastInDim S1024x648 ![] bcast_S_S1024x648 (constant S_ .f32 0x3F7FBE77#32)) X) (mulf (broadcastInDim S1024x648 ![] bcast_S_S1024x648 (constant S_ .f32 0x3A83126F#32)) (mulf G G)) : FVec Ideal S1024x648 .f32) z = adV (G z) (X z) := by
  idx_vars z
  pointwise [adD, adM, adV]
theorem r1_d (W G M X : FVec Ideal S256x1024 .f32) (z : S256x1024.Idx) :
    (mulf (broadcastInDim S256x1024 ![] bcast_S_S256x1024 (constant S_ .f32 0xBA83126F#32)) (addf (Host.divf (Host.divf (addf (mulf (broadcastInDim S256x1024 ![] bcast_S_S256x1024 (constant S_ .f32 0x3F666666#32)) M) (mulf (broadcastInDim S256x1024 ![] bcast_S_S256x1024 (constant S_ .f32 0x3DCCCCCD#32)) G)) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) X) (mulf (broadcastInDim S256x1024 ![] bcast_S_S256x1024 (constant S_ .f32 0x3A83126F#32)) (mulf G G))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) W)) : FVec Ideal S256x1024 .f32) z = adD (W z) (G z) (M z) (X z) := by
  idx_vars z
  pointwise [adD, adM, adV]
theorem r1_m (G M : FVec Ideal S256x1024 .f32) (z : S256x1024.Idx) :
    (addf (mulf (broadcastInDim S256x1024 ![] bcast_S_S256x1024 (constant S_ .f32 0x3F666666#32)) M) (mulf (broadcastInDim S256x1024 ![] bcast_S_S256x1024 (constant S_ .f32 0x3DCCCCCD#32)) G) : FVec Ideal S256x1024 .f32) z = adM (G z) (M z) := by
  idx_vars z
  pointwise [adD, adM, adV]
theorem r1_v (G X : FVec Ideal S256x1024 .f32) (z : S256x1024.Idx) :
    (addf (mulf (broadcastInDim S256x1024 ![] bcast_S_S256x1024 (constant S_ .f32 0x3F7FBE77#32)) X) (mulf (broadcastInDim S256x1024 ![] bcast_S_S256x1024 (constant S_ .f32 0x3A83126F#32)) (mulf G G)) : FVec Ideal S256x1024 .f32) z = adV (G z) (X z) := by
  idx_vars z
  pointwise [adD, adM, adV]
theorem r2_d (W G M X : FVec Ideal S1024x704 .f32) (z : S1024x704.Idx) :
    (mulf (broadcastInDim S1024x704 ![] bcast_S_S1024x704 (constant S_ .f32 0xBA83126F#32)) (addf (Host.divf (Host.divf (addf (mulf (broadcastInDim S1024x704 ![] bcast_S_S1024x704 (constant S_ .f32 0x3F666666#32)) M) (mulf (broadcastInDim S1024x704 ![] bcast_S_S1024x704 (constant S_ .f32 0x3DCCCCCD#32)) G)) (broadcastInDim S1024x704 ![] bcast_S_S1024x704 (constant S_ .f32 0x3F26BD02#32))) (addf (Host.sqrt (Host.divf (addf (mulf (broadcastInDim S1024x704 ![] bcast_S_S1024x704 (constant S_ .f32 0x3F7FBE77#32)) X) (mulf (broadcastInDim S1024x704 ![] bcast_S_S1024x704 (constant S_ .f32 0x3A83126F#32)) (mulf G G))) (broadcastInDim S1024x704 ![] bcast_S_S1024x704 (constant S_ .f32 0x3C231ACC#32)))) (broadcastInDim S1024x704 ![] bcast_S_S1024x704 (constant S_ .f32 0x322BCC77#32)))) (mulf (broadcastInDim S1024x704 ![] bcast_S_S1024x704 (constant S_ .f32 0x3C23D70A#32)) W)) : FVec Ideal S1024x704 .f32) z = adD (W z) (G z) (M z) (X z) := by
  idx_vars z
  pointwise [adD, adM, adV]
theorem r2_m (G M : FVec Ideal S1024x704 .f32) (z : S1024x704.Idx) :
    (addf (mulf (broadcastInDim S1024x704 ![] bcast_S_S1024x704 (constant S_ .f32 0x3F666666#32)) M) (mulf (broadcastInDim S1024x704 ![] bcast_S_S1024x704 (constant S_ .f32 0x3DCCCCCD#32)) G) : FVec Ideal S1024x704 .f32) z = adM (G z) (M z) := by
  idx_vars z
  pointwise [adD, adM, adV]
theorem r2_v (G X : FVec Ideal S1024x704 .f32) (z : S1024x704.Idx) :
    (addf (mulf (broadcastInDim S1024x704 ![] bcast_S_S1024x704 (constant S_ .f32 0x3F7FBE77#32)) X) (mulf (broadcastInDim S1024x704 ![] bcast_S_S1024x704 (constant S_ .f32 0x3A83126F#32)) (mulf G G)) : FVec Ideal S1024x704 .f32) z = adV (G z) (X z) := by
  idx_vars z
  pointwise [adD, adM, adV]
theorem r3_d (W G M X : FVec Ideal S1024x704 .f32) (z : S1024x704.Idx) :
    (mulf (broadcastInDim S1024x704 ![] bcast_S_S1024x704 (constant S_ .f32 0xBA83126F#32)) (addf (Host.divf (Host.divf (addf (mulf (broadcastInDim S1024x704 ![] bcast_S_S1024x704 (constant S_ .f32 0x3F666666#32)) M) (mulf (broadcastInDim S1024x704 ![] bcast_S_S1024x704 (constant S_ .f32 0x3DCCCCCD#32)) G)) (broadcastInDim S1024x704 ![] bcast_S_S1024x704 (constant S_ .f32 0x3F26BD02#32))) (addf (Host.sqrt (Host.divf (addf (mulf (broadcastInDim S1024x704 ![] bcast_S_S1024x704 (constant S_ .f32 0x3F7FBE77#32)) X) (mulf (broadcastInDim S1024x704 ![] bcast_S_S1024x704 (constant S_ .f32 0x3A83126F#32)) (mulf G G))) (broadcastInDim S1024x704 ![] bcast_S_S1024x704 (constant S_ .f32 0x3C231ACC#32)))) (broadcastInDim S1024x704 ![] bcast_S_S1024x704 (constant S_ .f32 0x322BCC77#32)))) (mulf (broadcastInDim S1024x704 ![] bcast_S_S1024x704 (constant S_ .f32 0x3C23D70A#32)) W)) : FVec Ideal S1024x704 .f32) z = adD (W z) (G z) (M z) (X z) := by
  idx_vars z
  pointwise [adD, adM, adV]
theorem r3_m (G M : FVec Ideal S1024x704 .f32) (z : S1024x704.Idx) :
    (addf (mulf (broadcastInDim S1024x704 ![] bcast_S_S1024x704 (constant S_ .f32 0x3F666666#32)) M) (mulf (broadcastInDim S1024x704 ![] bcast_S_S1024x704 (constant S_ .f32 0x3DCCCCCD#32)) G) : FVec Ideal S1024x704 .f32) z = adM (G z) (M z) := by
  idx_vars z
  pointwise [adD, adM, adV]
theorem r3_v (G X : FVec Ideal S1024x704 .f32) (z : S1024x704.Idx) :
    (addf (mulf (broadcastInDim S1024x704 ![] bcast_S_S1024x704 (constant S_ .f32 0x3F7FBE77#32)) X) (mulf (broadcastInDim S1024x704 ![] bcast_S_S1024x704 (constant S_ .f32 0x3A83126F#32)) (mulf G G)) : FVec Ideal S1024x704 .f32) z = adV (G z) (X z) := by
  idx_vars z
  pointwise [adD, adM, adV]
theorem r4_d (W G M X : FVec Ideal S704x1024 .f32) (z : S704x1024.Idx) :
    (mulf (broadcastInDim S704x1024 ![] bcast_S_S704x1024 (constant S_ .f32 0xBA83126F#32)) (addf (Host.divf (Host.divf (addf (mulf (broadcastInDim S704x1024 ![] bcast_S_S704x1024 (constant S_ .f32 0x3F666666#32)) M) (mulf (broadcastInDim S704x1024 ![] bcast_S_S704x1024 (constant S_ .f32 0x3DCCCCCD#32)) G)) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) X) (mulf (broadcastInDim S704x1024 ![] bcast_S_S704x1024 (constant S_ .f32 0x3A83126F#32)) (mulf G G))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) W)) : FVec Ideal S704x1024 .f32) z = adD (W z) (G z) (M z) (X z) := by
  idx_vars z
  pointwise [adD, adM, adV]
theorem r4_m (G M : FVec Ideal S704x1024 .f32) (z : S704x1024.Idx) :
    (addf (mulf (broadcastInDim S704x1024 ![] bcast_S_S704x1024 (constant S_ .f32 0x3F666666#32)) M) (mulf (broadcastInDim S704x1024 ![] bcast_S_S704x1024 (constant S_ .f32 0x3DCCCCCD#32)) G) : FVec Ideal S704x1024 .f32) z = adM (G z) (M z) := by
  idx_vars z
  pointwise [adD, adM, adV]
theorem r4_v (G X : FVec Ideal S704x1024 .f32) (z : S704x1024.Idx) :
    (addf (mulf (broadcastInDim S704x1024 ![] bcast_S_S704x1024 (constant S_ .f32 0x3F7FBE77#32)) X) (mulf (broadcastInDim S704x1024 ![] bcast_S_S704x1024 (constant S_ .f32 0x3A83126F#32)) (mulf G G)) : FVec Ideal S704x1024 .f32) z = adV (G z) (X z) := by
  idx_vars z
  pointwise [adD, adM, adV]

end Cert.AdamRefIdeal.Value

end
-- ==== Proof.AdamClaim.lean ====
/- The optimiser's program and its reference: the results are the same. -/
module

public import proofs.«01_k».proof.Defs
public import proofs.«01_k».proof.Proof.AdamRun
public import proofs.«01_k».proof.Proof.AdamValue
public import proofs.«01_k».proof.Proof.AdamRef

@[expose] public section

set_option maxRecDepth 16384

noncomputable section

namespace Cert.AdamClaim

open Idealize.ShloMosaic Idealize.ShloMosaic.TcCoe Idealize.SL.Sem
open Cert.AdamMath

/-- On every argument the kernel's fifteen results are the reference's. -/
theorem algebraic : algebraic_AdamIdeal_AdamRefIdeal := by
  intro m g m' g' _ hs
  refine ⟨fun c => AdamIdeal.Gen.W10 m g c (Proc.devRef .tc AdamIdeal.main_v5),
    fun c => AdamIdeal.Gen.W10 m g c (Proc.devRef .tc AdamIdeal.main_v6),
    fun c => AdamIdeal.Gen.W10 m g c (Proc.devRef .tc AdamIdeal.main_v7),
    fun c => AdamIdeal.Gen.W10 m g c (Proc.devRef .tc AdamIdeal.main_v8_1),
    fun c => AdamIdeal.Gen.W10 m g c (Proc.devRef .tc AdamIdeal.main_v8_2),
    fun c => AdamIdeal.Gen.W10 m g c (Proc.devRef .tc AdamIdeal.main_v8_3),
    fun c => AdamIdeal.Gen.W10 m g c (Proc.devRef .tc AdamIdeal.main_v14),
    fun c => AdamIdeal.Gen.W10 m g c (Proc.devRef .tc AdamIdeal.main_v15),
    fun c => AdamIdeal.Gen.W10 m g c (Proc.devRef .tc AdamIdeal.main_v16),
    fun c => AdamIdeal.Gen.W10 m g c (Proc.devRef .tc AdamIdeal.main_v22),
    fun c => AdamIdeal.Gen.W10 m g c (Proc.devRef .tc AdamIdeal.main_v23),
    fun c => AdamIdeal.Gen.W10 m g c (Proc.devRef .tc AdamIdeal.main_v24),
    fun c => AdamIdeal.Gen.W10 m g c (Proc.devRef .tc AdamIdeal.main_v25_1),
    fun c => AdamIdeal.Gen.W10 m g c (Proc.devRef .tc AdamIdeal.main_v25_2),
    fun c => AdamIdeal.Gen.W10 m g c (Proc.devRef .tc AdamIdeal.main_v25_3), ?_, ?_⟩
  · refine (θ_run _ _ _).mono (fun r h c => ?_) (AdamIdeal.Value.run (F := Ideal) m g)
    exact ⟨h c _ (AdamIdeal.Gen.mem_uc AdamIdeal.main_v5 (by decide)),
      h c _ (AdamIdeal.Gen.mem_uc AdamIdeal.main_v6 (by decide)),
      h c _ (AdamIdeal.Gen.mem_uc AdamIdeal.main_v7 (by decide)),
      h c _ (AdamIdeal.Gen.mem_uc AdamIdeal.main_v8_1 (by decide)),
      h c _ (AdamIdeal.Gen.mem_uc AdamIdeal.main_v8_2 (by decide)),
      h c _ (AdamIdeal.Gen.mem_uc AdamIdeal.main_v8_3 (by decide)),
      h c _ (AdamIdeal.Gen.mem_uc AdamIdeal.main_v14 (by decide)),
      h c _ (AdamIdeal.Gen.mem_uc AdamIdeal.main_v15 (by decide)),
      h c _ (AdamIdeal.Gen.mem_uc AdamIdeal.main_v16 (by decide)),
      h c _ (AdamIdeal.Gen.mem_uc AdamIdeal.main_v22 (by decide)),
      h c _ (AdamIdeal.Gen.mem_uc AdamIdeal.main_v23 (by decide)),
      h c _ (AdamIdeal.Gen.mem_uc AdamIdeal.main_v24 (by decide)),
      h c _ (AdamIdeal.Gen.mem_uc AdamIdeal.main_v25_1 (by decide)),
      h c _ (AdamIdeal.Gen.mem_uc AdamIdeal.main_v25_2 (by decide)),
      h c _ (AdamIdeal.Gen.mem_uc AdamIdeal.main_v25_3 (by decide)),
      (h c _ (AdamIdeal.Gen.mem_uc AdamIdeal.main_arg0 (by decide))).trans (AdamIdeal.Gen.W10_main_arg0 m g c),
      (h c _ (AdamIdeal.Gen.mem_uc AdamIdeal.main_arg1 (by decide))).trans (AdamIdeal.Gen.W10_main_arg1 m g c),
      (h c _ (AdamIdeal.Gen.mem_uc AdamIdeal.main_arg2 (by decide))).trans (AdamIdeal.Gen.W10_main_arg2 m g c),
      (h c _ (AdamIdeal.Gen.mem_uc AdamIdeal.main_arg3 (by decide))).trans (AdamIdeal.Gen.W10_main_arg3 m g c),
      (h c _ (AdamIdeal.Gen.mem_uc AdamIdeal.main_arg4 (by decide))).trans (AdamIdeal.Gen.W10_main_arg4 m g c),
      (h c _ (AdamIdeal.Gen.mem_uc AdamIdeal.main_arg5 (by decide))).trans (AdamIdeal.Gen.W10_main_arg5 m g c),
      (h c _ (AdamIdeal.Gen.mem_uc AdamIdeal.main_arg6 (by decide))).trans (AdamIdeal.Gen.W10_main_arg6 m g c),
      (h c _ (AdamIdeal.Gen.mem_uc AdamIdeal.main_arg7 (by decide))).trans (AdamIdeal.Gen.W10_main_arg7 m g c),
      (h c _ (AdamIdeal.Gen.mem_uc AdamIdeal.main_arg8 (by decide))).trans (AdamIdeal.Gen.W10_main_arg8 m g c),
      (h c _ (AdamIdeal.Gen.mem_uc AdamIdeal.main_arg9 (by decide))).trans (AdamIdeal.Gen.W10_main_arg9 m g c),
      (h c _ (AdamIdeal.Gen.mem_uc AdamIdeal.main_arg10 (by decide))).trans (AdamIdeal.Gen.W10_main_arg10 m g c),
      (h c _ (AdamIdeal.Gen.mem_uc AdamIdeal.main_arg11 (by decide))).trans (AdamIdeal.Gen.W10_main_arg11 m g c),
      (h c _ (AdamIdeal.Gen.mem_uc AdamIdeal.main_arg12 (by decide))).trans (AdamIdeal.Gen.W10_main_arg12 m g c),
      (h c _ (AdamIdeal.Gen.mem_uc AdamIdeal.main_arg13 (by decide))).trans (AdamIdeal.Gen.W10_main_arg13 m g c),
      (h c _ (AdamIdeal.Gen.mem_uc AdamIdeal.main_arg14 (by decide))).trans (AdamIdeal.Gen.W10_main_arg14 m g c),
      (h c _ (AdamIdeal.Gen.mem_uc AdamIdeal.main_arg15 (by decide))).trans (AdamIdeal.Gen.W10_main_arg15 m g c),
      (h c _ (AdamIdeal.Gen.mem_uc AdamIdeal.main_arg16 (by decide))).trans (AdamIdeal.Gen.W10_main_arg16 m g c),
      (h c _ (AdamIdeal.Gen.mem_uc AdamIdeal.main_arg17 (by decide))).trans (AdamIdeal.Gen.W10_main_arg17 m g c),
      (h c _ (AdamIdeal.Gen.mem_uc AdamIdeal.main_arg18 (by decide))).trans (AdamIdeal.Gen.W10_main_arg18 m g c),
      (h c _ (AdamIdeal.Gen.mem_uc AdamIdeal.main_arg19 (by decide))).trans (AdamIdeal.Gen.W10_main_arg19 m g c)⟩
  · refine (θ_run _ _ _).mono (fun r h c => ?_) (AdamRefIdeal.Value.run (F := Ideal) m' g')
    obtain ⟨r0, r1, r2, r3, r4, r5, r6, r7, r8, r9, r10, r11, r12, r13, r14, ra⟩ := h c
    obtain ⟨s0, s1, s2, s3, s4, s5, s6, s7, s8, s9, s10, s11, s12, s13, s14, s15, s16, s17, s18, s19⟩ := hs c
    refine ⟨r0.trans (funext fun z => ?_),
      r1.trans (funext fun z => ?_),
      r2.trans (funext fun z => ?_),
      r3.trans (funext fun z => ?_),
      r4.trans (funext fun z => ?_),
      r5.trans (funext fun z => ?_),
      r6.trans (funext fun z => ?_),
      r7.trans (funext fun z => ?_),
      r8.trans (funext fun z => ?_),
      r9.trans (funext fun z => ?_),
      r10.trans (funext fun z => ?_),
      r11.trans (funext fun z => ?_),
      r12.trans (funext fun z => ?_),
      r13.trans (funext fun z => ?_),
      r14.trans (funext fun z => ?_), ra⟩
    · idx_vars z
      refine (AdamRefIdeal.Value.r0_d _ _ _ _ (ix2 z0 z1)).trans (Eq.trans ?_ (AdamIdeal.Value.out_0_d m g c z0 z1).symm)
      exact congr (congr (congr (congrArg adD (congrFun s0 (ix2 z0 z1))) (congrFun s1 (ix2 z0 z1))) (congrFun s2 (ix2 z0 z1))) (congrFun s3 (ix2 z0 z1))
    · idx_vars z
      refine (AdamRefIdeal.Value.r0_m _ _ (ix2 z0 z1)).trans (Eq.trans ?_ (AdamIdeal.Value.out_0_m m g c z0 z1).symm)
      exact congrArg₂ adM (congrFun s1 (ix2 z0 z1)) (congrFun s2 (ix2 z0 z1))
    · idx_vars z
      refine (AdamRefIdeal.Value.r0_v _ _ (ix2 z0 z1)).trans (Eq.trans ?_ (AdamIdeal.Value.out_0_v m g c z0 z1).symm)
      exact congrArg₂ adV (congrFun s1 (ix2 z0 z1)) (congrFun s3 (ix2 z0 z1))
    · refine (AdamRefIdeal.Value.r1_d _ _ _ _ z).trans (Eq.trans ?_ (congrFun (AdamIdeal.Value.out_1_d m g c) z).symm)
      exact congr (congr (congr (congrArg adD (congrFun s4 z)) (congrFun s5 z)) (congrFun s6 z)) (congrFun s7 z)
    · refine (AdamRefIdeal.Value.r1_m _ _ z).trans (Eq.trans ?_ (congrFun (AdamIdeal.Value.out_1_m m g c) z).symm)
      exact congrArg₂ adM (congrFun s5 z) (congrFun s6 z)
    · refine (AdamRefIdeal.Value.r1_v _ _ z).trans (Eq.trans ?_ (congrFun (AdamIdeal.Value.out_1_v m g c) z).symm)
      exact congrArg₂ adV (congrFun s5 z) (congrFun s7 z)
    · idx_vars z
      refine (AdamRefIdeal.Value.r2_d _ _ _ _ (ix2 z0 z1)).trans (Eq.trans ?_ (AdamIdeal.Value.out_2_d m g c z0 z1).symm)
      exact congr (congr (congr (congrArg adD (congrFun s8 (ix2 z0 z1))) (congrFun s9 (ix2 z0 z1))) (congrFun s10 (ix2 z0 z1))) (congrFun s11 (ix2 z0 z1))
    · idx_vars z
      refine (AdamRefIdeal.Value.r2_m _ _ (ix2 z0 z1)).trans (Eq.trans ?_ (AdamIdeal.Value.out_2_m m g c z0 z1).symm)
      exact congrArg₂ adM (congrFun s9 (ix2 z0 z1)) (congrFun s10 (ix2 z0 z1))
    · idx_vars z
      refine (AdamRefIdeal.Value.r2_v _ _ (ix2 z0 z1)).trans (Eq.trans ?_ (AdamIdeal.Value.out_2_v m g c z0 z1).symm)
      exact congrArg₂ adV (congrFun s9 (ix2 z0 z1)) (congrFun s11 (ix2 z0 z1))
    · idx_vars z
      refine (AdamRefIdeal.Value.r3_d _ _ _ _ (ix2 z0 z1)).trans (Eq.trans ?_ (AdamIdeal.Value.out_3_d m g c z0 z1).symm)
      exact congr (congr (congr (congrArg adD (congrFun s12 (ix2 z0 z1))) (congrFun s13 (ix2 z0 z1))) (congrFun s14 (ix2 z0 z1))) (congrFun s15 (ix2 z0 z1))
    · idx_vars z
      refine (AdamRefIdeal.Value.r3_m _ _ (ix2 z0 z1)).trans (Eq.trans ?_ (AdamIdeal.Value.out_3_m m g c z0 z1).symm)
      exact congrArg₂ adM (congrFun s13 (ix2 z0 z1)) (congrFun s14 (ix2 z0 z1))
    · idx_vars z
      refine (AdamRefIdeal.Value.r3_v _ _ (ix2 z0 z1)).trans (Eq.trans ?_ (AdamIdeal.Value.out_3_v m g c z0 z1).symm)
      exact congrArg₂ adV (congrFun s13 (ix2 z0 z1)) (congrFun s15 (ix2 z0 z1))
    · refine (AdamRefIdeal.Value.r4_d _ _ _ _ z).trans (Eq.trans ?_ (congrFun (AdamIdeal.Value.out_4_d m g c) z).symm)
      exact congr (congr (congr (congrArg adD (congrFun s16 z)) (congrFun s17 z)) (congrFun s18 z)) (congrFun s19 z)
    · refine (AdamRefIdeal.Value.r4_m _ _ z).trans (Eq.trans ?_ (congrFun (AdamIdeal.Value.out_4_m m g c) z).symm)
      exact congrArg₂ adM (congrFun s17 z) (congrFun s18 z)
    · refine (AdamRefIdeal.Value.r4_v _ _ z).trans (Eq.trans ?_ (congrFun (AdamIdeal.Value.out_4_v m g c) z).symm)
      exact congrArg₂ adV (congrFun s17 z) (congrFun s19 z)

/-- The reference program runs, keeps its arguments and has no semaphore. -/
theorem quiescent_reference : quiescent_AdamRefIdeal := by
  intro m g _
  refine (θ_run _ _ _).mono (fun r h => ⟨fun c => ?_, sem_eq_zero_of_no_sems (by decide) _⟩) (AdamRefIdeal.Value.run (F := Ideal) m g)
  exact (h c).2.2.2.2.2.2.2.2.2.2.2.2.2.2.2

end Cert.AdamClaim

end
-- ==== Proof.MixerHost.lean ====
/- What the host operations hand to the mixers' backward kernel, and its weight gradient at one point. -/
module

public import Idealize.ShloMosaic.Lib.Pipeline.ValueKit
public import Idealize.ShloMosaic.Lib.Pipeline.ReadBack
public import proofs.«01_k».proof.Proof.Gen.MixerIdeal.Frame.Runs

@[expose] public section

set_option maxRecDepth 16384

noncomputable section

namespace Cert.MixerIdeal.Dw

open Idealize.ShloMosaic Idealize.ShloMosaic.TcCoe Idealize.SL.Sem
open Idealize.ShloMosaic.Pipeline (Dat)
open Cert.MixerIdeal Cert.MixerIdeal.Gen

variable (m : (ℓ : Loc nD τ sig) → Buf (Elt Ideal) ℓ) (c : Dev nD)

/-- The gradient that reaches the residual stream after the mixers. -/
def aD (r : Fin 8192) (j : Fin 1024) : EReal := (m ((c : Thread nD τ).loc main_arg0) : FVec Ideal S1x8192x1024 .f32) (ix3 0 r j)
/-- The mixers' rows, which the output projection multiplies. -/
def aY (r : Fin 8192) (j : Fin 1024) : EReal := (m ((c : Thread nD τ).loc main_arg1) : FVec Ideal S1x8192x1024 .f32) (ix3 0 r j)

theorem in_d (i : Fin 8192) (j : Fin 1024) : (V m c main_v3 : FVec Ideal S8192x1024 .f32) (ix2 i j) = aD m c i j := by
  show (StableHlo.after hostOps0 (fun b => m (c, b)) main_v3 : FVec Ideal S8192x1024 .f32) (ix2 i j) = _
  simp only [hostOps0]
  after_results_simp
  pointwise [aD]

theorem in_y (i : Fin 8192) (j : Fin 1024) : (V m c main_v5 : FVec Ideal S8192x1024 .bf16) (ix2 i j) = aY m c i j := by
  show (StableHlo.after hostOps0 (fun b => m (c, b)) main_v5 : FVec Ideal S8192x1024 .bf16) (ix2 i j) = _
  simp only [hostOps0]
  after_results_simp
  pointwise [aY]

theorem idx : ∀ t : Fin cfg0.N, win0_0.index t = ![t.val, 0] ∧ win0_1.index t = ![t.val, 0] ∧ win0_19.index t = ![0, 0] :=
  (by decide +kernel : ∀ t : Fin grid0.N, _)

variable (t : Fin cfg0.N)

/-- The 512 rows of point `t`. -/
def rows (x : Fin 8192 → Fin 1024 → EReal) (t : ℕ) (ht : t < 16) : Fin 512 → Fin 1024 → EReal := fun i => x ⟨t * 512 + i, by omega⟩

theorem b0 (i : Fin 512) (j : Fin 1024) : (iblk m c 0 t : FVec Ideal S512x1024 .f32) (ix2 i j) = rows (aD m c) t.val t.isLt i j := by
  refine Eq.trans ?_ (in_d m c _ _); blk_point [iblk, idx t]
theorem b1 (i : Fin 512) (j : Fin 1024) : (iblk m c 1 t : FVec Ideal S512x1024 .bf16) (ix2 i j) = rows (aY m c) t.val t.isLt i j := by
  refine Eq.trans ?_ (in_y m c _ _); blk_point [iblk, idx t]

/-- What point `t` adds to the weights' gradient. -/
def part (i j : Fin 1024) : EReal := ∑ r, rows (aY m c) t.val t.isLt r i * rows (aD m c) t.val t.isLt r j

theorem zero_at (k : S1024x1024.Idx) : k0_pay3 (F := Ideal) k = 0 := by pointwise [k0_pay3]

/-- One point's store: what the array held, plus the point's part. -/
theorem store_at (A : FVec Ideal S1024x1024 .f32) (i j : Fin 1024) :
    k0_pay11 (F := Ideal) (iblk m c 0 t) A (iblk m c 1 t) (ix2 i j) = A (ix2 i j) + part m c t i j := by
  pointwise [k0_pay11, k0_pay9]
  refine congrArg (_ + ·) (Finset.sum_congr rfl fun r _ => congrArg₂ (· * ·) (b1 m c t r i) (b0 m c t r j))

/-- A sum over the rows, taken 512 rows at a time. -/
theorem sum_rows (f : Fin 8192 → EReal) : (∑ s : Fin 16, ∑ i : Fin 512, f ⟨s * 512 + i, by omega⟩) = ∑ r, f r :=
  Fin.sum_mul_add_congr fun s k hl => rfl

/-- The points' parts add up to the sum over all the rows. -/
theorem sum_part (k : ℕ) (hk : k = 0) (hb : ∀ s : Fin 16, 16 * k + s < 16) (i j : Fin 1024) :
    (∑ s : Fin 16, part m c (⟨16 * k + s, hb s⟩ : Fin cfg0.N) i j) = ∑ r, aY m c r i * aD m c r j := by
  subst hk
  rw [← sum_rows fun r => aY m c r i * aD m c r j]
  refine Finset.sum_congr rfl fun s _ => ?_
  exact (congrArg (fun t : Fin cfg0.N => part m c t i j) (Fin.ext (by show 16 * 0 + s.val = s.val; omega) : (⟨16 * 0 + s, hb s⟩ : Fin cfg0.N) = s)).trans rfl

end Cert.MixerIdeal.Dw

end
-- ==== Proof.MixerRegion.lean ====
/- The mixers' weight gradient after the kernel's run: the sum over all the rows. -/
module

public import Idealize.ShloMosaic.Lib.Pipeline.ValueKit
public import Idealize.ShloMosaic.Lib.Pipeline.ReadBack
public import proofs.«01_k».proof.Proof.Gen.MixerIdeal.Frame
public import proofs.«01_k».proof.Proof.MixerHost

@[expose] public section

set_option maxRecDepth 16384

noncomputable section

namespace Cert.MixerIdeal.Dw

open Idealize.ShloMosaic Idealize.ShloMosaic.TcCoe Idealize.SL.Sem
open Idealize.ShloMosaic.Pipeline (Dat)
open Cert.MixerIdeal Cert.MixerIdeal.Gen

variable (m : (ℓ : Loc nD τ sig) → Buf (Elt Ideal) ℓ) (c : Dev nD)

/-- The first point starts the weights' gradient at its own part. -/
theorem dw_first (t : Fin cfg0.N) (h : t.val % 16 = 0) :
    (outsAt0 m c t.val t.isLt).2.2.2.2.1 = k0_pay11 (iblk m c 0 t) (k0_pay3 (F := Ideal)) (iblk m c 1 t) := by
  rw [outsAt0_A m c t h (by omega)]
  dsimp only
  frame_out

/-- A later point adds its part to what the point before left. -/
theorem dw_next (t : Fin cfg0.N) (h : ¬t.val % 16 = 0) :
    (outsAt0 m c t.val t.isLt).2.2.2.2.1
      = k0_pay11 (iblk m c 0 t) (outsAt0 m c (t.val - 1) (Nat.lt_of_le_of_lt (Nat.sub_le _ _) t.isLt)).2.2.2.2.1 (iblk m c 1 t) := by
  by_cases h1 : t.val % 16 = 15
  · rw [outsAt0_C m c t h h1]
    dsimp only
    frame_out
  · rw [outsAt0_B m c t h h1]
    dsimp only
    frame_out

theorem arr_dw : (dats m 0 c).arrAt 19 cfg0.N = (fun k => ∑ r, aY m c r (k 0) * aD m c r (k 1) : FVec Ideal S1024x1024 .f32) := by
  refine (dats m 0 c).arrAt_eq_of_covers 19 _ (by decide +kernel) fun t hf z => ?_
  blk_simp
  rw [after0_19, Pipeline.eq_sum_fin_of_reset_step_apply_of_flush (fun n h => (outsAt0 m c n h).2.2.2.2.1) 16 (fun _ => 0)
    (fun t k => part m c t (k 0) (k 1))
    (fun t h k => by
      refine (congrFun (dw_first m c t h) k).trans ?_
      idx_vars k
      exact (store_at m c t _ _ _).trans (congrArg (· + _) (zero_at _)))
    (fun t h k => by
      refine (congrFun (dw_next m c t h) k).trans ?_
      idx_vars k
      exact store_at m c t _ _ _)
    t ((flush0_19 t).mp hf) _, zero_add]
  have ht : t.val < 16 := t.isLt
  show (_ : EReal) = _
  idx_vars z
  refine (sum_part m c _ (by omega) _ _ _).trans ?_
  have q0 : win0_19.index t 0 = 0 := by simp [idx t]
  have q1 : win0_19.index t 1 = 0 := by simp [idx t]
  exact Finset.sum_congr rfl fun r _ => congrArg₂ (fun i j => aY m c r i * aD m c r j) (Fin.ext (by blk_simp [idx t])) (Fin.ext (by blk_simp [idx t]))

end Cert.MixerIdeal.Dw

end
-- ==== Proof.MixerRef.lean ====
/- What the reference of the mixers' output projection computes, an entry at a time. -/
module

public import proofs.«01_k».proof.Proof.Gen.MixerRefIdeal.Run
public import Idealize.ShloMosaic.Lib.Pipeline.ValueKit

@[expose] public section

set_option maxRecDepth 16384

noncomputable section

namespace Cert.MixerRefIdeal.Dw

open Idealize.ShloMosaic Idealize.ShloMosaic.TcCoe Idealize.SL.Sem
open Cert.MixerRefIdeal Cert.MixerRefIdeal.Gen

variable (A0 A1 : FVec Ideal S1x8192x1024 .f32) (d y : Fin 8192 → Fin 1024 → EReal)
variable (h0 : ∀ i j, A0 (ix3 0 i j) = d i j) (h1 : ∀ i j, A1 (ix3 0 i j) = y i j)

include h0 h1 in
theorem dw_at (i j : Fin 1024) :
    transpose S1024x1024 [1, 0] (Host.dotGeneral (φ₁ := .f32) (φ₂ := .f32) dot_S1x8192x1024_S1x8192x1024_S1024x1024_01_01_2_2_n_n none A0 A1) transposes_S1024x1024_S1024x1024_1_0 (ix2 i j)
      = ∑ r, y r i * d r j := by
  pointwise [h0, h1]
  simp only [h0, h1, Fin.sum_univ_one]
  exact Finset.sum_congr rfl fun r _ => mul_comm _ _

end Cert.MixerRefIdeal.Dw

end
-- ==== Proof.MixerClaim.lean ====
/- The mixers' weight gradient: the kernel's is the reference's, and the reference runs to its end. -/
module

public import proofs.«01_k».proof.Defs
public import proofs.«01_k».proof.Proof.Gen.MixerIdeal.Value
public import proofs.«01_k».proof.Proof.MixerRegion
public import proofs.«01_k».proof.Proof.MixerRef

@[expose] public section

set_option maxRecDepth 16384

noncomputable section

namespace Cert.MixerClaim

open Idealize.ShloMosaic Idealize.ShloMosaic.TcCoe Idealize.SL.Sem
open Cert.MixerIdeal.Dw (aD aY)

/-- On every argument the kernel's weight gradient is the reference's. -/
theorem algebraic : algebraic_MixerIdeal_MixerRefIdeal := by
  intro m g m' g' _ hs
  refine ⟨fun c => (MixerIdeal.Gen.dats m 0 c).arrAt 19 MixerIdeal.cfg0.N, ?_, ?_⟩
  · refine (θ_run _ _ _).mono (fun r h c => ?_) (MixerIdeal.Value.run_blocks (F := Ideal) m g)
    obtain ⟨_, _, _, _, e, _, _, _, _, _, ra⟩ := h c
    exact ⟨e, ra⟩
  · refine (θ_run _ _ _).mono (fun r h c => ?_) (MixerRefIdeal.Value.run (F := Ideal) m' g')
    obtain ⟨r0, ra⟩ := h c
    obtain ⟨s0, s1, _⟩ := hs c
    have a0 : ∀ i j, (m' ((c : Thread MixerRefIdeal.nD MixerRefIdeal.τ).loc MixerRefIdeal.main_arg0) : FVec Ideal MixerRefIdeal.S1x8192x1024 .f32) (ix3 0 i j) = aD m c i j := fun i j => congrFun s0 (ix3 0 i j)
    have a1 : ∀ i j, (m' ((c : Thread MixerRefIdeal.nD MixerRefIdeal.τ).loc MixerRefIdeal.main_arg1) : FVec Ideal MixerRefIdeal.S1x8192x1024 .f32) (ix3 0 i j) = aY m c i j := fun i j => congrFun s1 (ix3 0 i j)
    refine ⟨r0.trans (Eq.trans (funext fun k => ?_) (MixerIdeal.Dw.arr_dw m c).symm), ra⟩
    idx_vars k
    exact MixerRefIdeal.Dw.dw_at _ _ _ _ a0 a1 _ _

/-- The reference program runs, keeps its arguments and has no semaphore. -/
theorem quiescent_reference : quiescent_MixerRefIdeal := by
  intro m g _
  refine (θ_run _ _ _).mono (fun r h => ⟨fun c => ?_, sem_eq_zero_of_no_sems (by decide) _⟩) (MixerRefIdeal.Value.run (F := Ideal) m g)
  exact (h c).2

end Cert.MixerClaim

end
-- ==== Proof.lean ====
/- The claims about the feed-forward part of the step, its input projection, its output projection and its optimiser. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal.Run
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal.Run
public import proofs.«01_k».proof.Proof.Gen.ProjRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal.Run
public import proofs.«01_k».proof.Proof.Gen.AdamRefIdeal
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerRefIdeal.Run
public import proofs.«01_k».proof.Proof.Gen.MixerRefIdeal
public import proofs.«01_k».proof.Proof.Gen.Pre_finite
public import proofs.«01_k».proof.Proof.FfnClaim
public import proofs.«01_k».proof.Proof.ProjClaim
public import proofs.«01_k».proof.Proof.AdamClaim
public import proofs.«01_k».proof.Proof.MixerClaim
public import Idealize.ShloMosaic.Adequacy
public import Idealize.ShloMosaic.Init

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts,
  Cert.Proj.Gen.facts, Cert.ProjIdeal.Gen.facts, Cert.ProjRefIdeal.Gen.facts,
  Cert.Adam.Gen.facts, Cert.AdamIdeal.Gen.facts, Cert.AdamRefIdeal.Gen.facts,
  Cert.Mixer.Gen.facts, Cert.MixerIdeal.Gen.facts, Cert.MixerRefIdeal.Gen.facts, Cert.Pre_finite.Gen.facts,
  fun m g _ => Cert.Ffn.Gen.frame m g,
  fun m g _ => Cert.FfnIdeal.Gen.frame m g,
  fun m g _ => Cert.FfnIdeal.Gen.frame m g,
  Cert.FfnClaim.quiescent_reference,
  fun m g _ => Cert.FfnClaim.quiescent_reference m g trivial,
  fun m g _ => Cert.Proj.Gen.frame m g,
  fun m g _ => Cert.ProjIdeal.Gen.frame m g,
  Cert.ProjClaim.quiescent_reference,
  fun m g _ => Cert.Adam.Gen.frame m g,
  fun m g _ => Cert.AdamIdeal.Gen.frame m g,
  Cert.AdamClaim.quiescent_reference,
  fun m g _ => Cert.Mixer.Gen.frame m g,
  fun m g _ => Cert.MixerIdeal.Gen.frame m g,
  Cert.MixerClaim.quiescent_reference,
  trivial,
  Cert.FfnClaim.algebraic,
  trivial,
  Cert.ProjClaim.algebraic,
  trivial,
  Cert.AdamClaim.algebraic,
  trivial,
  Cert.MixerClaim.algebraic⟩

end Cert.Proof

end
